-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_v186) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x4 : Shape := ⟨2, ![20000, 4]⟩
abbrev S4x20000x80 : Shape := ⟨3, ![4, 20000, 80]⟩
abbrev S4x20000x4 : Shape := ⟨3, ![4, 20000, 4]⟩
abbrev S4x20000 : Shape := ⟨2, ![4, 20000]⟩
abbrev S1x4x20000 : Shape := ⟨3, ![1, 4, 20000]⟩
abbrev S4x4x20000 : Shape := ⟨3, ![4, 4, 20000]⟩
abbrev S4x1x20000 : Shape := ⟨3, ![4, 1, 20000]⟩
abbrev S1x4x2048 : Shape := ⟨3, ![1, 4, 2048]⟩
abbrev S1x2048x80 : Shape := ⟨3, ![1, 2048, 80]⟩
abbrev S1x1x2048 : Shape := ⟨3, ![1, 1, 2048]⟩
abbrev S4x2048 : Shape := ⟨2, ![4, 2048]⟩
abbrev S1x2048 : Shape := ⟨2, ![1, 2048]⟩
abbrev S2048 : Shape := ⟨1, ![2048]⟩
abbrev S2048x80 : Shape := ⟨2, ![2048, 80]⟩
abbrev S2048x1 : Shape := ⟨2, ![2048, 1]⟩
abbrev S4x1000 : Shape := ⟨2, ![4, 1000]⟩
abbrev S4x1x1000 : Shape := ⟨3, ![4, 1, 1000]⟩
abbrev S_ : Shape := ⟨0, ![]⟩
abbrev S4x1000x1 : Shape := ⟨3, ![4, 1000, 1]⟩
abbrev S1 : Shape := ⟨1, ![1]⟩
abbrev S1x1x1 : Shape := ⟨3, ![1, 1, 1]⟩
abbrev S4x4x1000 : Shape := ⟨3, ![4, 4, 1000]⟩
abbrev S4x24 : Shape := ⟨2, ![4, 24]⟩
abbrev S4x1024 : Shape := ⟨2, ![4, 1024]⟩
abbrev S4x4x24 : Shape := ⟨3, ![4, 4, 24]⟩
abbrev S4x4x1024 : Shape := ⟨3, ![4, 4, 1024]⟩
abbrev S4x1x1024 : Shape := ⟨3, ![4, 1, 1024]⟩
abbrev S1x1024 : Shape := ⟨2, ![1, 1024]⟩
abbrev S1x4x1024 : Shape := ⟨3, ![1, 4, 1024]⟩
abbrev S5x4x1024 : Shape := ⟨3, ![5, 4, 1024]⟩
abbrev S1x1x1024 : Shape := ⟨3, ![1, 1, 1024]⟩
abbrev S5x4 : Shape := ⟨2, ![5, 4]⟩
abbrev S5x4x1 : Shape := ⟨3, ![5, 4, 1]⟩
abbrev S1x4x1 : Shape := ⟨3, ![1, 4, 1]⟩
abbrev S4x1 : Shape := ⟨2, ![4, 1]⟩
abbrev S4 : Shape := ⟨1, ![4]⟩
abbrev S4x100 : Shape := ⟨2, ![4, 100]⟩
abbrev S4x1x100 : Shape := ⟨3, ![4, 1, 100]⟩
abbrev S4x100x1 : Shape := ⟨3, ![4, 100, 1]⟩
abbrev S4x4x100 : Shape := ⟨3, ![4, 4, 100]⟩
abbrev S4x100x4 : Shape := ⟨3, ![4, 100, 4]⟩

abbrev nBuf : Space → Nat
  | .hbm => 136
  | .vmem => 15
  | .smem => 0
  | _ => 0

abbrev hbmTy0_0 (i : Nat) : BufTy := match i % 128 with
  | 0 => ⟨S20000x4, .f32⟩
  | 1 => ⟨S4x20000x80, .f32⟩
  | 2 => ⟨S4x20000x4, .f32⟩
  | 3 => ⟨S4x20000, .f32⟩
  | 4 => ⟨S1x4x20000, .f32⟩
  | 5 => ⟨S4x4x20000, .f32⟩
  | 6 => ⟨S4x1x20000, .f32⟩
  | 7 => ⟨S4x1x20000, .i32⟩
  | 8 => ⟨S4x4x20000, .f32⟩
  | 9 => ⟨S4x20000, .f32⟩
  | 10 => ⟨S4x20000, .i32⟩
  | 11 => ⟨S4x1000, .f32⟩
  | 12 => ⟨S4x1000, .i32⟩
  | 13 => ⟨S4x1x1000, .i32⟩
  | 14 => ⟨S_, .i32⟩
  | 15 => ⟨S4x1x1000, .i32⟩
  | 16 => ⟨S4x1x1000, .i1⟩
  | 17 => ⟨S_, .i32⟩
  | 18 => ⟨S4x1x1000, .i32⟩
  | 19 => ⟨S4x1x1000, .i32⟩
  | 20 => ⟨S4x1x1000, .i32⟩
  | 21 => ⟨S4x1000x1, .i32⟩
  | 22 => ⟨S1, .i32⟩
  | 23 => ⟨S_, .i32⟩
  | 24 => ⟨S4x1000x1, .i32⟩
  | 25 => ⟨S4x1000x1, .i1⟩
  | 26 => ⟨S1x1x1, .i32⟩
  | 27 => ⟨S4x1000x1, .i32⟩
  | 28 => ⟨S4x1000x1, .i1⟩
  | 29 => ⟨S4x1000x1, .i1⟩
  | 30 => ⟨S_, .i1⟩
  | 31 => ⟨S4x1000, .i1⟩
  | 32 => ⟨S4x4x1000, .f32⟩
  | 33 => ⟨S4x4x1000, .i1⟩
  | 34 => ⟨S_, .f32⟩
  | 35 => ⟨S4x4x1000, .f32⟩
  | 36 => ⟨S4x4x1000, .f32⟩
  | 37 => ⟨S_, .i32⟩
  | 38 => ⟨S4x1000, .i32⟩
  | 39 => ⟨S4x1000, .i1⟩
  | 40 => ⟨S_, .i32⟩
  | 41 => ⟨S4x1000, .i32⟩
  | 42 => ⟨S4x1000, .i32⟩
  | 43 => ⟨S4x1000, .i32⟩
  | 44 => ⟨S4x1000x1, .i32⟩
  | 45 => ⟨S1, .i32⟩
  | 46 => ⟨S_, .i32⟩
  | 47 => ⟨S4x1000x1, .i32⟩
  | 48 => ⟨S4x1000x1, .i1⟩
  | 49 => ⟨S1x1x1, .i32⟩
  | 50 => ⟨S4x1000x1, .i32⟩
  | 51 => ⟨S4x1000x1, .i1⟩
  | 52 => ⟨S4x1000x1, .i1⟩
  | 53 => ⟨S_, .i1⟩
  | 54 => ⟨S4x1000, .i1⟩
  | 55 => ⟨S4x1000, .i32⟩
  | 56 => ⟨S_, .i32⟩
  | 57 => ⟨S4x1000, .i32⟩
  | 58 => ⟨S4x1000, .i32⟩
  | 59 => ⟨S_, .f32⟩
  | 60 => ⟨S4x24, .f32⟩
  | 61 => ⟨S4x1024, .f32⟩
  | 62 => ⟨S_, .f32⟩
  | 63 => ⟨S4x4x24, .f32⟩
  | 64 => ⟨S4x4x1024, .f32⟩
  | 65 => ⟨S_, .i32⟩
  | 66 => ⟨S4x24, .i32⟩
  | 67 => ⟨S4x1024, .i32⟩
  | 68 => ⟨S4x1024, .f32⟩
  | 69 => ⟨S4x100, .f32⟩
  | 70 => ⟨S4x100, .i32⟩
  | 71 => ⟨S4x1x100, .i32⟩
  | 72 => ⟨S_, .i32⟩
  | 73 => ⟨S4x1x100, .i32⟩
  | 74 => ⟨S4x1x100, .i1⟩
  | 75 => ⟨S_, .i32⟩
  | 76 => ⟨S4x1x100, .i32⟩
  | 77 => ⟨S4x1x100, .i32⟩
  | 78 => ⟨S4x1x100, .i32⟩
  | 79 => ⟨S4x100x1, .i32⟩
  | 80 => ⟨S1, .i32⟩
  | 81 => ⟨S_, .i32⟩
  | 82 => ⟨S4x100x1, .i32⟩
  | 83 => ⟨S4x100x1, .i1⟩
  | 84 => ⟨S1x1x1, .i32⟩
  | 85 => ⟨S4x100x1, .i32⟩
  | 86 => ⟨S4x100x1, .i1⟩
  | 87 => ⟨S4x100x1, .i1⟩
  | 88 => ⟨S_, .i1⟩
  | 89 => ⟨S4x100, .i1⟩
  | 90 => ⟨S4x4x100, .f32⟩
  | 91 => ⟨S4x4x100, .i1⟩
  | 92 => ⟨S_, .f32⟩
  | 93 => ⟨S4x4x100, .f32⟩
  | 94 => ⟨S4x4x100, .f32⟩
  | 95 => ⟨S4x100x4, .f32⟩
  | 96 => ⟨S_, .i32⟩
  | 97 => ⟨S4x100, .i32⟩
  | 98 => ⟨S4x100, .i1⟩
  | 99 => ⟨S_, .i32⟩
  | 100 => ⟨S4x100, .i32⟩
  | 101 => ⟨S4x100, .i32⟩
  | 102 => ⟨S4x100, .i32⟩
  | 103 => ⟨S4x100x1, .i32⟩
  | 104 => ⟨S1, .i32⟩
  | 105 => ⟨S_, .i32⟩
  | 106 => ⟨S4x100x1, .i32⟩
  | 107 => ⟨S4x100x1, .i1⟩
  | 108 => ⟨S1x1x1, .i32⟩
  | 109 => ⟨S4x100x1, .i32⟩
  | 110 => ⟨S4x100x1, .i1⟩
  | 111 => ⟨S4x100x1, .i1⟩
  | 112 => ⟨S_, .i1⟩
  | 113 => ⟨S4x100, .i1⟩
  | 114 => ⟨S4x100, .i32⟩
  | 115 => ⟨S_, .i32⟩
  | 116 => ⟨S4x100, .i32⟩
  | 117 => ⟨S4x100, .i32⟩
  | 118 => ⟨S4x100, .f32⟩
  | 119 => ⟨S_, .f32⟩
  | 120 => ⟨S4x100, .f32⟩
  | 121 => ⟨S4x100, .i1⟩
  | 122 => ⟨S4x100x1, .i1⟩
  | 123 => ⟨S_, .f32⟩
  | 124 => ⟨S_, .f32⟩
  | 125 => ⟨S4x100x4, .i1⟩
  | 126 => ⟨S4x100x4, .f32⟩
  | 127 => ⟨S4x100x4, .f32⟩
  | _ => ⟨S20000x4, .f32⟩

abbrev hbmTy0_1 (i : Nat) : BufTy := match i % 128 with
  | 0 => ⟨S_, .f32⟩
  | 1 => ⟨S_, .f32⟩
  | 2 => ⟨S4x100, .f32⟩
  | 3 => ⟨S4x100, .f32⟩
  | 4 => ⟨S_, .i32⟩
  | 5 => ⟨S_, .i32⟩
  | 6 => ⟨S4x100, .i32⟩
  | 7 => ⟨S4x100, .i32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | .local _ .vmem, ⟨0, _⟩ => ⟨S1x4x2048, .f32⟩
  | .local _ .vmem, ⟨1, _⟩ => ⟨S1x4x2048, .f32⟩
  | .local _ .vmem, ⟨2, _⟩ => ⟨S1x2048x80, .f32⟩
  | .local _ .vmem, ⟨3, _⟩ => ⟨S1x2048x80, .f32⟩
  | .local _ .vmem, ⟨4, _⟩ => ⟨S1x4x2048, .f32⟩
  | .local _ .vmem, ⟨5, _⟩ => ⟨S1x4x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .i32⟩
  | .local _ .vmem, ⟨9, _⟩ => ⟨S1x1x2048, .i32⟩
  | .local _ .vmem, ⟨10, _⟩ => ⟨S1x4x2048, .f32⟩
  | .local _ .vmem, ⟨11, _⟩ => ⟨S1x4x2048, .f32⟩
  | .local _ .vmem, ⟨12, _⟩ => ⟨S4x1024, .f32⟩
  | .local _ .vmem, ⟨13, _⟩ => ⟨S4x4x1024, .f32⟩
  | .local _ .vmem, ⟨14, _⟩ => ⟨S4x1024, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_values : Ref sig .tc := ⟨.hbm, 11, rfl⟩
abbrev main_indices : Ref sig .tc := ⟨.hbm, 12, rfl⟩
abbrev main_v6 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v7 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_c_4 : Ref sig .tc := ⟨.hbm, 56, rfl⟩
abbrev main_call1_v14 : Ref sig .tc := ⟨.hbm, 57, rfl⟩
abbrev main_v8 : Ref sig .tc := ⟨.hbm, 58, rfl⟩
abbrev main_cst : Ref sig .tc := ⟨.hbm, 59, rfl⟩
abbrev main_v9 : Ref sig .tc := ⟨.hbm, 60, rfl⟩
abbrev main_v10 : Ref sig .tc := ⟨.hbm, 61, rfl⟩
abbrev main_cst_0 : Ref sig .tc := ⟨.hbm, 62, rfl⟩
abbrev main_v11 : Ref sig .tc := ⟨.hbm, 63, rfl⟩
abbrev main_v12 : Ref sig .tc := ⟨.hbm, 64, rfl⟩
abbrev main_c : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_values_1 : Ref sig .tc := ⟨.hbm, 69, rfl⟩
abbrev main_indices_2 : Ref sig .tc := ⟨.hbm, 70, rfl⟩
abbrev main_v16 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v17 : Ref sig .tc := ⟨.hbm, 94, rfl⟩
abbrev main_v18 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_c_4 : Ref sig .tc := ⟨.hbm, 115, rfl⟩
abbrev main_call3_v14 : Ref sig .tc := ⟨.hbm, 116, rfl⟩
abbrev main_v19 : Ref sig .tc := ⟨.hbm, 117, rfl⟩
abbrev main_v20 : Ref sig .tc := ⟨.hbm, 118, rfl⟩
abbrev main_cst_3 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_cst_4 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_v24 : Ref sig .tc := ⟨.hbm, 127, rfl⟩
abbrev main_cst_5 : Ref sig .tc := ⟨.hbm, 128, rfl⟩
abbrev main_call5_v0 : Ref sig .tc := ⟨.hbm, 129, rfl⟩
abbrev main_call5_v1 : Ref sig .tc := ⟨.hbm, 130, rfl⟩
abbrev main_v25 : Ref sig .tc := ⟨.hbm, 131, rfl⟩
abbrev main_c_6 : Ref sig .tc := ⟨.hbm, 132, rfl⟩
abbrev main_call6_v0 : Ref sig .tc := ⟨.hbm, 133, rfl⟩
abbrev main_call6_v1 : Ref sig .tc := ⟨.hbm, 134, rfl⟩
abbrev main_v26 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14

abbrev nD : Nat := 1
abbrev τ : Topo := Topo.v7x

variable {F : FTy → Type} [FloatOps F]

abbrev grid0 : Pipeline.Grid := ⟨2, ![4, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := .none

@[reducible] def k1_t1_loop : Scf.Loop 32 :=
  let c0_i32 : BitVec 32 := 0#32
  let c1000_i32 : BitVec 32 := 1000#32
  let v25 : BitVec 32 := Scalar.addi c0_i32 c1000_i32
  let c1_i32 : BitVec 32 := 1#32
  ⟨c0_i32, v25, c1_i32⟩
abbrev stage1_0 : Fin 1 → Memref sig .tc .vmem S4x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x4x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S20000x4 : Shape := ⟨2, ![20000, 4]⟩
abbrev S4x20000x80 : Shape := ⟨3, ![4, 20000, 80]⟩
abbrev S4x20000x4 : Shape := ⟨3, ![4, 20000, 4]⟩
abbrev S20000x1 : Shape := ⟨2, ![20000, 1]⟩
abbrev S20000 : Shape := ⟨1, ![20000]⟩
abbrev S_ : Shape := ⟨0, ![]⟩
abbrev S4x20000x1 : Shape := ⟨3, ![4, 20000, 1]⟩
abbrev S4x20000 : Shape := ⟨2, ![4, 20000]⟩
abbrev S1x20000 : Shape := ⟨2, ![1, 20000]⟩
abbrev S4x1000 : Shape := ⟨2, ![4, 1000]⟩
abbrev S4x1000x1 : Shape := ⟨3, ![4, 1000, 1]⟩
abbrev S4x1000x4 : Shape := ⟨3, ![4, 1000, 4]⟩
abbrev S4x1x1000 : Shape := ⟨3, ![4, 1, 1000]⟩
abbrev S4x1000x1000 : Shape := ⟨3, ![4, 1000, 1000]⟩
abbrev S1000 : Shape := ⟨1, ![1000]⟩
abbrev S4x1 : Shape := ⟨2, ![4, 1]⟩
abbrev S4 : Shape := ⟨1, ![4]⟩
abbrev S1x1000 : Shape := ⟨2, ![1, 1000]⟩
abbrev S4x100 : Shape := ⟨2, ![4, 100]⟩
abbrev S4x100x1 : Shape := ⟨3, ![4, 100, 1]⟩
abbrev S4x100x4 : Shape := ⟨3, ![4, 100, 4]⟩
abbrev S100x4 : Shape := ⟨2, ![100, 4]⟩
abbrev S100 : Shape := ⟨1, ![100]⟩

abbrev nBuf : Space → Nat
  | .hbm => 350
  | .vmem => 0
  | .smem => 0
  | _ => 0

abbrev hbmTy0_0 (i : Nat) : BufTy := match i % 128 with
  | 0 => ⟨S20000x4, .f32⟩
  | 1 => ⟨S4x20000x80, .f32⟩
  | 2 => ⟨S4x20000x4, .f32⟩
  | 3 => ⟨S20000x1, .f32⟩
  | 4 => ⟨S20000, .f32⟩
  | 5 => ⟨S20000x1, .f32⟩
  | 6 => ⟨S20000, .f32⟩
  | 7 => ⟨S20000, .f32⟩
  | 8 => ⟨S20000x1, .f32⟩
  | 9 => ⟨S20000, .f32⟩
  | 10 => ⟨S20000x1, .f32⟩
  | 11 => ⟨S20000, .f32⟩
  | 12 => ⟨S20000, .f32⟩
  | 13 => ⟨S20000x1, .f32⟩
  | 14 => ⟨S20000, .f32⟩
  | 15 => ⟨S_, .f32⟩
  | 16 => ⟨S20000, .f32⟩
  | 17 => ⟨S20000, .f32⟩
  | 18 => ⟨S20000, .f32⟩
  | 19 => ⟨S20000x1, .f32⟩
  | 20 => ⟨S20000, .f32⟩
  | 21 => ⟨S_, .f32⟩
  | 22 => ⟨S20000, .f32⟩
  | 23 => ⟨S20000, .f32⟩
  | 24 => ⟨S20000, .f32⟩
  | 25 => ⟨S4x20000x1, .f32⟩
  | 26 => ⟨S4x20000, .f32⟩
  | 27 => ⟨S4x20000x1, .f32⟩
  | 28 => ⟨S4x20000, .f32⟩
  | 29 => ⟨S4x20000x1, .f32⟩
  | 30 => ⟨S4x20000, .f32⟩
  | 31 => ⟨S_, .f32⟩
  | 32 => ⟨S_, .f32⟩
  | 33 => ⟨S_, .f32⟩
  | 34 => ⟨S4x20000, .f32⟩
  | 35 => ⟨S4x20000, .f32⟩
  | 36 => ⟨S_, .f32⟩
  | 37 => ⟨S4x20000, .f32⟩
  | 38 => ⟨S4x20000, .f32⟩
  | 39 => ⟨S4x20000x1, .f32⟩
  | 40 => ⟨S4x20000, .f32⟩
  | 41 => ⟨S_, .f32⟩
  | 42 => ⟨S_, .f32⟩
  | 43 => ⟨S_, .f32⟩
  | 44 => ⟨S4x20000, .f32⟩
  | 45 => ⟨S4x20000, .f32⟩
  | 46 => ⟨S_, .f32⟩
  | 47 => ⟨S4x20000, .f32⟩
  | 48 => ⟨S4x20000, .f32⟩
  | 49 => ⟨S1x20000, .f32⟩
  | 50 => ⟨S4x20000, .f32⟩
  | 51 => ⟨S4x20000, .f32⟩
  | 52 => ⟨S1x20000, .f32⟩
  | 53 => ⟨S4x20000, .f32⟩
  | 54 => ⟨S4x20000, .f32⟩
  | 55 => ⟨S1x20000, .f32⟩
  | 56 => ⟨S4x20000, .f32⟩
  | 57 => ⟨S4x20000, .f32⟩
  | 58 => ⟨S1x20000, .f32⟩
  | 59 => ⟨S4x20000, .f32⟩
  | 60 => ⟨S4x20000, .f32⟩
  | 61 => ⟨S4x20000, .f32⟩
  | 62 => ⟨S1x20000, .f32⟩
  | 63 => ⟨S4x20000, .f32⟩
  | 64 => ⟨S4x20000, .f32⟩
  | 65 => ⟨S4x20000, .f32⟩
  | 66 => ⟨S1x20000, .f32⟩
  | 67 => ⟨S4x20000, .f32⟩
  | 68 => ⟨S4x20000, .f32⟩
  | 69 => ⟨S_, .f32⟩
  | 70 => ⟨S4x20000, .f32⟩
  | 71 => ⟨S4x20000, .f32⟩
  | 72 => ⟨S4x20000, .f32⟩
  | 73 => ⟨S_, .f32⟩
  | 74 => ⟨S_, .f32⟩
  | 75 => ⟨S_, .f32⟩
  | 76 => ⟨S4x20000, .f32⟩
  | 77 => ⟨S4x20000, .f32⟩
  | 78 => ⟨S_, .f32⟩
  | 79 => ⟨S4x20000, .f32⟩
  | 80 => ⟨S4x20000, .f32⟩
  | 81 => ⟨S_, .f32⟩
  | 82 => ⟨S4x20000, .f32⟩
  | 83 => ⟨S4x20000, .f32⟩
  | 84 => ⟨S4x20000, .f32⟩
  | 85 => ⟨S_, .f32⟩
  | 86 => ⟨S_, .f32⟩
  | 87 => ⟨S_, .f32⟩
  | 88 => ⟨S4x20000, .f32⟩
  | 89 => ⟨S4x20000, .f32⟩
  | 90 => ⟨S_, .f32⟩
  | 91 => ⟨S4x20000, .f32⟩
  | 92 => ⟨S4x20000, .f32⟩
  | 93 => ⟨S_, .f32⟩
  | 94 => ⟨S4x20000, .f32⟩
  | 95 => ⟨S4x20000, .f32⟩
  | 96 => ⟨S4x20000, .f32⟩
  | 97 => ⟨S_, .f32⟩
  | 98 => ⟨S_, .f32⟩
  | 99 => ⟨S_, .f32⟩
  | 100 => ⟨S4x20000, .f32⟩
  | 101 => ⟨S4x20000, .f32⟩
  | 102 => ⟨S_, .f32⟩
  | 103 => ⟨S4x20000, .f32⟩
  | 104 => ⟨S4x20000, .f32⟩
  | 105 => ⟨S_, .f32⟩
  | 106 => ⟨S4x20000, .f32⟩
  | 107 => ⟨S4x20000, .f32⟩
  | 108 => ⟨S4x20000, .f32⟩
  | 109 => ⟨S_, .f32⟩
  | 110 => ⟨S_, .f32⟩
  | 111 => ⟨S_, .f32⟩
  | 112 => ⟨S4x20000, .f32⟩
  | 113 => ⟨S4x20000, .f32⟩
  | 114 => ⟨S_, .f32⟩
  | 115 => ⟨S4x20000, .f32⟩
  | 116 => ⟨S4x20000, .f32⟩
  | 117 => ⟨S4x20000x1, .f32⟩
  | 118 => ⟨S4x20000x1, .f32⟩
  | 119 => ⟨S4x20000x1, .f32⟩
  | 120 => ⟨S4x20000x1, .f32⟩
  | 121 => ⟨S4x20000x4, .f32⟩
  | 122 => ⟨S_, .f32⟩
  | 123 => ⟨S4x20000, .f32⟩
  | 124 => ⟨S4x20000x80, .i32⟩
  | 125 => ⟨S_, .f32⟩
  | 126 => ⟨S_, .i32⟩
  | 127 => ⟨S4x20000, .f32⟩
  | _ => ⟨S20000x4, .f32⟩

abbrev hbmTy0_1 (i : Nat) : BufTy := match i % 128 with
  | 0 => ⟨S4x20000, .i32⟩
  | 1 => ⟨S_, .i32⟩
  | 2 => ⟨S4x20000, .i32⟩
  | 3 => ⟨S4x20000, .i32⟩
  | 4 => ⟨S4x20000x1, .f32⟩
  | 5 => ⟨S4x20000, .f32⟩
  | 6 => ⟨S4x20000x1, .f32⟩
  | 7 => ⟨S4x20000, .f32⟩
  | 8 => ⟨S4x20000, .f32⟩
  | 9 => ⟨S4x20000x1, .f32⟩
  | 10 => ⟨S4x20000, .f32⟩
  | 11 => ⟨S4x20000x1, .f32⟩
  | 12 => ⟨S4x20000, .f32⟩
  | 13 => ⟨S4x20000, .f32⟩
  | 14 => ⟨S_, .f32⟩
  | 15 => ⟨S4x20000, .f32⟩
  | 16 => ⟨S4x20000, .i1⟩
  | 17 => ⟨S_, .f32⟩
  | 18 => ⟨S4x20000, .f32⟩
  | 19 => ⟨S4x20000, .i1⟩
  | 20 => ⟨S4x20000, .i1⟩
  | 21 => ⟨S_, .f32⟩
  | 22 => ⟨S4x20000, .f32⟩
  | 23 => ⟨S4x20000, .i1⟩
  | 24 => ⟨S4x20000, .i1⟩
  | 25 => ⟨S_, .f32⟩
  | 26 => ⟨S_, .f32⟩
  | 27 => ⟨S20000, .f32⟩
  | 28 => ⟨S4x20000, .f32⟩
  | 29 => ⟨S4x20000, .f32⟩
  | 30 => ⟨S4x1000, .f32⟩
  | 31 => ⟨S4x1000, .i32⟩
  | 32 => ⟨S_, .i32⟩
  | 33 => ⟨S4x1000, .i32⟩
  | 34 => ⟨S4x1000, .i1⟩
  | 35 => ⟨S_, .i32⟩
  | 36 => ⟨S4x1000, .i32⟩
  | 37 => ⟨S4x1000, .i32⟩
  | 38 => ⟨S4x1000, .i32⟩
  | 39 => ⟨S4x1000x1, .i32⟩
  | 40 => ⟨S4x1000x4, .f32⟩
  | 41 => ⟨S_, .i32⟩
  | 42 => ⟨S4x1000, .i32⟩
  | 43 => ⟨S4x1000, .i1⟩
  | 44 => ⟨S_, .i32⟩
  | 45 => ⟨S4x1000, .i32⟩
  | 46 => ⟨S4x1000, .i32⟩
  | 47 => ⟨S4x1000, .i32⟩
  | 48 => ⟨S4x1000x1, .i32⟩
  | 49 => ⟨S4x1000, .i32⟩
  | 50 => ⟨S4x1000x1, .f32⟩
  | 51 => ⟨S4x1000, .f32⟩
  | 52 => ⟨S4x1000x1, .f32⟩
  | 53 => ⟨S4x1000, .f32⟩
  | 54 => ⟨S4x1000x1, .f32⟩
  | 55 => ⟨S4x1000, .f32⟩
  | 56 => ⟨S4x1000x1, .f32⟩
  | 57 => ⟨S4x1000, .f32⟩
  | 58 => ⟨S4x1000, .f32⟩
  | 59 => ⟨S_, .f32⟩
  | 60 => ⟨S4x1000, .f32⟩
  | 61 => ⟨S4x1000, .f32⟩
  | 62 => ⟨S4x1000, .f32⟩
  | 63 => ⟨S_, .f32⟩
  | 64 => ⟨S4x1000, .f32⟩
  | 65 => ⟨S4x1000, .f32⟩
  | 66 => ⟨S4x1000, .f32⟩
  | 67 => ⟨S4x1000x1, .f32⟩
  | 68 => ⟨S4x1x1000, .f32⟩
  | 69 => ⟨S4x1000x1000, .f32⟩
  | 70 => ⟨S4x1000x1000, .f32⟩
  | 71 => ⟨S4x1000x1000, .f32⟩
  | 72 => ⟨S4x1000x1, .f32⟩
  | 73 => ⟨S4x1x1000, .f32⟩
  | 74 => ⟨S4x1000x1000, .f32⟩
  | 75 => ⟨S4x1000x1000, .f32⟩
  | 76 => ⟨S4x1000x1000, .f32⟩
  | 77 => ⟨S4x1000x1, .f32⟩
  | 78 => ⟨S4x1x1000, .f32⟩
  | 79 => ⟨S4x1000x1000, .f32⟩
  | 80 => ⟨S4x1000x1000, .f32⟩
  | 81 => ⟨S4x1000x1000, .f32⟩
  | 82 => ⟨S4x1000x1, .f32⟩
  | 83 => ⟨S4x1x1000, .f32⟩
  | 84 => ⟨S4x1000x1000, .f32⟩
  | 85 => ⟨S4x1000x1000, .f32⟩
  | 86 => ⟨S4x1000x1000, .f32⟩
  | 87 => ⟨S4x1000x1000, .f32⟩
  | 88 => ⟨S_, .f32⟩
  | 89 => ⟨S4x1000x1000, .f32⟩
  | 90 => ⟨S4x1000x1000, .f32⟩
  | 91 => ⟨S4x1000x1000, .f32⟩
  | 92 => ⟨S_, .f32⟩
  | 93 => ⟨S4x1000x1000, .f32⟩
  | 94 => ⟨S4x1000x1000, .f32⟩
  | 95 => ⟨S4x1000x1000, .f32⟩
  | 96 => ⟨S4x1000x1, .f32⟩
  | 97 => ⟨S4x1x1000, .f32⟩
  | 98 => ⟨S4x1000x1000, .f32⟩
  | 99 => ⟨S4x1000x1000, .f32⟩
  | 100 => ⟨S4x1000x1000, .f32⟩
  | 101 => ⟨S4x1000x1000, .f32⟩
  | 102 => ⟨S_, .f32⟩
  | 103 => ⟨S4x1000x1000, .f32⟩
  | 104 => ⟨S4x1000x1000, .f32⟩
  | 105 => ⟨S4x1000x1000, .f32⟩
  | 106 => ⟨S1000, .i32⟩
  | 107 => ⟨S_, .i1⟩
  | 108 => ⟨S4x1000, .i1⟩
  | 109 => ⟨S_, .i32⟩
  | 110 => ⟨S_, .i32⟩
  | 111 => ⟨S4x1000x1000, .f32⟩
  | 112 => ⟨S4x1000, .f32⟩
  | 113 => ⟨S1000, .i32⟩
  | 114 => ⟨S_, .i32⟩
  | 115 => ⟨S_, .i32⟩
  | 116 => ⟨S4x1000, .i1⟩
  | 117 => ⟨S_, .i32⟩
  | 118 => ⟨S_, .i1⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S20000x4, .f32⟩

abbrev hbmTy0_2 (i : Nat) : BufTy := match i % 128 with
  | 0 => ⟨S_, .i32⟩
  | 1 => ⟨S4x1x1000, .f32⟩
  | 2 => ⟨S4x1000, .f32⟩
  | 3 => ⟨S_, .f32⟩
  | 4 => ⟨S4x1000, .f32⟩
  | 5 => ⟨S4x1000, .i1⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S4x1, .f32⟩
  | 14 => ⟨S4, .f32⟩
  | 15 => ⟨S4x1, .f32⟩
  | 16 => ⟨S4x1000, .f32⟩
  | 17 => ⟨S4x1000, .f32⟩
  | 18 => ⟨S_, .f32⟩
  | 19 => ⟨S4x1000, .f32⟩
  | 20 => ⟨S4x1000, .i1⟩
  | 21 => ⟨S4x1000, .i1⟩
  | 22 => ⟨S_, .i32⟩
  | 23 => ⟨S1000, .i32⟩
  | 24 => ⟨S1000, .i1⟩
  | 25 => ⟨S1x1000, .i1⟩
  | 26 => ⟨S4x1000, .i1⟩
  | 27 => ⟨S4x1000, .i1⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S4x1, .i1⟩
  | 36 => ⟨S4, .i1⟩
  | 37 => ⟨S4x1, .i1⟩
  | 38 => ⟨S4x1000, .i1⟩
  | 39 => ⟨S4x1000, .i1⟩
  | 40 => ⟨S4x1000, .i1⟩
  | 41 => ⟨S4x1000, .i1⟩
  | 42 => ⟨S_, .i32⟩
  | 43 => ⟨S_, .i32⟩
  | 44 => ⟨S_, .f32⟩
  | 45 => ⟨S4x1000, .f32⟩
  | 46 => ⟨S4x1000, .i1⟩
  | 47 => ⟨S4x1000, .i1⟩
  | 48 => ⟨S_, .f32⟩
  | 49 => ⟨S_, .f32⟩
  | 50 => ⟨S1000, .f32⟩
  | 51 => ⟨S4x1000, .f32⟩
  | 52 => ⟨S4x1000, .f32⟩
  | 53 => ⟨S4x100, .f32⟩
  | 54 => ⟨S4x100, .i32⟩
  | 55 => ⟨S4x100, .f32⟩
  | 56 => ⟨S_, .f32⟩
  | 57 => ⟨S4x100, .f32⟩
  | 58 => ⟨S4x100, .i1⟩
  | 59 => ⟨S4x100x1, .i1⟩
  | 60 => ⟨S_, .i32⟩
  | 61 => ⟨S4x100, .i32⟩
  | 62 => ⟨S4x100, .i1⟩
  | 63 => ⟨S_, .i32⟩
  | 64 => ⟨S4x100, .i32⟩
  | 65 => ⟨S4x100, .i32⟩
  | 66 => ⟨S4x100, .i32⟩
  | 67 => ⟨S4x100x1, .i32⟩
  | 68 => ⟨S4x100x4, .f32⟩
  | 69 => ⟨S_, .f32⟩
  | 70 => ⟨S_, .f32⟩
  | 71 => ⟨S4x100x4, .i1⟩
  | 72 => ⟨S100x4, .f32⟩
  | 73 => ⟨S4x100x4, .f32⟩
  | 74 => ⟨S4x100x4, .f32⟩
  | 75 => ⟨S_, .f32⟩
  | 76 => ⟨S_, .f32⟩
  | 77 => ⟨S100, .f32⟩
  | 78 => ⟨S4x100, .f32⟩
  | 79 => ⟨S4x100, .f32⟩
  | 80 => ⟨S_, .i32⟩
  | 81 => ⟨S4x100, .i32⟩
  | 82 => ⟨S4x100, .i1⟩
  | 83 => ⟨S_, .i32⟩
  | 84 => ⟨S4x100, .i32⟩
  | 85 => ⟨S4x100, .i32⟩
  | 86 => ⟨S4x100, .i32⟩
  | 87 => ⟨S4x100x1, .i32⟩
  | 88 => ⟨S4x100, .i32⟩
  | 89 => ⟨S_, .i32⟩
  | 90 => ⟨S_, .i32⟩
  | 91 => ⟨S100, .i32⟩
  | 92 => ⟨S4x100, .i32⟩
  | 93 => ⟨S4x100, .i32⟩
  | _ => ⟨S20000x4, .f32⟩

abbrev hbmTy (i : Nat) : BufTy := match i / 128 with
  | 0 => hbmTy0_0 i
  | 1 => hbmTy0_1 i
  | 2 => hbmTy0_2 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_cst_7 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_cst_10 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_cst_13 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v61 : Ref sig .tc := ⟨.hbm, 104, rfl⟩
abbrev main_cst_14 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_15 : Ref sig .tc := ⟨.hbm, 109, rfl⟩
abbrev main_cst_16 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_17 : Ref sig .tc := ⟨.hbm, 122, rfl⟩
abbrev main_v71 : Ref sig .tc := ⟨.hbm, 123, rfl⟩
abbrev main_call6_v0 : Ref sig .tc := ⟨.hbm, 124, rfl⟩
abbrev main_call6_cst : Ref sig .tc := ⟨.hbm, 125, rfl⟩
abbrev main_call6_c : Ref sig .tc := ⟨.hbm, 126, rfl⟩
abbrev main_call6_v1_0 : Ref sig .tc := ⟨.hbm, 127, rfl⟩
abbrev main_v72 : Ref sig .tc := ⟨.hbm, 128, rfl⟩
abbrev main_c : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_cst_18 : Ref sig .tc := ⟨.hbm, 142, rfl⟩
abbrev main_v85 : Ref sig .tc := ⟨.hbm, 143, rfl⟩
abbrev main_v86 : Ref sig .tc := ⟨.hbm, 144, rfl⟩
abbrev main_cst_19 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_20 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_21 : Ref sig .tc := ⟨.hbm, 153, rfl⟩
abbrev main_call7_v0 : Ref sig .tc := ⟨.hbm, 154, rfl⟩
abbrev main_call7_v1 : Ref sig .tc := ⟨.hbm, 155, rfl⟩
abbrev main_call7_v2 : Ref sig .tc := ⟨.hbm, 156, rfl⟩
abbrev main_v93 : Ref sig .tc := ⟨.hbm, 157, rfl⟩
abbrev main_values : Ref sig .tc := ⟨.hbm, 158, rfl⟩
abbrev main_indices : Ref sig .tc := ⟨.hbm, 159, rfl⟩
abbrev main_c_22 : Ref sig .tc := ⟨.hbm, 160, rfl⟩
abbrev main_v94 : Ref sig .tc := ⟨.hbm, 161, rfl⟩
abbrev main_v95 : Ref sig .tc := ⟨.hbm, 162, rfl⟩
abbrev main_c_23 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_c_24 : Ref sig .tc := ⟨.hbm, 169, rfl⟩
abbrev main_v101 : Ref sig .tc := ⟨.hbm, 170, rfl⟩
abbrev main_v102 : Ref sig .tc := ⟨.hbm, 171, rfl⟩
abbrev main_c_25 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_cst_26 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_cst_27 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_cst_28 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_cst_29 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_cst_30 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_c_31 : Ref sig .tc := ⟨.hbm, 235, rfl⟩
abbrev main_v160 : Ref sig .tc := ⟨.hbm, 236, rfl⟩
abbrev main_c_32 : Ref sig .tc := ⟨.hbm, 237, rfl⟩
abbrev main_c_33 : Ref sig .tc := ⟨.hbm, 238, rfl⟩
abbrev main_v161_0 : Ref sig .tc := ⟨.hbm, 239, rfl⟩
abbrev main_v161_1 : Ref sig .tc := ⟨.hbm, 240, rfl⟩
abbrev main_v161_2 : Ref sig .tc := ⟨.hbm, 241, rfl⟩
abbrev main_v161_3 : Ref sig .tc := ⟨.hbm, 242, rfl⟩
abbrev main_v161_4 : Ref sig .tc := ⟨.hbm, 243, rfl⟩
abbrev main_v161_5 : Ref sig .tc := ⟨.hbm, 244, rfl⟩
abbrev main_while0c_c_51 : Ref sig .tc := ⟨.hbm, 245, rfl⟩
abbrev main_while0c_v187 : Ref sig .tc := ⟨.hbm, 246, rfl⟩
abbrev main_while0b_c_51 : Ref sig .tc := ⟨.hbm, 247, rfl⟩
abbrev main_while0b_v187 : Ref sig .tc := ⟨.hbm, 248, rfl⟩
abbrev main_while0b_call8_c : Ref sig .tc := ⟨.hbm, 249, rfl⟩
abbrev main_while0b_call8_v0 : Ref sig .tc := ⟨.hbm, 250, rfl⟩
abbrev main_while0b_call8_v1 : Ref sig .tc := ⟨.hbm, 251, rfl⟩
abbrev main_while0b_call8_c_0 : Ref sig .tc := ⟨.hbm, 252, rfl⟩
abbrev main_while0b_call8_v2 : Ref sig .tc := ⟨.hbm, 253, rfl⟩
abbrev main_while0b_call8_v3 : Ref sig .tc := ⟨.hbm, 254, rfl⟩
abbrev main_while0b_call8_c_1 : Ref sig .tc := ⟨.hbm, 255, rfl⟩
abbrev main_while0b_call8_c_2 : Ref sig .tc := ⟨.hbm, 256, rfl⟩
abbrev main_while0b_call8_v4 : Ref sig .tc := ⟨.hbm, 257, rfl⟩
abbrev main_while0b_v188 : Ref sig .tc := ⟨.hbm, 258, rfl⟩
abbrev main_while0b_cst_52 : Ref sig .tc := ⟨.hbm, 259, rfl⟩
abbrev main_while0b_v189 : Ref sig .tc := ⟨.hbm, 260, rfl⟩
abbrev main_while0b_v190 : Ref sig .tc := ⟨.hbm, 261, rfl⟩
abbrev main_while0b_call9_c : Ref sig .tc := ⟨.hbm, 262, rfl⟩
abbrev main_while0b_call9_v0 : Ref sig .tc := ⟨.hbm, 263, rfl⟩
abbrev main_while0b_call9_v1 : Ref sig .tc := ⟨.hbm, 264, rfl⟩
abbrev main_while0b_call9_c_0 : Ref sig .tc := ⟨.hbm, 265, rfl⟩
abbrev main_while0b_call9_v2 : Ref sig .tc := ⟨.hbm, 266, rfl⟩
abbrev main_while0b_call9_v3 : Ref sig .tc := ⟨.hbm, 267, rfl⟩
abbrev main_while0b_call9_c_1 : Ref sig .tc := ⟨.hbm, 268, rfl⟩
abbrev main_while0b_call9_v4 : Ref sig .tc := ⟨.hbm, 269, rfl⟩
abbrev main_while0b_v191 : Ref sig .tc := ⟨.hbm, 270, rfl⟩
abbrev main_while0b_v192 : Ref sig .tc := ⟨.hbm, 271, rfl⟩
abbrev main_while0b_v193 : Ref sig .tc := ⟨.hbm, 272, rfl⟩
abbrev main_while0b_v194 : Ref sig .tc := ⟨.hbm, 273, rfl⟩
abbrev main_while0b_cst_53 : Ref sig .tc := ⟨.hbm, 274, rfl⟩
abbrev main_while0b_v195 : Ref sig .tc := ⟨.hbm, 275, rfl⟩
abbrev main_while0b_v196 : Ref sig .tc := ⟨.hbm, 276, rfl⟩
abbrev main_while0b_v197 : Ref sig .tc := ⟨.hbm, 277, rfl⟩
abbrev main_while0b_v198 : Ref sig .tc := ⟨.hbm, 278, rfl⟩
abbrev main_while0b_v199 : Ref sig .tc := ⟨.hbm, 279, rfl⟩
abbrev main_while0b_v200 : Ref sig .tc := ⟨.hbm, 280, rfl⟩
abbrev main_while0b_v201 : Ref sig .tc := ⟨.hbm, 281, rfl⟩
abbrev main_while0b_v202 : Ref sig .tc := ⟨.hbm, 282, rfl⟩
abbrev main_while0b_v203 : Ref sig .tc := ⟨.hbm, 283, rfl⟩
abbrev main_while0b_call10_c : Ref sig .tc := ⟨.hbm, 284, rfl⟩
abbrev main_while0b_call10_v0 : Ref sig .tc := ⟨.hbm, 285, rfl⟩
abbrev main_while0b_call10_v1 : Ref sig .tc := ⟨.hbm, 286, rfl⟩
abbrev main_while0b_call10_c_0 : Ref sig .tc := ⟨.hbm, 287, rfl⟩
abbrev main_while0b_call10_v2 : Ref sig .tc := ⟨.hbm, 288, rfl⟩
abbrev main_while0b_call10_v3 : Ref sig .tc := ⟨.hbm, 289, rfl⟩
abbrev main_while0b_call10_c_1 : Ref sig .tc := ⟨.hbm, 290, rfl⟩
abbrev main_while0b_call10_v4 : Ref sig .tc := ⟨.hbm, 291, rfl⟩
abbrev main_while0b_v204 : Ref sig .tc := ⟨.hbm, 292, rfl⟩
abbrev main_while0b_v205 : Ref sig .tc := ⟨.hbm, 293, rfl⟩
abbrev main_while0b_v206 : Ref sig .tc := ⟨.hbm, 294, rfl⟩
abbrev main_while0b_v207 : Ref sig .tc := ⟨.hbm, 295, rfl⟩
abbrev main_while0b_v208 : Ref sig .tc := ⟨.hbm, 296, rfl⟩
abbrev main_while0b_v209 : Ref sig .tc := ⟨.hbm, 297, rfl⟩
abbrev main_while0b_c_54 : Ref sig .tc := ⟨.hbm, 298, rfl⟩
abbrev main_while0b_v210 : Ref sig .tc := ⟨.hbm, 299, rfl⟩
abbrev main_cst_34 : Ref sig .tc := ⟨.hbm, 300, rfl⟩
abbrev main_v162 : Ref sig .tc := ⟨.hbm, 301, rfl⟩
abbrev main_v163 : Ref sig .tc := ⟨.hbm, 302, rfl⟩
abbrev main_v164 : Ref sig .tc := ⟨.hbm, 303, rfl⟩
abbrev main_cst_35 : Ref sig .tc := ⟨.hbm, 304, rfl⟩
abbrev main_call11_v0 : Ref sig .tc := ⟨.hbm, 305, rfl⟩
abbrev main_call11_v1 : Ref sig .tc := ⟨.hbm, 306, rfl⟩
abbrev main_call11_v2 : Ref sig .tc := ⟨.hbm, 307, rfl⟩
abbrev main_v165 : Ref sig .tc := ⟨.hbm, 308, rfl⟩
abbrev main_values_36 : Ref sig .tc := ⟨.hbm, 309, rfl⟩
abbrev main_indices_37 : Ref sig .tc := ⟨.hbm, 310, rfl⟩
abbrev main_v166 : Ref sig .tc := ⟨.hbm, 311, rfl⟩
abbrev main_cst_38 : Ref sig .tc := ⟨.hbm, 312, rfl⟩
abbrev main_v167 : Ref sig .tc := ⟨.hbm, 313, rfl⟩
abbrev main_v168 : Ref sig .tc := ⟨.hbm, 314, rfl⟩
abbrev main_v169 : Ref sig .tc := ⟨.hbm, 315, rfl⟩
abbrev main_c_39 : Ref sig .tc := ⟨.hbm, 316, rfl⟩
abbrev main_v170 : Ref sig .tc := ⟨.hbm, 317, rfl⟩
abbrev main_v171 : Ref sig .tc := ⟨.hbm, 318, rfl⟩
abbrev main_c_40 : Ref sig .tc := ⟨.hbm, 319, rfl⟩
abbrev main_v172 : Ref sig .tc := ⟨.hbm, 320, rfl⟩
abbrev main_v173 : Ref sig .tc := ⟨.hbm, 321, rfl⟩
abbrev main_v174 : Ref sig .tc := ⟨.hbm, 322, rfl⟩
abbrev main_v175 : Ref sig .tc := ⟨.hbm, 323, rfl⟩
abbrev main_v176 : Ref sig .tc := ⟨.hbm, 324, rfl⟩
abbrev main_cst_41 : Ref sig .tc := ⟨.hbm, 325, rfl⟩
abbrev main_call12_v0 : Ref sig .tc := ⟨.hbm, 326, rfl⟩
abbrev main_call12_v1 : Ref sig .tc := ⟨.hbm, 327, rfl⟩
abbrev main_call12_v2 : Ref sig .tc := ⟨.hbm, 328, rfl⟩
abbrev main_call12_v3 : Ref sig .tc := ⟨.hbm, 329, rfl⟩
abbrev main_v177 : Ref sig .tc := ⟨.hbm, 330, rfl⟩
abbrev main_cst_42 : Ref sig .tc := ⟨.hbm, 331, rfl⟩
abbrev main_call13_v0 : Ref sig .tc := ⟨.hbm, 332, rfl⟩
abbrev main_call13_v1 : Ref sig .tc := ⟨.hbm, 333, rfl⟩
abbrev main_call13_v2 : Ref sig .tc := ⟨.hbm, 334, rfl⟩
abbrev main_v178 : Ref sig .tc := ⟨.hbm, 335, rfl⟩
abbrev main_c_43 : Ref sig .tc := ⟨.hbm, 336, rfl⟩
abbrev main_v179 : Ref sig .tc := ⟨.hbm, 337, rfl⟩
abbrev main_v180 : Ref sig .tc := ⟨.hbm, 338, rfl⟩
abbrev main_c_44 : Ref sig .tc := ⟨.hbm, 339, rfl⟩
abbrev main_v181 : Ref sig .tc := ⟨.hbm, 340, rfl⟩
abbrev main_v182 : Ref sig .tc := ⟨.hbm, 341, rfl⟩
abbrev main_v183 : Ref sig .tc := ⟨.hbm, 342, rfl⟩
abbrev main_v184 : Ref sig .tc := ⟨.hbm, 343, rfl⟩
abbrev main_v185 : Ref sig .tc := ⟨.hbm, 344, rfl⟩
abbrev main_c_45 : Ref sig .tc := ⟨.hbm, 345, rfl⟩
abbrev main_call14_v0 : Ref sig .tc := ⟨.hbm, 346, rfl⟩
abbrev main_call14_v1 : Ref sig .tc := ⟨.hbm, 347, rfl⟩
abbrev main_call14_v2 : Ref sig .tc := ⟨.hbm, 348, rfl⟩
abbrev main_v186 : Ref sig .tc := ⟨.hbm, 349, rfl⟩

abbrev nD : Nat := 1
abbrev τ : Topo := Topo.v7x

variable {F : FTy → Type} [FloatOps F]

abbrev main_while0_count : Scf.Loop 32 := ⟨0#32, 1000#32, 1#32⟩
-- ==== Proof.Own.lean ====
/-
  A load and a store of a whole staging buffer, at any memref: the load reads what the memref holds, the store leaves its
  payload, whatever the buffer behind it.
-/
module

public import Idealize.ShloMosaic.Lib.Pipeline.Frame
public import Idealize.ShloMosaic.Lib.Pipeline.Value
public import Idealize.ShloMosaic.Lib.Tactic

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {cs : CoreSpace} {s : Shape} {e : EltTy} {α : Type}
variable {Q : α → sProp (MT nD τ sig Ix Val Name U Lvl)}

omit [Preorder Lvl] in
/-- Writing through the rectangle that is the whole shape leaves the payload. -/
theorem read_write_unit_zero {κ : Kind} {sp : Space} (m : Memref sig κ sp s e) {off : Fin s.rank → Nat} (h : off = fun _ => 0)
    (inb : ∀ a, off a + s.size a ≤ s.size a) (f : m.view.ty.Contents Val) (w : s.Idx → Val e) :
    m.view.read Val ((m.access (Rect.unit off s.size inb)).write Val f w Finset.univ) = w := by
  subst h
  funext y
  have hy : (Rect.whole s).emb y = y := Rect.emb_whole_apply s y
  calc m.view.read Val ((m.access (Rect.unit (fun _ => 0) s.size inb)).write Val f w Finset.univ) y
      = m.view.read Val ((m.view.slice (Rect.whole s)).write Val f w Finset.univ) ((Rect.whole s).emb y) := by rw [hy]; rfl
    _ = w y := View.read_slice_write_emb (v := m.view) (Rect.whole s) f w (x := y) (Finset.mem_univ _)

/-- A load through a rectangle of a memref reads that part of what it holds. -/
theorem wp_load_rect_owns {m : Memref sig c.2.kind cs s e} {r : Rect s} {hl : m.view.LoadsAt r.toLoadRect} {q : PosShare TreeShare}
    {X : s.Idx → Val e} {k : (r.shape.Idx → Val e) → Prog (TpuEff nD τ sig Val Λ c.2) α} :
    (owns c m q X : sProp 𝕄)
      ⊢ iprop((owns c m q X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  have hv : m.view.readAt Val r.toLoadRect f = View.ld X r := by rw [View.readAt_eq_ld, hf]
  have hw := wp_load (defs := defs) 𝒱 c bd (Γ := .empty) E (Q := Q) (m := m) (hl := hl) (k := k) (q := q) (f := f) (S := m.view.set)
    (View.setOn_subset_set m.view _)
  rw [hv] at hw
  iapply hw $$ H
  iintro H
  iapply Hk
  iexists f
  isplitr
  · ipureintro; exact hf
  iexact H

/-- A load of a whole memref reads what it holds. -/
theorem wp_load_owns {m : Memref sig c.2.kind cs s e} {off : Fin s.rank → Nat} (h : off = fun _ => 0)
    {inb : ∀ a, off a + s.size a ≤ s.size a} {hl : m.view.LoadsAt (Rect.unit off s.size inb).toLoadRect} {q : PosShare TreeShare} {X : s.Idx → Val e}
    {k : (s.Idx → Val e) → Prog (TpuEff nD τ sig Val Λ c.2) α} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  have hw := wp_load_rect_owns (defs := defs) 𝒱 c bd E (Q := Q) (m := m) (r := Rect.unit off s.size inb) (hl := hl) (k := k) (q := q) (X := X)
  rw [View.ld_unit_zero h] at hw
  exact hw

/-- A store of a whole memref leaves its payload. -/
theorem wp_store_owns {m : Memref sig c.2.kind cs s e} {off : Fin s.rank → Nat} (h : off = fun _ => 0)
    {inb : ∀ a, off a + s.size a ≤ s.size a} {w : s.Idx → Val e}
    {hx : (m.access (Rect.unit off s.size inb)).Stores Finset.univ} {hm : Finset.univ = Finset.univ ∨ ∀ a, (Rect.unit off s.size inb).stride a = 1}
    {X : s.Idx → Val e} {k : PUnit → Prog (TpuEff nD τ sig Val Λ c.2) α} :
    (owns c m fullShare X : sProp 𝕄)
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  unfold owns
  iintro ⟨%f, %hf, H⟩ Hk
  have hw := wp_store (defs := defs) 𝒱 c bd (Γ := .empty) E (Q := Q) (m := m) (w := w) (hx := hx) (hm := hm) (k := k) (f := f) (S := m.view.set)
    ((View.setOn_univ _).le.trans (View.set_slice_subset m.view _))
  iapply hw $$ H
  iintro H
  iapply Hk
  iexists ((m.access (Rect.unit off s.size inb)).write Val f w Finset.univ)
  isplitr
  · ipureintro; exact read_write_unit_zero m h inb f w
  iexact H

end Cert.Own

end
-- ==== Proof.Decode.lean ====
/-
  The decode kernel: what its body leaves in the three result blocks, as functions of its three input blocks, and that
  each lane of a result is computed from the same lane of the inputs.
-/
module

public import proofs.«01_k».proof.Proof.Own
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pointwise

@[expose] public section

noncomputable section

namespace Cert.Own.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block of masked scores the body writes, from the blocks of anchors, scores and deltas. -/
def outMask (X0 : Vec F S1x4x2048 .f32) (X1 : Vec F S1x2048x80 .f32) (X2 : Vec F S1x4x2048 .f32) : Vec F S1x1x2048 .f32 :=
  k0_pay2 (k0_pay14 (k0_pay9 X0 X2) (k0_pay11 X0 X2) (k0_pay13 (F := F))) (k0_pay15 (k0_pay10 X0 X2) (k0_pay12 X0 X2))
    (k0_pay16 (k0_pay9 X0 X2) (k0_pay11 X0 X2)) (k0_pay17 (k0_pay10 X0 X2) (k0_pay12 X0 X2)) (k0_pay20 X1)

/-- The block of class numbers it writes. -/
def outCls (X1 : Vec F S1x2048x80 .f32) : Vec F S1x1x2048 .i32 :=
  k0_pay1 (k0_pay19 X1) (iota .tc S2048x80 32 [1] iota_S2048x80_d1_w32) (k0_pay21 X1)

/-- The block of decoded boxes it writes. -/
def outBox (X0 X2 : Vec F S1x4x2048 .f32) : Vec F S1x4x2048 .f32 :=
  k0_pay18 (k0_pay9 X0 X2) (k0_pay10 X0 X2) (k0_pay11 X0 X2) (k0_pay12 X0 X2) (k0_pay13 (F := F))

/-- The body on any six staging buffers: the inputs are unchanged, the outputs hold the three blocks above. -/
theorem decode_body (c : Dev nD) (E : Set ℕ) (i : grid0.Coords)
    (a2 : Memref sig .tc .vmem S1x4x2048 .f32) (h2 : a2.IsWhole) (a3 : Memref sig .tc .vmem S1x2048x80 .f32) (h3 : a3.IsWhole)
    (a4 : Memref sig .tc .vmem S1x4x2048 .f32) (h4 : a4.IsWhole) (a5 : Memref sig .tc .vmem S1x1x2048 .f32) (h5 : a5.IsWhole)
    (a6 : Memref sig .tc .vmem S1x1x2048 .i32) (h6 : a6.IsWhole) (a7 : Memref sig .tc .vmem S1x4x2048 .f32) (h7 : a7.IsWhole)
    (X0 : Vec F S1x4x2048 .f32) (X1 : Vec F S1x2048x80 .f32) (X2 : Vec F S1x4x2048 .f32)
    (D5 : Vec F S1x1x2048 .f32) (D6 : Vec F S1x1x2048 .i32) (D7 : Vec F S1x4x2048 .f32) (K : PUnit → sProp 𝕄) :
    iprop((owns (c : Thread nD τ) a2 fullShare X0 ∗ owns (c : Thread nD τ) a3 fullShare X1 ∗ owns (c : Thread nD τ) a4 fullShare X2
            ∗ owns (c : Thread nD τ) a5 fullShare D5 ∗ owns (c : Thread nD τ) a6 fullShare D6 ∗ owns (c : Thread nD τ) a7 fullShare D7)
          ∗ (iprop(owns (c : Thread nD τ) a2 fullShare X0 ∗ owns (c : Thread nD τ) a3 fullShare X1 ∗ owns (c : Thread nD τ) a4 fullShare X2
            ∗ owns (c : Thread nD τ) a5 fullShare (outMask X0 X1 X2) ∗ owns (c : Thread nD τ) a6 fullShare (outCls X1)
            ∗ owns (c : Thread nD τ) a7 fullShare (outBox X0 X2)) -∗ K ⟨⟩))
      ⊢ wp frame (wpE (defs₀ (F := F)) Variants.none c none) E
          (cc0__decode_mask_kernel i a2 h2 a3 h3 a4 h4 a5 h5 a6 h6 a7 h7) K := by
  have hz : (![0, 0, 0] : Fin 3 → Nat) = fun _ => 0 := funext fun a => by fin_cases a <;> rfl
  unfold outMask outCls outBox
  rw [cc0__decode_mask_kernel_eq_skeleton]
  unfold cc0__decode_mask_kernel_skel
  rw [k0_part1_eq_skeleton, k0_part2_eq_skeleton]
  unfold k0_part1_skel k0_part2_skel
  simp only [Prog.lift, Prog.bind_op, Prog.bind_ret]
  iintro ⟨⟨H0, H1, H2, H5, H6, H7⟩, Hk⟩
  iapply (wp_load_owns (defs := defs₀ (F := F)) Variants.none (c : Thread nD τ) none E (s := S1x4x2048) hz) $$ H0
  iintro H0
  iapply (wp_load_owns (defs := defs₀ (F := F)) Variants.none (c : Thread nD τ) none E (s := S1x4x2048) hz) $$ H2
  iintro H2
  iapply (wp_load_owns (defs := defs₀ (F := F)) Variants.none (c : Thread nD τ) none E (s := S1x4x2048) hz) $$ H7
  iintro H7
  iapply (wp_store_owns (defs := defs₀ (F := F)) Variants.none (c : Thread nD τ) none E (s := S1x4x2048) hz) $$ H7
  iintro H7
  iapply (wp_load_owns (defs := defs₀ (F := F)) Variants.none (c : Thread nD τ) none E (s := S1x2048x80) hz) $$ H1
  iintro H1
  iapply (wp_load_owns (defs := defs₀ (F := F)) Variants.none (c : Thread nD τ) none E (s := S1x1x2048) hz) $$ H6
  iintro H6
  iapply (wp_store_owns (defs := defs₀ (F := F)) Variants.none (c : Thread nD τ) none E (s := S1x1x2048) hz) $$ H6
  iintro H6
  iapply (wp_load_owns (defs := defs₀ (F := F)) Variants.none (c : Thread nD τ) none E (s := S1x1x2048) hz) $$ H5
  iintro H5
  iapply (wp_store_owns (defs := defs₀ (F := F)) Variants.none (c : Thread nD τ) none E (s := S1x1x2048) hz) $$ H5
  iintro H5
  sl_steps
  iapply Hk
  isplitl [H0]; · iexact H0
  isplitl [H1]; · iexact H1
  isplitl [H2]; · iexact H2
  isplitl [H5]; · iexact H5
  isplitl [H6]; · iexact H6
  iexact H7

/-! ## Lanes -/

/-- A lane of the decoded boxes is computed from that lane of the anchors and the deltas. -/
theorem outBox_congr (X0 X2 Y0 Y2 : Vec F S1x4x2048 .f32) (l : Fin 2048)
    (h0 : ∀ k : Fin 4, X0 (ix3 0 k l) = Y0 (ix3 0 k l)) (h2 : ∀ k : Fin 4, X2 (ix3 0 k l) = Y2 (ix3 0 k l)) (k : Fin 4) :
    outBox X0 X2 (ix3 0 k l) = outBox Y0 Y2 (ix3 0 k l) := by
  pointwise [outBox, k0_pay18, k0_pay3, k0_pay4, k0_pay5, k0_pay6, k0_pay7, k0_pay8, k0_pay9, k0_pay10, k0_pay11, k0_pay12, k0_pay13, k0_pay14, k0_pay15, k0_pay16, k0_pay17]
  simp only [h0, h2]

/-- A row's reduction reads only that row. -/
theorem reduceFold_congr_row {e : Type} (h : S2048x80.Reduces [1] S2048) (f : e → e → e) (init : e) (x y : S2048x80.Idx → e) (l : Fin 2048)
    (hxy : ∀ k : Fin 80, x (ix2 l k) = y (ix2 l k)) : reduceFold h f init x (ix1 l) = reduceFold h f init y (ix1 l) := by
  rw [reduceFold_eq_foldl, reduceFold_eq_foldl]
  refine List.foldl_ext _ _ _ fun r i hi => ?_
  have hd : h.drop i = ix1 l := by simpa using (List.mem_filter.mp hi).2
  have hi0 : i = ix2 l (i 1) := by
    rw [eq_ix2 i]
    have : (h.drop i) 0 = l := by rw [hd]; rfl
    congr 1
  rw [hi0]
  exact congrArg (f r) (hxy (i 1))

/-- A row's greatest word reads only that row. -/
theorem maxRed_congr_row (x y : FVec F S2048x80 .f32) (acc : BitVec 32) (h : S2048x80.Reduces [1] S2048) (hφ : FKind.Formats .f32)
    (hacc : acc = FKind.maximumf.neutral .f32 hφ) (l : Fin 2048) (hxy : ∀ k : Fin 80, x (ix2 l k) = y (ix2 l k)) :
    multiReduction .maximumf [1] S2048 x acc h hφ hacc (ix1 l) = multiReduction .maximumf [1] S2048 y acc h hφ hacc (ix1 l) := by
  rw [multiReduction_maximumf_eq_reduceFold, multiReduction_maximumf_eq_reduceFold]
  exact reduceFold_congr_row _ _ _ _ _ l hxy

/-- A row's greatest score reads that row of the scores. -/
theorem pay20_congr (X1 Y1 : Vec F S1x2048x80 .f32) (l : Fin 2048)
    (h1 : ∀ k : Fin 80, X1 (ix3 0 l k) = Y1 (ix3 0 l k)) : k0_pay20 X1 (ix1 l) = k0_pay20 Y1 (ix1 l) := by
  refine maxRed_congr_row _ _ _ _ (.inl rfl) rfl l fun k => ?_
  pointwise [k0_pay19]
  exact h1 k

/-- A lane of the masked scores is computed from that lane of the anchors, the scores and the deltas. -/
theorem outMask_congr (X0 Y0 : Vec F S1x4x2048 .f32) (X1 Y1 : Vec F S1x2048x80 .f32) (X2 Y2 : Vec F S1x4x2048 .f32) (l : Fin 2048)
    (h0 : ∀ k : Fin 4, X0 (ix3 0 k l) = Y0 (ix3 0 k l)) (h1 : ∀ k : Fin 80, X1 (ix3 0 l k) = Y1 (ix3 0 l k))
    (h2 : ∀ k : Fin 4, X2 (ix3 0 k l) = Y2 (ix3 0 k l)) :
    outMask X0 X1 X2 (ix3 0 0 l) = outMask Y0 Y1 Y2 (ix3 0 0 l) := by
  have hm := pay20_congr X1 Y1 l h1
  pointwise [outMask, k0_pay2, k0_pay3, k0_pay4, k0_pay5, k0_pay6, k0_pay7, k0_pay8, k0_pay9, k0_pay10, k0_pay11, k0_pay12, k0_pay13, k0_pay14, k0_pay15, k0_pay16, k0_pay17]
  simp only [h0, h2, hm]

/-- A lane of the class numbers is computed from that lane of the scores. -/
theorem outCls_congr (X1 Y1 : Vec F S1x2048x80 .f32) (l : Fin 2048)
    (h1 : ∀ k : Fin 80, X1 (ix3 0 l k) = Y1 (ix3 0 l k)) : outCls X1 (ix3 0 0 l) = outCls Y1 (ix3 0 0 l) := by
  have hm := pay20_congr X1 Y1 l h1
  pointwise [outCls, k0_pay1, k0_pay19, k0_pay21]
  simp only [h1, hm]

end Cert.Own.KernelIdeal

end
-- ==== Proof.Region0.lean ====
/-
  The decode region: the proof data of its pipeline, its body obligation at every grid point, and its three result arrays
  after the run in closed form.
-/
module

public import proofs.«01_k».proof.Proof.Decode

@[expose] public section

noncomputable section

namespace Cert.Own.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three result arrays -/

/-- The lane position of row `n` in its block. -/
def lane (n : Fin 20000) : Fin 2048 := ⟨n.val % 2048, Nat.mod_lt _ (by decide)⟩

/-- The masked score of row `n` of batch `b`: what the body computes in that lane when every lane holds that row. -/
def maskAt (A : FVec F S1x4x20000 .f32) (S : FVec F S4x20000x80 .f32) (D : FVec F S4x4x20000 .f32) (b : Fin 4) (n : Fin 20000) : F .f32 :=
  outMask (fun p : S1x4x2048.Idx => A (ix3 0 (p 1) n)) (fun p : S1x2048x80.Idx => S (ix3 b n (p 2)))
    (fun p : S1x4x2048.Idx => D (ix3 b (p 1) n)) (ix3 0 0 (lane n))

/-- Its class number, -/
def clsAt (S : FVec F S4x20000x80 .f32) (b : Fin 4) (n : Fin 20000) : BitVec 32 :=
  outCls (fun p : S1x2048x80.Idx => S (ix3 b n (p 2))) (ix3 0 0 (lane n))

/-- and coordinate `k` of its box. -/
def boxAt (A : FVec F S1x4x20000 .f32) (D : FVec F S4x4x20000 .f32) (b : Fin 4) (k : Fin 4) (n : Fin 20000) : F .f32 :=
  outBox (fun p : S1x4x2048.Idx => A (ix3 0 (p 1) n)) (fun p : S1x4x2048.Idx => D (ix3 b (p 1) n)) (ix3 0 k (lane n))

def maskArr (A : FVec F S1x4x20000 .f32) (S : FVec F S4x20000x80 .f32) (D : FVec F S4x4x20000 .f32) : FVec F S4x1x20000 .f32 :=
  fun i => maskAt A S D (i 0) (i 2)
def clsArr (S : FVec F S4x20000x80 .f32) : IVec S4x1x20000 32 := fun i => clsAt S (i 0) (i 2)
def boxArr (A : FVec F S1x4x20000 .f32) (D : FVec F S4x4x20000 .f32) : FVec F S4x4x20000 .f32 :=
  fun i => boxAt A D (i 0) (i 1) (i 2)

/-! ## Where the blocks sit -/

/-- How many rows of point `t`'s block are inside the arrays. -/
def rows (t : Fin grid0.N) : Nat := if t.val % 10 = 9 then 1568 else 2048

theorem geom_0 : ∀ t : Fin grid0.N, win0_0.index t 0 = 0 ∧ win0_0.index t 1 = 0 ∧ win0_0.index t 2 = t.val % 10
    ∧ win0_0.xsize (grid0.coords t) 0 = 1 ∧ win0_0.xsize (grid0.coords t) 1 = 4 ∧ win0_0.xsize (grid0.coords t) 2 = rows t := by decide +kernel
theorem geom_1 : ∀ t : Fin grid0.N, win0_1.index t 0 = t.val / 10 ∧ win0_1.index t 1 = t.val % 10 ∧ win0_1.index t 2 = 0
    ∧ win0_1.xsize (grid0.coords t) 0 = 1 ∧ win0_1.xsize (grid0.coords t) 1 = rows t ∧ win0_1.xsize (grid0.coords t) 2 = 80 := by decide +kernel
theorem geom_2 : ∀ t : Fin grid0.N, win0_2.index t 0 = t.val / 10 ∧ win0_2.index t 1 = 0 ∧ win0_2.index t 2 = t.val % 10
    ∧ win0_2.xsize (grid0.coords t) 0 = 1 ∧ win0_2.xsize (grid0.coords t) 1 = 4 ∧ win0_2.xsize (grid0.coords t) 2 = rows t := by decide +kernel
theorem geom_3 : ∀ t : Fin grid0.N, win0_3.index t 0 = t.val / 10 ∧ win0_3.index t 1 = 0 ∧ win0_3.index t 2 = t.val % 10
    ∧ win0_3.xsize (grid0.coords t) 0 = 1 ∧ win0_3.xsize (grid0.coords t) 1 = 1 ∧ win0_3.xsize (grid0.coords t) 2 = rows t := by decide +kernel
theorem geom_4 : ∀ t : Fin grid0.N, win0_4.index t 0 = t.val / 10 ∧ win0_4.index t 1 = 0 ∧ win0_4.index t 2 = t.val % 10
    ∧ win0_4.xsize (grid0.coords t) 0 = 1 ∧ win0_4.xsize (grid0.coords t) 1 = 1 ∧ win0_4.xsize (grid0.coords t) 2 = rows t := by decide +kernel
theorem geom_5 : ∀ t : Fin grid0.N, win0_5.index t 0 = t.val / 10 ∧ win0_5.index t 1 = 0 ∧ win0_5.index t 2 = t.val % 10
    ∧ win0_5.xsize (grid0.coords t) 0 = 1 ∧ win0_5.xsize (grid0.coords t) 1 = 4 ∧ win0_5.xsize (grid0.coords t) 2 = rows t := by decide +kernel

theorem rows_bound (t : Fin grid0.N) (l : Fin 2048) (h : l.val < rows t) : t.val % 10 * 2048 + l.val < 20000 := by
  unfold rows at h; split at h <;> omega

theorem t_div (t : Fin grid0.N) : t.val / 10 < 4 := by have : t.val < 40 := lt_of_lt_of_eq t.isLt N_0; omega

/-- The row in the arrays of lane `l` of point `t`'s block, -/
def rowOf (t : Fin grid0.N) (l : Fin 2048) (h : l.val < rows t) : Fin 20000 := ⟨t.val % 10 * 2048 + l.val, rows_bound t l h⟩
/-- and its batch. -/
def batchOf (t : Fin grid0.N) : Fin 4 := ⟨t.val / 10, t_div t⟩

theorem lane_rowOf (t : Fin grid0.N) (l : Fin 2048) (h : l.val < rows t) : lane (rowOf t l h) = l :=
  Fin.ext (by show (t.val % 10 * 2048 + l.val) % 2048 = l.val; have := l.isLt; omega)

/-- A fetched block of the anchors at a lane inside the array. -/
theorem fill_0 (t : Fin grid0.N) (A : FVec F S1x4x20000 .f32) (d : FVec F S1x4x2048 .f32) (l : Fin 2048) (h : l.val < rows t) (k : Fin 4) :
    win0_0.fill (grid0.coords t) d ((win0_0.blk t).view.read (Elt F) A) (ix3 0 k l) = A (ix3 0 k (rowOf t l h)) := by
  obtain ⟨i0, i1, i2, x0, x1, x2⟩ := geom_0 t
  have hm : win0_0.moved (grid0.coords t) (ix3 0 k l) = true := (win0_0.moved_iff _ _).mpr fun a => by
    match a with
    | ⟨0, _⟩ => exact x0.symm ▸ Nat.one_pos
    | ⟨1, _⟩ => exact x1.symm ▸ k.isLt
    | ⟨2, _⟩ => exact x2.symm ▸ h
  unfold Window.fill
  rw [dif_pos hm]
  show A ((win0_0.rect t).emb _) = _
  congr 1
  funext a
  apply Fin.ext
  rw [Window.rect_emb_val win0_0]
  match a with
  | ⟨0, _⟩ => show win0_0.index t 0 * 1 + 0 = 0; rw [i0]
  | ⟨1, _⟩ => show win0_0.index t 1 * 4 + k.val = k.val; rw [i1]; omega
  | ⟨2, _⟩ => show win0_0.index t 2 * 2048 + l.val = _; rw [i2]; rfl

/-- A fetched block of the deltas. -/
theorem fill_2 (t : Fin grid0.N) (A : FVec F S4x4x20000 .f32) (d : FVec F S1x4x2048 .f32) (l : Fin 2048) (h : l.val < rows t) (k : Fin 4) :
    win0_2.fill (grid0.coords t) d ((win0_2.blk t).view.read (Elt F) A) (ix3 0 k l) = A (ix3 (batchOf t) k (rowOf t l h)) := by
  obtain ⟨i0, i1, i2, x0, x1, x2⟩ := geom_2 t
  have hm : win0_2.moved (grid0.coords t) (ix3 0 k l) = true := (win0_2.moved_iff _ _).mpr fun a => by
    match a with
    | ⟨0, _⟩ => exact x0.symm ▸ Nat.one_pos
    | ⟨1, _⟩ => exact x1.symm ▸ k.isLt
    | ⟨2, _⟩ => exact x2.symm ▸ h
  unfold Window.fill
  rw [dif_pos hm]
  show A ((win0_2.rect t).emb _) = _
  congr 1
  funext a
  apply Fin.ext
  rw [Window.rect_emb_val win0_2]
  match a with
  | ⟨0, _⟩ => show win0_2.index t 0 * 1 + 0 = _; rw [i0]; show t.val / 10 * 1 + 0 = t.val / 10; omega
  | ⟨1, _⟩ => show win0_2.index t 1 * 4 + k.val = k.val; rw [i1]; omega
  | ⟨2, _⟩ => show win0_2.index t 2 * 2048 + l.val = _; rw [i2]; rfl

/-- A fetched block of the scores. -/
theorem fill_1 (t : Fin grid0.N) (A : FVec F S4x20000x80 .f32) (d : FVec F S1x2048x80 .f32) (l : Fin 2048) (h : l.val < rows t) (k : Fin 80) :
    win0_1.fill (grid0.coords t) d ((win0_1.blk t).view.read (Elt F) A) (ix3 0 l k) = A (ix3 (batchOf t) (rowOf t l h) k) := by
  obtain ⟨i0, i1, i2, x0, x1, x2⟩ := geom_1 t
  have hm : win0_1.moved (grid0.coords t) (ix3 0 l k) = true := (win0_1.moved_iff _ _).mpr fun a => by
    match a with
    | ⟨0, _⟩ => exact x0.symm ▸ Nat.one_pos
    | ⟨1, _⟩ => exact x1.symm ▸ h
    | ⟨2, _⟩ => exact x2.symm ▸ k.isLt
  unfold Window.fill
  rw [dif_pos hm]
  show A ((win0_1.rect t).emb _) = _
  congr 1
  funext a
  apply Fin.ext
  rw [Window.rect_emb_val win0_1]
  match a with
  | ⟨0, _⟩ => show win0_1.index t 0 * 1 + 0 = _; rw [i0]; show t.val / 10 * 1 + 0 = t.val / 10; omega
  | ⟨1, _⟩ => show win0_1.index t 1 * 2048 + l.val = _; rw [i1]; rfl
  | ⟨2, _⟩ => show win0_1.index t 2 * 80 + k.val = k.val; rw [i2]; omega

/-! ## The write-backs -/

/-- What point `t` writes back of the masked scores is block `t` of `maskArr`. -/
theorem cut_3 (t : Fin grid0.N) (A : FVec F S1x4x20000 .f32) (S : FVec F S4x20000x80 .f32) (D : FVec F S4x4x20000 .f32)
    (d0 : FVec F S1x4x2048 .f32) (d1 : FVec F S1x2048x80 .f32) (d2 : FVec F S1x4x2048 .f32) :
    win0_3.cut (grid0.coords t) (outMask (win0_0.fill (grid0.coords t) d0 ((win0_0.blk t).view.read (Elt F) A))
        (win0_1.fill (grid0.coords t) d1 ((win0_1.blk t).view.read (Elt F) S)) (win0_2.fill (grid0.coords t) d2 ((win0_2.blk t).view.read (Elt F) D)))
      = (win0_3.blk t).view.read (Elt F) (maskArr A S D) := by
  obtain ⟨i0, i1, i2, x0, x1, x2⟩ := geom_3 t
  funext j
  have j0 : (j 0).val < 1 := x0 ▸ (j 0).isLt
  have j1 : (j 1).val < 1 := x1 ▸ (j 1).isLt
  have j2 : (j 2).val < rows t := x2 ▸ (j 2).isLt
  have hl : (j 2).val < 2048 := by unfold rows at j2; split at j2 <;> omega
  have hj : win0_3.xinj (grid0.coords t) j = ix3 (0 : Fin 1) (0 : Fin 1) (⟨(j 2).val, hl⟩ : Fin 2048) := by
    funext a; apply Fin.ext
    match a with
    | ⟨0, _⟩ => show (j 0).val = 0; omega
    | ⟨1, _⟩ => show (j 1).val = 0; omega
    | ⟨2, _⟩ => rfl
  have he : (win0_3.rect t).emb j = ix3 (batchOf t) (0 : Fin 1) (rowOf t ⟨(j 2).val, hl⟩ j2) := by
    funext a; apply Fin.ext
    rw [Window.rect_emb_val win0_3]
    match a with
    | ⟨0, _⟩ => show win0_3.index t 0 * 1 + (j 0).val = t.val / 10; rw [i0]; omega
    | ⟨1, _⟩ => show win0_3.index t 1 * 1 + (j 1).val = 0; rw [i1]; omega
    | ⟨2, _⟩ => show win0_3.index t 2 * 2048 + (j 2).val = _; rw [i2]; rfl
  show outMask _ _ _ (win0_3.xinj (grid0.coords t) j) = maskArr A S D ((win0_3.rect t).emb j)
  rw [hj, he]
  show _ = maskAt A S D (batchOf t) (rowOf t ⟨(j 2).val, hl⟩ j2)
  unfold maskAt
  rw [lane_rowOf]
  refine outMask_congr _ _ _ _ _ _ _ (fun k => ?_) (fun k => ?_) fun k => ?_
  · exact fill_0 t A d0 ⟨(j 2).val, hl⟩ j2 k
  · exact fill_1 t S d1 ⟨(j 2).val, hl⟩ j2 k
  · exact fill_2 t D d2 ⟨(j 2).val, hl⟩ j2 k

/-- A block of the class numbers' window, lane by lane. -/
theorem cut_read_4 (t : Fin grid0.N) (X : IVec S1x1x2048 32) (G : IVec S4x1x20000 32)
    (h : ∀ (l : Fin 2048) (hl : l.val < rows t), X (ix3 0 0 l) = G (ix3 (batchOf t) 0 (rowOf t l hl))) :
    win0_4.cut (grid0.coords t) X = (win0_4.blk t).view.read (Elt F) G := by
  obtain ⟨i0, i1, i2, x0, x1, x2⟩ := geom_4 t
  funext j
  have j0 : (j 0).val < 1 := x0 ▸ (j 0).isLt
  have j1 : (j 1).val < 1 := x1 ▸ (j 1).isLt
  have j2 : (j 2).val < rows t := x2 ▸ (j 2).isLt
  have hl : (j 2).val < 2048 := by unfold rows at j2; split at j2 <;> omega
  have hj : win0_4.xinj (grid0.coords t) j = ix3 (0 : Fin 1) (0 : Fin 1) (⟨(j 2).val, hl⟩ : Fin 2048) := by
    funext a; apply Fin.ext
    match a with
    | ⟨0, _⟩ => show (j 0).val = 0; omega
    | ⟨1, _⟩ => show (j 1).val = 0; omega
    | ⟨2, _⟩ => rfl
  have he : (win0_4.rect t).emb j = ix3 (batchOf t) (0 : Fin 1) (rowOf t ⟨(j 2).val, hl⟩ j2) := by
    funext a; apply Fin.ext
    rw [Window.rect_emb_val win0_4]
    match a with
    | ⟨0, _⟩ => show win0_4.index t 0 * 1 + (j 0).val = t.val / 10; rw [i0]; omega
    | ⟨1, _⟩ => show win0_4.index t 1 * 1 + (j 1).val = 0; rw [i1]; omega
    | ⟨2, _⟩ => show win0_4.index t 2 * 2048 + (j 2).val = _; rw [i2]; rfl
  show X (win0_4.xinj (grid0.coords t) j) = G ((win0_4.rect t).emb j)
  rw [hj, he]
  exact h ⟨(j 2).val, hl⟩ j2

/-- What it writes back of the class numbers is block `t` of `clsArr`. -/
theorem cut_4 (t : Fin grid0.N) (S : FVec F S4x20000x80 .f32) (d1 : FVec F S1x2048x80 .f32) :
    win0_4.cut (grid0.coords t) (outCls (win0_1.fill (grid0.coords t) d1 ((win0_1.blk t).view.read (Elt F) S)))
      = (win0_4.blk t).view.read (Elt F) (clsArr S) := by
  refine cut_read_4 t _ _ fun l hl => ?_
  rw [show clsArr S (ix3 (batchOf t) 0 (rowOf t l hl)) = clsAt S (batchOf t) (rowOf t l hl) from rfl]
  unfold clsAt
  rw [lane_rowOf]
  exact outCls_congr _ _ l fun k => fill_1 t S d1 l hl k

/-- What it writes back of the boxes is block `t` of `boxArr`. -/
theorem cut_5 (t : Fin grid0.N) (A : FVec F S1x4x20000 .f32) (D : FVec F S4x4x20000 .f32)
    (d0 : FVec F S1x4x2048 .f32) (d2 : FVec F S1x4x2048 .f32) :
    win0_5.cut (grid0.coords t) (outBox (win0_0.fill (grid0.coords t) d0 ((win0_0.blk t).view.read (Elt F) A))
        (win0_2.fill (grid0.coords t) d2 ((win0_2.blk t).view.read (Elt F) D)))
      = (win0_5.blk t).view.read (Elt F) (boxArr A D) := by
  obtain ⟨i0, i1, i2, x0, x1, x2⟩ := geom_5 t
  funext j
  have j0 : (j 0).val < 1 := x0 ▸ (j 0).isLt
  have j1 : (j 1).val < 4 := x1 ▸ (j 1).isLt
  have j2 : (j 2).val < rows t := x2 ▸ (j 2).isLt
  have hl : (j 2).val < 2048 := by unfold rows at j2; split at j2 <;> omega
  have hj : win0_5.xinj (grid0.coords t) j = ix3 (0 : Fin 1) (⟨(j 1).val, j1⟩ : Fin 4) (⟨(j 2).val, hl⟩ : Fin 2048) := by
    funext a; apply Fin.ext
    match a with
    | ⟨0, _⟩ => show (j 0).val = 0; omega
    | ⟨1, _⟩ => rfl
    | ⟨2, _⟩ => rfl
  have he : (win0_5.rect t).emb j = ix3 (batchOf t) (⟨(j 1).val, j1⟩ : Fin 4) (rowOf t ⟨(j 2).val, hl⟩ j2) := by
    funext a; apply Fin.ext
    rw [Window.rect_emb_val win0_5]
    match a with
    | ⟨0, _⟩ => show win0_5.index t 0 * 1 + (j 0).val = t.val / 10; rw [i0]; omega
    | ⟨1, _⟩ => show win0_5.index t 1 * 4 + (j 1).val = (j 1).val; rw [i1]; omega
    | ⟨2, _⟩ => show win0_5.index t 2 * 2048 + (j 2).val = _; rw [i2]; rfl
  show outBox _ _ (win0_5.xinj (grid0.coords t) j) = boxArr A D ((win0_5.rect t).emb j)
  rw [hj, he]
  show _ = boxAt A D (batchOf t) ⟨(j 1).val, j1⟩ (rowOf t ⟨(j 2).val, hl⟩ j2)
  unfold boxAt
  rw [lane_rowOf]
  exact outBox_congr _ _ _ _ _ (fun k => fill_0 t A d0 ⟨(j 2).val, hl⟩ j2 k) (fun k => fill_2 t D d2 ⟨(j 2).val, hl⟩ j2 k) _

/-! ## The proof data -/

/-- The zero word, filling a block past its array's end where nothing reads it. -/
abbrev z32 : F .f32 := Scalar.ofBits .f32 0#32

/-- The decode pipeline's data on device `c`, entered with the buffers at `V`: after the body the inputs' staging buffers
    hold their blocks and the outputs' theirs of the three closed-form arrays. -/
def dat0 (V : Valuation τ sig (Elt F)) (c : Dev nD) : Dat τ (Elt F) Unit ℕ (UR sig nD τ) ℕ cfg0 c where
  A w := V (Proc.devRef .tc (Pipeline.arrRef cfg0.spec w))
  after w t := match w with
    | ⟨0, _⟩ => win0_0.fill (grid0.coords t) (fun _ => z32) ((win0_0.blk t).view.read (Elt F) (V (Proc.devRef .tc main_v1)))
    | ⟨1, _⟩ => win0_1.fill (grid0.coords t) (fun _ => z32) ((win0_1.blk t).view.read (Elt F) (V (Proc.devRef .tc main_arg1)))
    | ⟨2, _⟩ => win0_2.fill (grid0.coords t) (fun _ => z32) ((win0_2.blk t).view.read (Elt F) (V (Proc.devRef .tc main_v2)))
    | ⟨3, _⟩ => win0_3.fill (grid0.coords t) (fun _ => z32) ((win0_3.blk t).view.read (Elt F)
        (maskArr (V (Proc.devRef .tc main_v1)) (V (Proc.devRef .tc main_arg1)) (V (Proc.devRef .tc main_v2))))
    | ⟨4, _⟩ => win0_4.fill (grid0.coords t) (fun _ => (0#32 : BitVec 32)) ((win0_4.blk t).view.read (Elt F) (clsArr (V (Proc.devRef .tc main_arg1))))
    | ⟨5, _⟩ => win0_5.fill (grid0.coords t) (fun _ => z32) ((win0_5.blk t).view.read (Elt F)
        (boxArr (V (Proc.devRef .tc main_v1)) (V (Proc.devRef .tc main_v2))))
  Φ _ := Pipeline.scopedRest (Ix := Unit) (Name := ℕ) (U := UR sig nD τ) (Lvl := ℕ) spec0 c
  q _ := fullShare
  owed _ := 0

variable (V : Valuation τ sig (Elt F)) (c : Dev nD)

theorem before_0 (t : Fin cfg0.N) (d) :
    (dat0 V c).before (0 : Fin 6) t d = win0_0.fill (grid0.coords t) d ((win0_0.blk t).view.read (Elt F) (V (Proc.devRef .tc main_v1))) := by
  unfold Dat.before; rw [if_pos (fetch0_0 t)]; rfl
theorem before_1 (t : Fin cfg0.N) (d) :
    (dat0 V c).before (1 : Fin 6) t d = win0_1.fill (grid0.coords t) d ((win0_1.blk t).view.read (Elt F) (V (Proc.devRef .tc main_arg1))) := by
  unfold Dat.before; rw [if_pos (fetch0_1 t)]; rfl
theorem before_2 (t : Fin cfg0.N) (d) :
    (dat0 V c).before (2 : Fin 6) t d = win0_2.fill (grid0.coords t) d ((win0_2.blk t).view.read (Elt F) (V (Proc.devRef .tc main_v2))) := by
  unfold Dat.before; rw [if_pos (fetch0_2 t)]; rfl

set_option maxHeartbeats 1000000 in
/-- The body obligation of the decode pipeline. -/
theorem body0 : BodyObligationLoose (dat0 V c) defs₀ Variants.none () Set.univ := by
  intro t
  rw [bigSep_W0, bigSep_W0]
  simp only
  rw [show (dat0 V c).Φ t.succ = (dat0 V c).Φ t.castSucc from rfl, show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0, before_1, before_2]
  iapply (decode_body c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5))
    (win0_0.fill (grid0.coords t) d0 ((win0_0.blk t).view.read (Elt F) (V (Proc.devRef .tc main_v1))))
    (win0_1.fill (grid0.coords t) d1 ((win0_1.blk t).view.read (Elt F) (V (Proc.devRef .tc main_arg1))))
    (win0_2.fill (grid0.coords t) d2 ((win0_2.blk t).view.read (Elt F) (V (Proc.devRef .tc main_v2)))))
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]
  · iexists d0
    change _ ⊢ owns (c : Thread nD τ) (win0_0.stage (cfg0.slots t 0)) fullShare (win0_0.fill (grid0.coords t) d0 (win0_0.cut (grid0.coords t)
      (win0_0.fill (grid0.coords t) (fun _ => z32) ((win0_0.blk t).view.read (Elt F) (V (Proc.devRef .tc main_v1))))))
    rw [Window.cut_fill]
  isplitl [H1]
  · iexists d1
    change _ ⊢ owns (c : Thread nD τ) (win0_1.stage (cfg0.slots t 1)) fullShare (win0_1.fill (grid0.coords t) d1 (win0_1.cut (grid0.coords t)
      (win0_1.fill (grid0.coords t) (fun _ => z32) ((win0_1.blk t).view.read (Elt F) (V (Proc.devRef .tc main_arg1))))))
    rw [Window.cut_fill]
  isplitl [H2]
  · iexists d2
    change _ ⊢ owns (c : Thread nD τ) (win0_2.stage (cfg0.slots t 2)) fullShare (win0_2.fill (grid0.coords t) d2 (win0_2.cut (grid0.coords t)
      (win0_2.fill (grid0.coords t) (fun _ => z32) ((win0_2.blk t).view.read (Elt F) (V (Proc.devRef .tc main_v2))))))
    rw [Window.cut_fill]
  isplitl [H3]
  · iexists (outMask (win0_0.fill (grid0.coords t) d0 ((win0_0.blk t).view.read (Elt F) (V (Proc.devRef .tc main_v1))))
      (win0_1.fill (grid0.coords t) d1 ((win0_1.blk t).view.read (Elt F) (V (Proc.devRef .tc main_arg1))))
      (win0_2.fill (grid0.coords t) d2 ((win0_2.blk t).view.read (Elt F) (V (Proc.devRef .tc main_v2)))))
    change _ ⊢ owns (c : Thread nD τ) (win0_3.stage (cfg0.slots t 3)) fullShare (win0_3.fill (grid0.coords t) _ (win0_3.cut (grid0.coords t)
      (win0_3.fill (grid0.coords t) (fun _ => z32) ((win0_3.blk t).view.read (Elt F)
        (maskArr (V (Proc.devRef .tc main_v1)) (V (Proc.devRef .tc main_arg1)) (V (Proc.devRef .tc main_v2)))))))
    rw [Window.cut_fill, ← cut_3 t _ _ _ d0 d1 d2, Window.fill_cut]
  isplitl [H4]
  · iexists (outCls (win0_1.fill (grid0.coords t) d1 ((win0_1.blk t).view.read (Elt F) (V (Proc.devRef .tc main_arg1)))))
    change _ ⊢ owns (c : Thread nD τ) (win0_4.stage (cfg0.slots t 4)) fullShare (win0_4.fill (grid0.coords t) _ (win0_4.cut (grid0.coords t)
      (win0_4.fill (grid0.coords t) (fun _ => (0#32 : BitVec 32)) ((win0_4.blk t).view.read (Elt F) (clsArr (V (Proc.devRef .tc main_arg1)))))))
    rw [Window.cut_fill, ← cut_4 t _ d1, Window.fill_cut]
  · iexists (outBox (win0_0.fill (grid0.coords t) d0 ((win0_0.blk t).view.read (Elt F) (V (Proc.devRef .tc main_v1))))
      (win0_2.fill (grid0.coords t) d2 ((win0_2.blk t).view.read (Elt F) (V (Proc.devRef .tc main_v2)))))
    change _ ⊢ owns (c : Thread nD τ) (win0_5.stage (cfg0.slots t 5)) fullShare (win0_5.fill (grid0.coords t) _ (win0_5.cut (grid0.coords t)
      (win0_5.fill (grid0.coords t) (fun _ => z32) ((win0_5.blk t).view.read (Elt F)
        (boxArr (V (Proc.devRef .tc main_v1)) (V (Proc.devRef .tc main_v2)))))))
    rw [Window.cut_fill, ← cut_5 t _ _ d0 d2, Window.fill_cut]

/-! ## The arrays after the run -/

/-- The point whose block row `n` of batch `b` is in. -/
def pointOf (b : Fin 4) (n : Fin 20000) : Fin grid0.N := ⟨b.val * 10 + n.val / 2048, by rw [N_0]; have := n.isLt; have := b.isLt; omega⟩

theorem pointOf_div (b : Fin 4) (n : Fin 20000) : (pointOf b n).val / 10 = b.val := by
  show (b.val * 10 + n.val / 2048) / 10 = b.val; have := n.isLt; omega
theorem pointOf_mod (b : Fin 4) (n : Fin 20000) : (pointOf b n).val % 10 = n.val / 2048 := by
  show (b.val * 10 + n.val / 2048) % 10 = n.val / 2048; have := n.isLt; omega
theorem pointOf_rows (b : Fin 4) (n : Fin 20000) : n.val < n.val / 2048 * 2048 + rows (pointOf b n) := by
  unfold rows; rw [pointOf_mod]; have := n.isLt; split <;> omega

theorem mask_end : (dat0 V c).arrAt (3 : Fin 6) cfg0.N
    = maskArr (V (Proc.devRef .tc main_v1)) (V (Proc.devRef .tc main_arg1)) (V (Proc.devRef .tc main_v2)) := by
  refine Dat.arrAt_eq_of_cover (dat0 V c) (3 : Fin 6) _ (fun t _ => ?_) fun i => ?_
  · exact Window.cut_fill win0_3 _ _ _
  · have i0 : (i 0 : Nat) < 4 := (i 0).isLt
    have i1 : (i 1 : Nat) < 1 := (i 1).isLt
    have i2 : (i 2 : Nat) < 20000 := (i 2).isLt
    have hr := pointOf_rows ⟨(i 0 : Nat), i0⟩ ⟨(i 2 : Nat), i2⟩
    have hd := pointOf_div ⟨(i 0 : Nat), i0⟩ ⟨(i 2 : Nat), i2⟩
    have hm := pointOf_mod ⟨(i 0 : Nat), i0⟩ ⟨(i 2 : Nat), i2⟩
    generalize pointOf ⟨(i 0 : Nat), i0⟩ ⟨(i 2 : Nat), i2⟩ = t at hr hd hm
    refine ⟨t, flush0_3 t, ?_⟩
    obtain ⟨g0, g1, g2, x0, x1, x2⟩ := geom_3 t
    show i ∈ ((View.whole main_v3_0).slice (win0_3.rect t)).set
    rw [View.set_slice_whole, Rect.mem_set_unit]
    simp only at hd hm hr
    intro a
    match a with
    | ⟨0, _⟩ => show win0_3.index t 0 * 1 ≤ (i 0 : Nat) ∧ (i 0 : Nat) < win0_3.index t 0 * 1 + win0_3.xsize (grid0.coords t) 0; rw [g0, x0]; omega
    | ⟨1, _⟩ => show win0_3.index t 1 * 1 ≤ (i 1 : Nat) ∧ (i 1 : Nat) < win0_3.index t 1 * 1 + win0_3.xsize (grid0.coords t) 1; rw [g1, x1]; omega
    | ⟨2, _⟩ => show win0_3.index t 2 * 2048 ≤ (i 2 : Nat) ∧ (i 2 : Nat) < win0_3.index t 2 * 2048 + win0_3.xsize (grid0.coords t) 2; rw [g2, x2]; omega

theorem cls_end : (dat0 V c).arrAt (4 : Fin 6) cfg0.N = clsArr (V (Proc.devRef .tc main_arg1)) := by
  refine Dat.arrAt_eq_of_cover (dat0 V c) (4 : Fin 6) _ (fun t _ => ?_) fun i => ?_
  · exact Window.cut_fill win0_4 _ _ _
  · have i0 : (i 0 : Nat) < 4 := (i 0).isLt
    have i1 : (i 1 : Nat) < 1 := (i 1).isLt
    have i2 : (i 2 : Nat) < 20000 := (i 2).isLt
    have hr := pointOf_rows ⟨(i 0 : Nat), i0⟩ ⟨(i 2 : Nat), i2⟩
    have hd := pointOf_div ⟨(i 0 : Nat), i0⟩ ⟨(i 2 : Nat), i2⟩
    have hm := pointOf_mod ⟨(i 0 : Nat), i0⟩ ⟨(i 2 : Nat), i2⟩
    generalize pointOf ⟨(i 0 : Nat), i0⟩ ⟨(i 2 : Nat), i2⟩ = t at hr hd hm
    refine ⟨t, flush0_4 t, ?_⟩
    obtain ⟨g0, g1, g2, x0, x1, x2⟩ := geom_4 t
    show i ∈ ((View.whole main_v3_1).slice (win0_4.rect t)).set
    rw [View.set_slice_whole, Rect.mem_set_unit]
    simp only at hd hm hr
    intro a
    match a with
    | ⟨0, _⟩ => show win0_4.index t 0 * 1 ≤ (i 0 : Nat) ∧ (i 0 : Nat) < win0_4.index t 0 * 1 + win0_4.xsize (grid0.coords t) 0; rw [g0, x0]; omega
    | ⟨1, _⟩ => show win0_4.index t 1 * 1 ≤ (i 1 : Nat) ∧ (i 1 : Nat) < win0_4.index t 1 * 1 + win0_4.xsize (grid0.coords t) 1; rw [g1, x1]; omega
    | ⟨2, _⟩ => show win0_4.index t 2 * 2048 ≤ (i 2 : Nat) ∧ (i 2 : Nat) < win0_4.index t 2 * 2048 + win0_4.xsize (grid0.coords t) 2; rw [g2, x2]; omega

theorem box_end : (dat0 V c).arrAt (5 : Fin 6) cfg0.N = boxArr (V (Proc.devRef .tc main_v1)) (V (Proc.devRef .tc main_v2)) := by
  refine Dat.arrAt_eq_of_cover (dat0 V c) (5 : Fin 6) _ (fun t _ => ?_) fun i => ?_
  · exact Window.cut_fill win0_5 _ _ _
  · have i0 : (i 0 : Nat) < 4 := (i 0).isLt
    have i1 : (i 1 : Nat) < 4 := (i 1).isLt
    have i2 : (i 2 : Nat) < 20000 := (i 2).isLt
    have hr := pointOf_rows ⟨(i 0 : Nat), i0⟩ ⟨(i 2 : Nat), i2⟩
    have hd := pointOf_div ⟨(i 0 : Nat), i0⟩ ⟨(i 2 : Nat), i2⟩
    have hm := pointOf_mod ⟨(i 0 : Nat), i0⟩ ⟨(i 2 : Nat), i2⟩
    generalize pointOf ⟨(i 0 : Nat), i0⟩ ⟨(i 2 : Nat), i2⟩ = t at hr hd hm
    refine ⟨t, flush0_5 t, ?_⟩
    obtain ⟨g0, g1, g2, x0, x1, x2⟩ := geom_5 t
    show i ∈ ((View.whole main_v3_2).slice (win0_5.rect t)).set
    rw [View.set_slice_whole, Rect.mem_set_unit]
    simp only at hd hm hr
    intro a
    match a with
    | ⟨0, _⟩ => show win0_5.index t 0 * 1 ≤ (i 0 : Nat) ∧ (i 0 : Nat) < win0_5.index t 0 * 1 + win0_5.xsize (grid0.coords t) 0; rw [g0, x0]; omega
    | ⟨1, _⟩ => show win0_5.index t 1 * 4 ≤ (i 1 : Nat) ∧ (i 1 : Nat) < win0_5.index t 1 * 4 + win0_5.xsize (grid0.coords t) 1; rw [g1, x1]; omega
    | ⟨2, _⟩ => show win0_5.index t 2 * 2048 ≤ (i 2 : Nat) ∧ (i 2 : Nat) < win0_5.index t 2 * 2048 + win0_5.xsize (grid0.coords t) 2; rw [g2, x2]; omega

end Cert.Own.KernelIdeal

end
-- ==== Proof.Region1.lean ====
/-
  The suppression region: its body as a pure fold over the thousand trips, the proof data of its pipeline and its result
  array after the run.
-/
module

public import proofs.«01_k».proof.Proof.Own
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pointwise
public import Idealize.ShloMosaic.Lib.Exec.Context

@[expose] public section

noncomputable section

namespace Cert.Own.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- Coordinate `k` of the boxes, as the body loads it. -/
def coordRow (B : Vec F S4x4x1024 .f32) (k : Fin 4) : Vec F S4x1x1024 .f32 := fun i => B (ix3 (i 0) k (i 2))

/-- The lane numbers. -/
abbrev lanes : IVec S1x1024 32 := iota .tc S1x1024 32 [1] iota_S1x1024_d1_w32

/-- The keep mask after trip `t`, from the one before it. -/
def nmsStep (S : Vec F S4x1024 .f32) (B : Vec F S4x4x1024 .f32) (t : Fin k1_t1_loop.trips) (keep : FVec F S4x1024 .f32) : FVec F S4x1024 .f32 :=
  k1_pay14 S keep (Scf.iv 0#32 1#32 t)
    (k1_pay3 lanes (k1_pay12 S (coordRow B 0) (coordRow B 1) (coordRow B 2) (coordRow B 3)) 0#32 1#32 t)
    (k1_pay4 lanes 0#32 1#32 t keep)
    (k1_pay5 (k1_pay7 (coordRow B 0)) (k1_pay8 (coordRow B 1)) (k1_pay9 (coordRow B 2)) (k1_pay10 (coordRow B 3))
      (k1_pay11 (coordRow B 0) (coordRow B 1) (coordRow B 2) (coordRow B 3)) lanes
      (k1_pay12 S (coordRow B 0) (coordRow B 1) (coordRow B 2) (coordRow B 3)) 0#32 1#32 t)
    (Scalar.ofBits .f32 0x3F000000#32)

/-- The keep mask after every trip. -/
def nmsKeep (S : Vec F S4x1024 .f32) (B : Vec F S4x4x1024 .f32) : FVec F S4x1024 .f32 := Scf.fold (nmsStep S B) (k1_pay13 (F := F))

/-- The scores the body writes. -/
def nmsOut (S : Vec F S4x1024 .f32) (B : Vec F S4x4x1024 .f32) : Vec F S4x1024 .f32 := k1_pay15 S (nmsKeep S B)

theorem ld_row0 (B : Vec F S4x4x1024 .f32) : View.ld B (Rect.unit (s := S4x4x1024) ![0, 0, 0] S4x1x1024.size inb_S4x4x1024_S4x1x1024_0_0_0) = coordRow B 0 := by
  funext i; idx_vars i
  exact congrArg B (funext fun a => Fin.ext (by match a with | ⟨0, _⟩ => simp [Rect.unit] | ⟨1, _⟩ => simp [Rect.unit] | ⟨2, _⟩ => simp [Rect.unit]))
theorem ld_row1 (B : Vec F S4x4x1024 .f32) : View.ld B (Rect.unit (s := S4x4x1024) ![0, 1, 0] S4x1x1024.size inb_S4x4x1024_S4x1x1024_0_1_0) = coordRow B 1 := by
  funext i; idx_vars i
  exact congrArg B (funext fun a => Fin.ext (by match a with | ⟨0, _⟩ => simp [Rect.unit] | ⟨1, _⟩ => simp [Rect.unit] | ⟨2, _⟩ => simp [Rect.unit]))
theorem ld_row2 (B : Vec F S4x4x1024 .f32) : View.ld B (Rect.unit (s := S4x4x1024) ![0, 2, 0] S4x1x1024.size inb_S4x4x1024_S4x1x1024_0_2_0) = coordRow B 2 := by
  funext i; idx_vars i
  exact congrArg B (funext fun a => Fin.ext (by match a with | ⟨0, _⟩ => simp [Rect.unit] | ⟨1, _⟩ => simp [Rect.unit] | ⟨2, _⟩ => simp [Rect.unit]))
theorem ld_row3 (B : Vec F S4x4x1024 .f32) : View.ld B (Rect.unit (s := S4x4x1024) ![0, 3, 0] S4x1x1024.size inb_S4x4x1024_S4x1x1024_0_3_0) = coordRow B 3 := by
  funext i; idx_vars i
  exact congrArg B (funext fun a => Fin.ext (by match a with | ⟨0, _⟩ => simp [Rect.unit] | ⟨1, _⟩ => simp [Rect.unit] | ⟨2, _⟩ => simp [Rect.unit]))

/-- One trip of the body's loop is pure. -/
theorem trip_pure (a0 : Memref sig .tc .vmem S4x1024 .f32) (h0 : a0.IsWhole) (a1 : Memref sig .tc .vmem S4x4x1024 .f32) (h1 : a1.IsWhole)
    (a2 : Memref sig .tc .vmem S4x1024 .f32) (h2 : a2.IsWhole) (S : Vec F S4x1024 .f32) (B : Vec F S4x4x1024 .f32)
    (t : Fin k1_t1_loop.trips) (keep : FVec F S4x1024 .f32) :
    k1_t1_body a0 h0 a1 h1 a2 h2 S (coordRow B 0) (coordRow B 1) (coordRow B 2) (coordRow B 3) lanes t keep = .ret (nmsStep S B t keep) := by
  unfold k1_t1_body nmsStep
  rw [k1_part1_eq_skeleton]
  rfl

/-- So the loop returns its fold. -/
theorem loop_pure (a0 : Memref sig .tc .vmem S4x1024 .f32) (h0 : a0.IsWhole) (a1 : Memref sig .tc .vmem S4x4x1024 .f32) (h1 : a1.IsWhole)
    (a2 : Memref sig .tc .vmem S4x1024 .f32) (h2 : a2.IsWhole) (S : Vec F S4x1024 .f32) (B : Vec F S4x4x1024 .f32) (init : FVec F S4x1024 .f32) :
    Scf.Loop.for k1_t1_loop k1_t1_ok init (k1_t1_body a0 h0 a1 h1 a2 h2 S (coordRow B 0) (coordRow B 1) (coordRow B 2) (coordRow B 3)
      (iota .tc S1x1024 32 [1] iota_S1x1024_d1_w32)) = .ret (Scf.fold (nmsStep S B) init) :=
  Scf.for_pure _ _ _ _ _ _ (nmsStep S B) (fun k acc => trip_pure a0 h0 a1 h1 a2 h2 S B k acc)

/-- The body on any three staging buffers. -/
theorem nms_body (c : Dev nD) (E : Set ℕ)
    (a0 : Memref sig .tc .vmem S4x1024 .f32) (h0 : a0.IsWhole) (a1 : Memref sig .tc .vmem S4x4x1024 .f32) (h1 : a1.IsWhole)
    (a2 : Memref sig .tc .vmem S4x1024 .f32) (h2 : a2.IsWhole) (S : Vec F S4x1024 .f32) (B : Vec F S4x4x1024 .f32) (D2 : Vec F S4x1024 .f32)
    (K : PUnit → sProp 𝕄) :
    iprop((owns (c : Thread nD τ) a0 fullShare S ∗ owns (c : Thread nD τ) a1 fullShare B ∗ owns (c : Thread nD τ) a2 fullShare D2)
          ∗ (iprop(owns (c : Thread nD τ) a0 fullShare S ∗ owns (c : Thread nD τ) a1 fullShare B
            ∗ owns (c : Thread nD τ) a2 fullShare (nmsOut S B)) -∗ K ⟨⟩))
      ⊢ wp frame (wpE (defs₀ (F := F)) Variants.none c none) E (cc1__nms_kernel a0 h0 a1 h1 a2 h2) K := by
  have hz : (![0, 0] : Fin 2 → Nat) = fun _ => 0 := funext fun a => by fin_cases a <;> rfl
  unfold nmsOut nmsKeep
  rw [cc1__nms_kernel_eq_skeleton]
  unfold cc1__nms_kernel_skel
  rw [k1_part2_eq_skeleton]
  unfold k1_part2_skel
  simp only [Prog.lift, Prog.bind_op, Prog.bind_ret]
  iintro ⟨⟨H0, H1, H2⟩, Hk⟩
  iapply (wp_load_owns (defs := defs₀ (F := F)) Variants.none (c : Thread nD τ) none E (s := S4x1024) hz) $$ H0
  iintro H0
  iapply (wp_load_rect_owns (defs := defs₀ (F := F)) Variants.none (c : Thread nD τ) none E) $$ H1
  iintro H1
  iapply (wp_load_rect_owns (defs := defs₀ (F := F)) Variants.none (c : Thread nD τ) none E) $$ H1
  iintro H1
  iapply (wp_load_rect_owns (defs := defs₀ (F := F)) Variants.none (c : Thread nD τ) none E) $$ H1
  iintro H1
  iapply (wp_load_rect_owns (defs := defs₀ (F := F)) Variants.none (c : Thread nD τ) none E) $$ H1
  iintro H1
  rw [ld_row0, ld_row1, ld_row2, ld_row3]
  rw [loop_pure]
  simp only [Prog.bind_op, Prog.bind_ret, Prog.pure_eq_ret]
  iapply (wp_load_owns (defs := defs₀ (F := F)) Variants.none (c : Thread nD τ) none E (s := S4x1024) hz) $$ H2
  iintro H2
  iapply (wp_store_owns (defs := defs₀ (F := F)) Variants.none (c : Thread nD τ) none E (s := S4x1024) hz) $$ H2
  iintro H2
  sl_steps
  iapply Hk
  isplitl [H0]; · iexact H0
  isplitl [H1]; · iexact H1
  iexact H2

/-! ## The proof data -/

/-- The suppression pipeline's data on device `c`, entered with the buffers at `V`. -/
def dat1 (V : Valuation τ sig (Elt F)) (c : Dev nD) : Dat τ (Elt F) Unit ℕ (UR sig nD τ) ℕ cfg1 c where
  A w := V (Proc.devRef .tc (Pipeline.arrRef cfg1.spec w))
  after w t := match w with
    | ⟨0, _⟩ => (win1_0.blk t).view.read (Elt F) (V (Proc.devRef .tc main_v10))
    | ⟨1, _⟩ => (win1_1.blk t).view.read (Elt F) (V (Proc.devRef .tc main_v12))
    | ⟨2, _⟩ => nmsOut ((win1_0.blk t).view.read (Elt F) (V (Proc.devRef .tc main_v10))) ((win1_1.blk t).view.read (Elt F) (V (Proc.devRef .tc main_v12)))
  Φ _ := Pipeline.scopedRest (Ix := Unit) (Name := ℕ) (U := UR sig nD τ) (Lvl := ℕ) spec1 c
  q _ := fullShare
  owed _ := 0

variable (V : Valuation τ sig (Elt F)) (c : Dev nD)

theorem before1_0 (t : Fin cfg1.N) (d) :
    (dat1 V c).before (0 : Fin 3) t d = (win1_0.blk t).view.read (Elt F) (V (Proc.devRef .tc main_v10)) := by
  unfold Dat.before; rw [if_pos (fetch1_0 t)]; rfl
theorem before1_1 (t : Fin cfg1.N) (d) :
    (dat1 V c).before (1 : Fin 3) t d = (win1_1.blk t).view.read (Elt F) (V (Proc.devRef .tc main_v12)) := by
  unfold Dat.before; rw [if_pos (fetch1_1 t)]; rfl

/-- The body obligation of the suppression pipeline. -/
theorem body1 : BodyObligation (dat1 V c) defs₀ Variants.none () Set.univ := by
  intro t
  rw [bigSep_W1, bigSep_W1]
  simp only
  rw [show (dat1 V c).Φ t.succ = (dat1 V c).Φ t.castSucc from rfl, show (dat1 V c).owesAt () t.succ = (dat1 V c).owesAt () t.castSucc from rfl]
  iintro ⟨HΦ, Ho, ⟨%d0, H0⟩, ⟨%d1, H1⟩, ⟨%d2, H2⟩⟩
  rw [before1_0, before1_1]
  iapply (nms_body c Set.univ (win1_0.stage (cfg1.slots t 0)) (hstage1_0 0) (win1_1.stage (cfg1.slots t 1)) (hstage1_1 0)
    (win1_2.stage (cfg1.slots t 2)) (hstage1_2 0)
    ((win1_0.blk t).view.read (Elt F) (V (Proc.devRef .tc main_v10))) ((win1_1.blk t).view.read (Elt F) (V (Proc.devRef .tc main_v12))))
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]; · iexact H0
  isplitl [H1]; · iexact H1
  iexact H2

/-! ## The array after the run -/

theorem read1_0 (t : Fin cfg1.N) (A : FVec F S4x1024 .f32) : (win1_0.blk t).view.read (Elt F) A = A := by
  funext j
  show A ((win1_0.rect t).emb j) = A j
  congr 1
  funext a
  apply Fin.ext
  rw [Window.rect_emb_val win1_0]
  have : win1_0.index t a = 0 := by revert t a; decide +kernel
  rw [this]; simp
theorem read1_1 (t : Fin cfg1.N) (A : FVec F S4x4x1024 .f32) : (win1_1.blk t).view.read (Elt F) A = A := by
  funext j
  show A ((win1_1.rect t).emb j) = A j
  congr 1
  funext a
  apply Fin.ext
  rw [Window.rect_emb_val win1_1]
  have : win1_1.index t a = 0 := by revert t a; decide +kernel
  rw [this]; simp
theorem read1_2 (t : Fin cfg1.N) (A : FVec F S4x1024 .f32) : (win1_2.blk t).view.read (Elt F) A = A := by
  funext j
  show A ((win1_2.rect t).emb j) = A j
  congr 1
  funext a
  apply Fin.ext
  rw [Window.rect_emb_val win1_2]
  have : win1_2.index t a = 0 := by revert t a; decide +kernel
  rw [this]; simp

theorem nms_end : (dat1 V c).arrAt (2 : Fin 3) cfg1.N = nmsOut (V (Proc.devRef .tc main_v10)) (V (Proc.devRef .tc main_v12)) := by
  refine Dat.arrAt_eq_of_cover (dat1 V c) (2 : Fin 3) _ (fun t _ => ?_) fun i => ?_
  · refine Eq.trans ?_ (read1_2 t _).symm
    show nmsOut ((win1_0.blk t).view.read (Elt F) (V (Proc.devRef .tc main_v10))) ((win1_1.blk t).view.read (Elt F) (V (Proc.devRef .tc main_v12))) = _
    rw [read1_0, read1_1]
  · refine ⟨t1_0, flush1_2 _, ?_⟩
    show i ∈ ((View.whole main_v15).slice (win1_2.rect t1_0)).set
    rw [View.set_slice_whole, Rect.mem_set_unit]
    intro a
    have i0 : (i 0 : Nat) < 4 := (i 0).isLt
    have i1 : (i 1 : Nat) < 1024 := (i 1).isLt
    have e0 : ∀ a, win1_2.index t1_0 a = 0 := by decide +kernel
    match a with
    | ⟨0, _⟩ => show win1_2.index t1_0 0 * 4 ≤ (i 0 : Nat) ∧ (i 0 : Nat) < win1_2.index t1_0 0 * 4 + 4; rw [e0]; omega
    | ⟨1, _⟩ => show win1_2.index t1_0 1 * 1024 ≤ (i 1 : Nat) ∧ (i 1 : Nat) < win1_2.index t1_0 1 * 1024 + 1024; rw [e0]; omega

end Cert.Own.KernelIdeal

end
-- ==== Proof.Launch.lean ====
/-
  The launch: the two regions as segments over the buffers, and the run of the whole program with its results named.
-/
module

public import proofs.«01_k».proof.Proof.Region0
public import proofs.«01_k».proof.Proof.Region1
public import proofs.«01_k».proof.Proof.Gen.KernelIdeal.Regions
public import Idealize.ShloMosaic.Lib.Pipeline.RegionArraysS

@[expose] public section

noncomputable section

namespace Cert.Own.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds

variable {F : FTy → Type} [FloatOps F]

local notation "𝕄" => MT nD τ sig Unit (Elt F) ℕ (UR sig nD τ) ℕ

/-! ## The run, given the regions' records -/

section
variable (m : (ℓ : Loc nD τ sig) → Buf (Elt F) ℓ) (outs : Outs (F := F))
open Idealize.ShloMosaic.Rounds
set_option backward.isDefEq.respectTransparency.types false in
/-- The run of the program from the regions' records: it terminates with the results at the last valuation, the arguments as
    launched and every semaphore at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c)) :
    θ_run defs (onTc (τ := τ) (main (F := F))) ⟨m, fun _ => 0, ρ⟩ (fun r => (∀ c : Dev nD,
      (r.2.mem ((c.tc : Thread nD τ).loc main_v24) = V17 m outs c main_v24
      ∧ r.2.mem ((c.tc : Thread nD τ).loc main_v25) = V17 m outs c main_v25
      ∧ r.2.mem ((c.tc : Thread nD τ).loc main_v26) = V17 m outs c main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m outs c))
    (hch := fun c => ⟨.rfl, hpre0 c, hpost0 c, .rfl, .rfl, .rfl, hpre1 c, hpost1 c, .rfl, .rfl, .rfl, .rfl, .rfl, .rfl, .rfl, .rfl, .rfl, sep_mono .rfl (hE2 c)⟩)
    (hinit := ?_) (QY := fun c s => (s.mem ((c.tc : Thread nD τ).loc main_v24) = V17 m outs c main_v24 ∧ s.mem ((c.tc : Thread nD τ).loc main_v25) = V17 m outs c main_v25
      ∧ s.mem ((c.tc : Thread nD τ).loc main_v26) = V17 m outs c main_v26) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro
      exact ⟨⟨h (Proc.devRef .tc main_v24) (Finset.mem_filter.mpr ⟨StableHlo.devRef_mem_tcRefs main_v24, by decide⟩),
        h (Proc.devRef .tc main_v25) (Finset.mem_filter.mpr ⟨StableHlo.devRef_mem_tcRefs main_v25, by decide⟩),
        h (Proc.devRef .tc main_v26) (Finset.mem_filter.mpr ⟨StableHlo.devRef_mem_tcRefs main_v26, by decide⟩)⟩,
        (h (Proc.devRef .tc main_arg0) (Finset.mem_filter.mpr ⟨StableHlo.devRef_mem_tcRefs main_arg0, by decide⟩)).trans (V17_main_arg0 m outs c),
        (h (Proc.devRef .tc main_arg1) (Finset.mem_filter.mpr ⟨StableHlo.devRef_mem_tcRefs main_arg1, by decide⟩)).trans (V17_main_arg1 m outs c),
        (h (Proc.devRef .tc main_arg2) (Finset.mem_filter.mpr ⟨StableHlo.devRef_mem_tcRefs main_arg2, by decide⟩)).trans (V17_main_arg2 m outs c)⟩
    · iexact HSI

/-- The launch's ghost state. -/
theorem launch_ghost : (ownU (initOf (Pipeline.cells cfgs launch0.cellOf_inj) (Pipeline.launchToks cfgs launch0.cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu
  imodintro
  isplitl [Hu]; · iapply (show (ownU _ : sProp 𝕄) ⊢ BI.own (emb₁ (initOf (Pipeline.cells cfgs cellOf_inj) (Pipeline.launchToks cfgs cellOf_inj))) from .rfl); iexact Hu
  rw [bigSep_emp_const]; iempintro

end

variable (m : (ℓ : Loc nD τ sig) → Buf (Elt F) ℓ)

/-! ## What the regions leave -/

/-- What the first region leaves in the buffers it writes, -/
def outs0 : Outs (F := F) := fun _ r c => afterRegion (dat0 (V1 m c) c) (V1 m c) (Proc.devRef .tc r)

/-- and what each region leaves. -/
def outs : Outs (F := F) := fun J r c =>
  if J = 2 then outs0 m J r c
  else afterRegion (dat1 (V6 m (outs0 m) c) c) (V6 m (outs0 m) c) (Proc.devRef .tc r)

theorem outs_two : outs m 2 = outs0 m 2 := by funext r c; exact if_pos rfl
theorem outs_seven : outs m 7 = fun r c => afterRegion (dat1 (V6 m (outs0 m) c) c) (V6 m (outs0 m) c) (Proc.devRef .tc r) := by
  funext r c; exact if_neg (by decide)

theorem V2_outs (c : Dev nD) : V2 m (outs m) c = V2 m (outs0 m) c := by unfold V2; rw [outs_two]
theorem V6_outs (c : Dev nD) : V6 m (outs m) c = V6 m (outs0 m) c := by
  show StableHlo.after hostOps1_3 (StableHlo.after hostOps1_2 (StableHlo.after hostOps1_1 (StableHlo.after hostOps1 (V2 m (outs m) c)))) = _
  rw [V2_outs]

theorem tc_ne {r r' : Ref sig .tc} (h : r ≠ r') : (Proc.devRef (τ := τ) .tc r) ≠ Proc.devRef .tc r' :=
  fun e => h (Proc.devRef_injective _ e)

theorem V2_eq (c : Dev nD) : V2 m (outs m) c = afterRegion (dat0 (V1 m c) c) (V1 m c) := by
  rw [V2_outs]
  funext b
  by_cases hb : ∃ r : Ref sig .tc, Proc.devRef .tc r = b
  · obtain ⟨r, rfl⟩ := hb
    by_cases h2 : r = main_v3_2
    · subst h2; exact Function.update_self _ _ _
    refine (Function.update_of_ne (tc_ne h2) _ _).trans ?_
    by_cases h1 : r = main_v3_1
    · subst h1; exact Function.update_self _ _ _
    refine (Function.update_of_ne (tc_ne h1) _ _).trans ?_
    by_cases h0 : r = main_v3_0
    · subst h0; exact Function.update_self _ _ _
    refine (Function.update_of_ne (tc_ne h0) _ _).trans ?_
    refine (afterRegion_keeps (dat0 (V1 m c) c) (V1 m c) launch0.win.arr_inj (fun _ => rfl) r fun w hw => ?_).symm
    match w, hw with
    | ⟨0, _⟩, _ => rfl
    | ⟨1, _⟩, _ => rfl
    | ⟨2, _⟩, _ => rfl
    | ⟨3, _⟩, e => exact absurd e.symm h0
    | ⟨4, _⟩, e => exact absurd e.symm h1
    | ⟨5, _⟩, e => exact absurd e.symm h2
  · have hne : ∀ r : Ref sig .tc, b ≠ Proc.devRef .tc r := fun r e => hb ⟨r, e.symm⟩
    unfold afterRegion
    rw [dif_neg (fun ⟨w, e⟩ => hne _ e)]
    exact (Function.update_of_ne (hne _) _ _).trans ((Function.update_of_ne (hne _) _ _).trans (Function.update_of_ne (hne _) _ _))

theorem V7_eq (c : Dev nD) : V7 m (outs m) c = afterRegion (dat1 (V6 m (outs m) c) c) (V6 m (outs m) c) := by
  unfold V7
  rw [outs_seven, V6_outs]
  funext b
  by_cases hb : ∃ r : Ref sig .tc, Proc.devRef .tc r = b
  · obtain ⟨r, rfl⟩ := hb
    by_cases h2 : r = main_v15
    · subst h2; exact Function.update_self _ _ _
    refine (Function.update_of_ne (tc_ne h2) _ _).trans ?_
    refine (afterRegion_keeps (dat1 (V6 m (outs0 m) c) c) (V6 m (outs0 m) c) launch1.win.arr_inj (fun _ => rfl) r fun w hw => ?_).symm
    match w, hw with
    | ⟨0, _⟩, _ => rfl
    | ⟨1, _⟩, _ => rfl
    | ⟨2, _⟩, e => exact absurd e.symm h2
  · have hne : ∀ r : Ref sig .tc, b ≠ Proc.devRef .tc r := fun r e => hb ⟨r, e.symm⟩
    unfold afterRegion
    rw [dif_neg (fun ⟨w, e⟩ => hne _ e)]
    exact Function.update_of_ne (hne _) _ _

/-! ## The segments -/

/-- Both pipelines' data. -/
def pdats : (p : Fin 2) → (c : Dev nD) → Dat τ (Elt F) Unit ℕ (UR sig nD τ) ℕ (cfgs p) c
  | ⟨0, _⟩, c => dat0 (V1 m c) c
  | ⟨1, _⟩, c => dat1 (V6 m (outs m) c) c

/-- One level everywhere. -/
abbrev L1 : GSem nD τ sig → Finset Unit := fun g => if g.1.2 = .tc then {()} else ∅
abbrev lv1 : GSem nD τ sig → Unit → ℕ := fun _ _ => 0

theorem cut (p : Fin 2) : LevelCut (pcfgs (F := F)) adm () L1 lv1 p (fun _ => 0) (fun _ => 0) where
  hι c w s := by show () ∈ (if (Proc.tc : Proc τ) = .tc then {()} else ∅ : Finset Unit); rw [if_pos rfl]; exact Finset.mem_singleton_self _
  hιb c w s := le_refl _
  hD c g i h := absurd h (lt_irrefl _)

theorem rest_in0 (c : Dev nD) : iprop(scopedRest spec0 c ∗ BI.emp) ⊢ (scopedRest spec0 c : sProp 𝕄) := by
  iintro ⟨H, -⟩; iexact H
theorem rest_out0 (c : Dev nD) : (scopedRest spec0 c : sProp 𝕄) ⊢ iprop(scopedRest spec0 c ∗ BI.emp) := by
  iintro H; isplitl [H]; · iexact H
  iempintro
theorem rest_in1 (c : Dev nD) : iprop(scopedRest spec1 c ∗ BI.emp) ⊢ (scopedRest spec1 c : sProp 𝕄) := by
  iintro ⟨H, -⟩; iexact H
theorem rest_out1 (c : Dev nD) : (scopedRest spec1 c : sProp 𝕄) ⊢ iprop(scopedRest spec1 c ∗ BI.emp) := by
  iintro H; isplitl [H]; · iexact H
  iempintro

/-- The decode region over the buffers at `V1`. -/
def R0 : RegionSeg (pcfgs (F := F)) adm (pdats m) () defs₀ Variants.none L1 lv1 0 :=
  RegionSeg.ofHeldIn _ _ _ _ _ _ _ _ _ (fun _ => 0) (ucRefs τ sig) (fun _ => BI.emp) (fun _ => BI.emp) launch0.toP rfl
    (fun c => body0 (V1 m c) c) (fun _ _ => rfl) (fun _ => rfl)
    (fun c => Dat.share_full _ (fun _ => rfl)) (fun c => rest_in0 c) (fun c => rest_out0 c)
    (fun _ => 0) (cut 0) (fun _ => BI.emp) (fun c => V1 m c) (fun c w => rfl)

/-- The suppression region over the buffers at `V6`. -/
def R1 : RegionSeg (pcfgs (F := F)) adm (pdats m) () defs₀ Variants.none L1 lv1 1 :=
  RegionSeg.ofHeldIn _ _ _ _ _ _ _ _ _ (fun _ => 0) (ucRefs τ sig) (fun _ => BI.emp) (fun _ => BI.emp) launch1.toP rfl
    (fun c => (body1 (V6 m (outs m) c) c).loose) (fun _ _ => rfl) (fun _ => rfl)
    (fun c => Dat.share_full _ (fun _ => rfl)) (fun c => rest_in1 c) (fun c => rest_out1 c)
    (fun _ => 0) (cut 1) (fun _ => BI.emp) (fun c => V6 m (outs m) c) (fun c w => rfl)

/-- What rides beside the buffers: the core owes nothing. -/
def Eb : Fin 3 → Dev nD → sProp 𝕄 := fun _ c => iprop((∃ W, owes (c : Thread nD τ) (0 : CellTallies nD τ sig Unit) W) ∗ BI.emp ∗ BI.emp)

theorem arrs0 : arrRefs (τ := τ) (pcfgs (F := F) 0).spec ⊆ ucRefs τ sig := arrRefs_sub_ucRefs spec0 (by decide)
theorem arrs1 : arrRefs (τ := τ) (pcfgs (F := F) 1).spec ⊆ ucRefs τ sig := arrRefs_sub_ucRefs spec1 (by decide)

theorem pre0 (c : Dev nD) : iprop(StableHlo.held (c : Thread nD τ) (ucRefs τ sig) (V1 m c) ∗ Eb (F := F) 0 c) ⊢ (R0 m).pre c :=
  RegionSeg.ofHeldIn_pre (pcs := pcfgs (F := F)) (a := adm) (pdats := pdats m) (ι := ()) (defs₀ := defs₀) (𝒱₀ := Variants.none) (L := L1) (lv := lv1) (p := 0)
    (D := fun _ => 0) (S := ucRefs τ sig) (X := fun _ => BI.emp) (Y := fun _ => BI.emp) (R := fun _ => BI.emp) (W := fun c => V1 m c) arrs0 c
theorem post0 (c : Dev nD) : (R0 m).post c ⊢ iprop(StableHlo.held (c : Thread nD τ) (ucRefs τ sig) (V2 m (outs m) c) ∗ Eb (F := F) 1 c) := by
  rw [V2_eq]; exact RegionSeg.ofHeldIn_post (pcs := pcfgs (F := F)) (a := adm) (pdats := pdats m) (ι := ()) (defs₀ := defs₀) (𝒱₀ := Variants.none) (L := L1) (lv := lv1) (p := 0)
    (D := fun _ => 0) (S := ucRefs τ sig) (X := fun _ => BI.emp) (Y := fun _ => BI.emp) (R := fun _ => BI.emp) (W := fun c => V1 m c) arrs0 c
theorem pre1 (c : Dev nD) : iprop(StableHlo.held (c : Thread nD τ) (ucRefs τ sig) (V6 m (outs m) c) ∗ Eb (F := F) 1 c) ⊢ (R1 m).pre c :=
  RegionSeg.ofHeldIn_pre (pcs := pcfgs (F := F)) (a := adm) (pdats := pdats m) (ι := ()) (defs₀ := defs₀) (𝒱₀ := Variants.none) (L := L1) (lv := lv1) (p := 1)
    (D := fun _ => 0) (S := ucRefs τ sig) (X := fun _ => BI.emp) (Y := fun _ => BI.emp) (R := fun _ => BI.emp) (W := fun c => V6 m (outs m) c) arrs1 c
theorem post1 (c : Dev nD) : (R1 m).post c ⊢ iprop(StableHlo.held (c : Thread nD τ) (ucRefs τ sig) (V7 m (outs m) c) ∗ Eb (F := F) 2 c) := by
  rw [V7_eq]; exact RegionSeg.ofHeldIn_post (pcs := pcfgs (F := F)) (a := adm) (pdats := pdats m) (ι := ()) (defs₀ := defs₀) (𝒱₀ := Variants.none) (L := L1) (lv := lv1) (p := 1)
    (D := fun _ => 0) (S := ucRefs τ sig) (X := fun _ => BI.emp) (Y := fun _ => BI.emp) (R := fun _ => BI.emp) (W := fun c => V6 m (outs m) c) arrs1 c

/-! ## The run -/

/-- The launch makes what rides beside the buffers. -/
theorem launch_rest (ρ : Dev nD → PrngReg) :
    iprop((bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ BI.emp)) ∗ levAts L1 lv1)
      ⊢ (|={Set.univ}=> bigSep Finset.univ (Eb (F := F) 0) : sProp 𝕄) := by
  iintro ⟨H, -⟩
  imodintro
  have h : (bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ BI.emp)) ⊢ (bigSep Finset.univ (Eb (F := F) 0) : sProp 𝕄) :=
    bigSep_mono fun c _ => by
      show _ ⊢ iprop((∃ W, owes (c : Thread nD τ) (0 : CellTallies nD τ sig Unit) W) ∗ BI.emp ∗ BI.emp)
      iintro ⟨-, H, -⟩
      isplitl [H]
      · iexists ∅; iexact H
      isplitl <;> iempintro
  iapply h; iexact H

/-- The run of the whole program: it terminates; its arguments are as launched, every semaphore is at zero, and its results are
    those of the last valuation. -/
theorem run (ρ : Dev nD → PrngReg) :
    θ_run defs (onTc (τ := τ) (main (F := F))) ⟨m, fun _ => 0, ρ⟩ (fun r => (∀ c : Dev nD,
      (r.2.mem ((c.tc : Thread nD τ).loc main_v24) = V17 m (outs m) c main_v24
      ∧ r.2.mem ((c.tc : Thread nD τ).loc main_v25) = V17 m (outs m) c main_v25
      ∧ r.2.mem ((c.tc : Thread nD τ).loc main_v26) = V17 m (outs m) c main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  run_cond m emb₁ () Variants.none L1 lv1 (fun g h => if_neg h) ρ (outs m) (pdats m) (fun _ => 0) (fun _ => BI.emp)
    (initOf (Pipeline.cells cfgs launch0.cellOf_inj) (Pipeline.launchToks cfgs launch0.cellOf_inj))
    (launch_ghost)
    Eb (launch_rest ρ) (fun c => by unfold Eb; iintro ⟨H, -⟩; iexact H)
    (R0 m) (pre0 m) (post0 m) (R1 m) (pre1 m) (post1 m)

end Cert.Own.KernelIdeal

end
-- ==== Proof.KRegion0.lean ====
/-
  The decode region: the proof data of its pipeline, its body obligation at every grid point, and its three result arrays
  after the run in closed form.
-/
module

public import proofs.«01_k».proof.Proof.KDecode

@[expose] public section

noncomputable section

namespace Cert.Own.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three result arrays -/

/-- The lane position of row `n` in its block. -/
def lane (n : Fin 20000) : Fin 2048 := ⟨n.val % 2048, Nat.mod_lt _ (by decide)⟩

/-- The masked score of row `n` of batch `b`: what the body computes in that lane when every lane holds that row. -/
def maskAt (A : FVec F S1x4x20000 .f32) (S : FVec F S4x20000x80 .f32) (D : FVec F S4x4x20000 .f32) (b : Fin 4) (n : Fin 20000) : F .f32 :=
  outMask (fun p : S1x4x2048.Idx => A (ix3 0 (p 1) n)) (fun p : S1x2048x80.Idx => S (ix3 b n (p 2)))
    (fun p : S1x4x2048.Idx => D (ix3 b (p 1) n)) (ix3 0 0 (lane n))

/-- Its class number, -/
def clsAt (S : FVec F S4x20000x80 .f32) (b : Fin 4) (n : Fin 20000) : BitVec 32 :=
  outCls (fun p : S1x2048x80.Idx => S (ix3 b n (p 2))) (ix3 0 0 (lane n))

/-- and coordinate `k` of its box. -/
def boxAt (A : FVec F S1x4x20000 .f32) (D : FVec F S4x4x20000 .f32) (b : Fin 4) (k : Fin 4) (n : Fin 20000) : F .f32 :=
  outBox (fun p : S1x4x2048.Idx => A (ix3 0 (p 1) n)) (fun p : S1x4x2048.Idx => D (ix3 b (p 1) n)) (ix3 0 k (lane n))

def maskArr (A : FVec F S1x4x20000 .f32) (S : FVec F S4x20000x80 .f32) (D : FVec F S4x4x20000 .f32) : FVec F S4x1x20000 .f32 :=
  fun i => maskAt A S D (i 0) (i 2)
def clsArr (S : FVec F S4x20000x80 .f32) : IVec S4x1x20000 32 := fun i => clsAt S (i 0) (i 2)
def boxArr (A : FVec F S1x4x20000 .f32) (D : FVec F S4x4x20000 .f32) : FVec F S4x4x20000 .f32 :=
  fun i => boxAt A D (i 0) (i 1) (i 2)

/-! ## Where the blocks sit -/

/-- How many rows of point `t`'s block are inside the arrays. -/
def rows (t : Fin grid0.N) : Nat := if t.val % 10 = 9 then 1568 else 2048

theorem geom_0 : ∀ t : Fin grid0.N, win0_0.index t 0 = 0 ∧ win0_0.index t 1 = 0 ∧ win0_0.index t 2 = t.val % 10
    ∧ win0_0.xsize (grid0.coords t) 0 = 1 ∧ win0_0.xsize (grid0.coords t) 1 = 4 ∧ win0_0.xsize (grid0.coords t) 2 = rows t := by decide +kernel
theorem geom_1 : ∀ t : Fin grid0.N, win0_1.index t 0 = t.val / 10 ∧ win0_1.index t 1 = t.val % 10 ∧ win0_1.index t 2 = 0
    ∧ win0_1.xsize (grid0.coords t) 0 = 1 ∧ win0_1.xsize (grid0.coords t) 1 = rows t ∧ win0_1.xsize (grid0.coords t) 2 = 80 := by decide +kernel
theorem geom_2 : ∀ t : Fin grid0.N, win0_2.index t 0 = t.val / 10 ∧ win0_2.index t 1 = 0 ∧ win0_2.index t 2 = t.val % 10
    ∧ win0_2.xsize (grid0.coords t) 0 = 1 ∧ win0_2.xsize (grid0.coords t) 1 = 4 ∧ win0_2.xsize (grid0.coords t) 2 = rows t := by decide +kernel
theorem geom_3 : ∀ t : Fin grid0.N, win0_3.index t 0 = t.val / 10 ∧ win0_3.index t 1 = 0 ∧ win0_3.index t 2 = t.val % 10
    ∧ win0_3.xsize (grid0.coords t) 0 = 1 ∧ win0_3.xsize (grid0.coords t) 1 = 1 ∧ win0_3.xsize (grid0.coords t) 2 = rows t := by decide +kernel
theorem geom_4 : ∀ t : Fin grid0.N, win0_4.index t 0 = t.val / 10 ∧ win0_4.index t 1 = 0 ∧ win0_4.index t 2 = t.val % 10
    ∧ win0_4.xsize (grid0.coords t) 0 = 1 ∧ win0_4.xsize (grid0.coords t) 1 = 1 ∧ win0_4.xsize (grid0.coords t) 2 = rows t := by decide +kernel
theorem geom_5 : ∀ t : Fin grid0.N, win0_5.index t 0 = t.val / 10 ∧ win0_5.index t 1 = 0 ∧ win0_5.index t 2 = t.val % 10
    ∧ win0_5.xsize (grid0.coords t) 0 = 1 ∧ win0_5.xsize (grid0.coords t) 1 = 4 ∧ win0_5.xsize (grid0.coords t) 2 = rows t := by decide +kernel

theorem rows_bound (t : Fin grid0.N) (l : Fin 2048) (h : l.val < rows t) : t.val % 10 * 2048 + l.val < 20000 := by
  unfold rows at h; split at h <;> omega

theorem t_div (t : Fin grid0.N) : t.val / 10 < 4 := by have : t.val < 40 := lt_of_lt_of_eq t.isLt N_0; omega

/-- The row in the arrays of lane `l` of point `t`'s block, -/
def rowOf (t : Fin grid0.N) (l : Fin 2048) (h : l.val < rows t) : Fin 20000 := ⟨t.val % 10 * 2048 + l.val, rows_bound t l h⟩
/-- and its batch. -/
def batchOf (t : Fin grid0.N) : Fin 4 := ⟨t.val / 10, t_div t⟩

theorem lane_rowOf (t : Fin grid0.N) (l : Fin 2048) (h : l.val < rows t) : lane (rowOf t l h) = l :=
  Fin.ext (by show (t.val % 10 * 2048 + l.val) % 2048 = l.val; have := l.isLt; omega)

/-- A fetched block of the anchors at a lane inside the array. -/
theorem fill_0 (t : Fin grid0.N) (A : FVec F S1x4x20000 .f32) (d : FVec F S1x4x2048 .f32) (l : Fin 2048) (h : l.val < rows t) (k : Fin 4) :
    win0_0.fill (grid0.coords t) d ((win0_0.blk t).view.read (Elt F) A) (ix3 0 k l) = A (ix3 0 k (rowOf t l h)) := by
  obtain ⟨i0, i1, i2, x0, x1, x2⟩ := geom_0 t
  have hm : win0_0.moved (grid0.coords t) (ix3 0 k l) = true := (win0_0.moved_iff _ _).mpr fun a => by
    match a with
    | ⟨0, _⟩ => exact x0.symm ▸ Nat.one_pos
    | ⟨1, _⟩ => exact x1.symm ▸ k.isLt
    | ⟨2, _⟩ => exact x2.symm ▸ h
  unfold Window.fill
  rw [dif_pos hm]
  show A ((win0_0.rect t).emb _) = _
  congr 1
  funext a
  apply Fin.ext
  rw [Window.rect_emb_val win0_0]
  match a with
  | ⟨0, _⟩ => show win0_0.index t 0 * 1 + 0 = 0; rw [i0]
  | ⟨1, _⟩ => show win0_0.index t 1 * 4 + k.val = k.val; rw [i1]; omega
  | ⟨2, _⟩ => show win0_0.index t 2 * 2048 + l.val = _; rw [i2]; rfl

/-- A fetched block of the deltas. -/
theorem fill_2 (t : Fin grid0.N) (A : FVec F S4x4x20000 .f32) (d : FVec F S1x4x2048 .f32) (l : Fin 2048) (h : l.val < rows t) (k : Fin 4) :
    win0_2.fill (grid0.coords t) d ((win0_2.blk t).view.read (Elt F) A) (ix3 0 k l) = A (ix3 (batchOf t) k (rowOf t l h)) := by
  obtain ⟨i0, i1, i2, x0, x1, x2⟩ := geom_2 t
  have hm : win0_2.moved (grid0.coords t) (ix3 0 k l) = true := (win0_2.moved_iff _ _).mpr fun a => by
    match a with
    | ⟨0, _⟩ => exact x0.symm ▸ Nat.one_pos
    | ⟨1, _⟩ => exact x1.symm ▸ k.isLt
    | ⟨2, _⟩ => exact x2.symm ▸ h
  unfold Window.fill
  rw [dif_pos hm]
  show A ((win0_2.rect t).emb _) = _
  congr 1
  funext a
  apply Fin.ext
  rw [Window.rect_emb_val win0_2]
  match a with
  | ⟨0, _⟩ => show win0_2.index t 0 * 1 + 0 = _; rw [i0]; show t.val / 10 * 1 + 0 = t.val / 10; omega
  | ⟨1, _⟩ => show win0_2.index t 1 * 4 + k.val = k.val; rw [i1]; omega
  | ⟨2, _⟩ => show win0_2.index t 2 * 2048 + l.val = _; rw [i2]; rfl

/-- A fetched block of the scores. -/
theorem fill_1 (t : Fin grid0.N) (A : FVec F S4x20000x80 .f32) (d : FVec F S1x2048x80 .f32) (l : Fin 2048) (h : l.val < rows t) (k : Fin 80) :
    win0_1.fill (grid0.coords t) d ((win0_1.blk t).view.read (Elt F) A) (ix3 0 l k) = A (ix3 (batchOf t) (rowOf t l h) k) := by
  obtain ⟨i0, i1, i2, x0, x1, x2⟩ := geom_1 t
  have hm : win0_1.moved (grid0.coords t) (ix3 0 l k) = true := (win0_1.moved_iff _ _).mpr fun a => by
    match a with
    | ⟨0, _⟩ => exact x0.symm ▸ Nat.one_pos
    | ⟨1, _⟩ => exact x1.symm ▸ h
    | ⟨2, _⟩ => exact x2.symm ▸ k.isLt
  unfold Window.fill
  rw [dif_pos hm]
  show A ((win0_1.rect t).emb _) = _
  congr 1
  funext a
  apply Fin.ext
  rw [Window.rect_emb_val win0_1]
  match a with
  | ⟨0, _⟩ => show win0_1.index t 0 * 1 + 0 = _; rw [i0]; show t.val / 10 * 1 + 0 = t.val / 10; omega
  | ⟨1, _⟩ => show win0_1.index t 1 * 2048 + l.val = _; rw [i1]; rfl
  | ⟨2, _⟩ => show win0_1.index t 2 * 80 + k.val = k.val; rw [i2]; omega

/-! ## The write-backs -/

/-- What point `t` writes back of the masked scores is block `t` of `maskArr`. -/
theorem cut_3 (t : Fin grid0.N) (A : FVec F S1x4x20000 .f32) (S : FVec F S4x20000x80 .f32) (D : FVec F S4x4x20000 .f32)
    (d0 : FVec F S1x4x2048 .f32) (d1 : FVec F S1x2048x80 .f32) (d2 : FVec F S1x4x2048 .f32) :
    win0_3.cut (grid0.coords t) (outMask (win0_0.fill (grid0.coords t) d0 ((win0_0.blk t).view.read (Elt F) A))
        (win0_1.fill (grid0.coords t) d1 ((win0_1.blk t).view.read (Elt F) S)) (win0_2.fill (grid0.coords t) d2 ((win0_2.blk t).view.read (Elt F) D)))
      = (win0_3.blk t).view.read (Elt F) (maskArr A S D) := by
  obtain ⟨i0, i1, i2, x0, x1, x2⟩ := geom_3 t
  funext j
  have j0 : (j 0).val < 1 := x0 ▸ (j 0).isLt
  have j1 : (j 1).val < 1 := x1 ▸ (j 1).isLt
  have j2 : (j 2).val < rows t := x2 ▸ (j 2).isLt
  have hl : (j 2).val < 2048 := by unfold rows at j2; split at j2 <;> omega
  have hj : win0_3.xinj (grid0.coords t) j = ix3 (0 : Fin 1) (0 : Fin 1) (⟨(j 2).val, hl⟩ : Fin 2048) := by
    funext a; apply Fin.ext
    match a with
    | ⟨0, _⟩ => show (j 0).val = 0; omega
    | ⟨1, _⟩ => show (j 1).val = 0; omega
    | ⟨2, _⟩ => rfl
  have he : (win0_3.rect t).emb j = ix3 (batchOf t) (0 : Fin 1) (rowOf t ⟨(j 2).val, hl⟩ j2) := by
    funext a; apply Fin.ext
    rw [Window.rect_emb_val win0_3]
    match a with
    | ⟨0, _⟩ => show win0_3.index t 0 * 1 + (j 0).val = t.val / 10; rw [i0]; omega
    | ⟨1, _⟩ => show win0_3.index t 1 * 1 + (j 1).val = 0; rw [i1]; omega
    | ⟨2, _⟩ => show win0_3.index t 2 * 2048 + (j 2).val = _; rw [i2]; rfl
  show outMask _ _ _ (win0_3.xinj (grid0.coords t) j) = maskArr A S D ((win0_3.rect t).emb j)
  rw [hj, he]
  show _ = maskAt A S D (batchOf t) (rowOf t ⟨(j 2).val, hl⟩ j2)
  unfold maskAt
  rw [lane_rowOf]
  refine outMask_congr _ _ _ _ _ _ _ (fun k => ?_) (fun k => ?_) fun k => ?_
  · exact fill_0 t A d0 ⟨(j 2).val, hl⟩ j2 k
  · exact fill_1 t S d1 ⟨(j 2).val, hl⟩ j2 k
  · exact fill_2 t D d2 ⟨(j 2).val, hl⟩ j2 k

/-- A block of the class numbers' window, lane by lane. -/
theorem cut_read_4 (t : Fin grid0.N) (X : IVec S1x1x2048 32) (G : IVec S4x1x20000 32)
    (h : ∀ (l : Fin 2048) (hl : l.val < rows t), X (ix3 0 0 l) = G (ix3 (batchOf t) 0 (rowOf t l hl))) :
    win0_4.cut (grid0.coords t) X = (win0_4.blk t).view.read (Elt F) G := by
  obtain ⟨i0, i1, i2, x0, x1, x2⟩ := geom_4 t
  funext j
  have j0 : (j 0).val < 1 := x0 ▸ (j 0).isLt
  have j1 : (j 1).val < 1 := x1 ▸ (j 1).isLt
  have j2 : (j 2).val < rows t := x2 ▸ (j 2).isLt
  have hl : (j 2).val < 2048 := by unfold rows at j2; split at j2 <;> omega
  have hj : win0_4.xinj (grid0.coords t) j = ix3 (0 : Fin 1) (0 : Fin 1) (⟨(j 2).val, hl⟩ : Fin 2048) := by
    funext a; apply Fin.ext
    match a with
    | ⟨0, _⟩ => show (j 0).val = 0; omega
    | ⟨1, _⟩ => show (j 1).val = 0; omega
    | ⟨2, _⟩ => rfl
  have he : (win0_4.rect t).emb j = ix3 (batchOf t) (0 : Fin 1) (rowOf t ⟨(j 2).val, hl⟩ j2) := by
    funext a; apply Fin.ext
    rw [Window.rect_emb_val win0_4]
    match a with
    | ⟨0, _⟩ => show win0_4.index t 0 * 1 + (j 0).val = t.val / 10; rw [i0]; omega
    | ⟨1, _⟩ => show win0_4.index t 1 * 1 + (j 1).val = 0; rw [i1]; omega
    | ⟨2, _⟩ => show win0_4.index t 2 * 2048 + (j 2).val = _; rw [i2]; rfl
  show X (win0_4.xinj (grid0.coords t) j) = G ((win0_4.rect t).emb j)
  rw [hj, he]
  exact h ⟨(j 2).val, hl⟩ j2

/-- What it writes back of the class numbers is block `t` of `clsArr`. -/
theorem cut_4 (t : Fin grid0.N) (S : FVec F S4x20000x80 .f32) (d1 : FVec F S1x2048x80 .f32) :
    win0_4.cut (grid0.coords t) (outCls (win0_1.fill (grid0.coords t) d1 ((win0_1.blk t).view.read (Elt F) S)))
      = (win0_4.blk t).view.read (Elt F) (clsArr S) := by
  refine cut_read_4 t _ _ fun l hl => ?_
  rw [show clsArr S (ix3 (batchOf t) 0 (rowOf t l hl)) = clsAt S (batchOf t) (rowOf t l hl) from rfl]
  unfold clsAt
  rw [lane_rowOf]
  exact outCls_congr _ _ l fun k => fill_1 t S d1 l hl k

/-- What it writes back of the boxes is block `t` of `boxArr`. -/
theorem cut_5 (t : Fin grid0.N) (A : FVec F S1x4x20000 .f32) (D : FVec F S4x4x20000 .f32)
    (d0 : FVec F S1x4x2048 .f32) (d2 : FVec F S1x4x2048 .f32) :
    win0_5.cut (grid0.coords t) (outBox (win0_0.fill (grid0.coords t) d0 ((win0_0.blk t).view.read (Elt F) A))
        (win0_2.fill (grid0.coords t) d2 ((win0_2.blk t).view.read (Elt F) D)))
      = (win0_5.blk t).view.read (Elt F) (boxArr A D) := by
  obtain ⟨i0, i1, i2, x0, x1, x2⟩ := geom_5 t
  funext j
  have j0 : (j 0).val < 1 := x0 ▸ (j 0).isLt
  have j1 : (j 1).val < 4 := x1 ▸ (j 1).isLt
  have j2 : (j 2).val < rows t := x2 ▸ (j 2).isLt
  have hl : (j 2).val < 2048 := by unfold rows at j2; split at j2 <;> omega
  have hj : win0_5.xinj (grid0.coords t) j = ix3 (0 : Fin 1) (⟨(j 1).val, j1⟩ : Fin 4) (⟨(j 2).val, hl⟩ : Fin 2048) := by
    funext a; apply Fin.ext
    match a with
    | ⟨0, _⟩ => show (j 0).val = 0; omega
    | ⟨1, _⟩ => rfl
    | ⟨2, _⟩ => rfl
  have he : (win0_5.rect t).emb j = ix3 (batchOf t) (⟨(j 1).val, j1⟩ : Fin 4) (rowOf t ⟨(j 2).val, hl⟩ j2) := by
    funext a; apply Fin.ext
    rw [Window.rect_emb_val win0_5]
    match a with
    | ⟨0, _⟩ => show win0_5.index t 0 * 1 + (j 0).val = t.val / 10; rw [i0]; omega
    | ⟨1, _⟩ => show win0_5.index t 1 * 4 + (j 1).val = (j 1).val; rw [i1]; omega
    | ⟨2, _⟩ => show win0_5.index t 2 * 2048 + (j 2).val = _; rw [i2]; rfl
  show outBox _ _ (win0_5.xinj (grid0.coords t) j) = boxArr A D ((win0_5.rect t).emb j)
  rw [hj, he]
  show _ = boxAt A D (batchOf t) ⟨(j 1).val, j1⟩ (rowOf t ⟨(j 2).val, hl⟩ j2)
  unfold boxAt
  rw [lane_rowOf]
  exact outBox_congr _ _ _ _ _ (fun k => fill_0 t A d0 ⟨(j 2).val, hl⟩ j2 k) (fun k => fill_2 t D d2 ⟨(j 2).val, hl⟩ j2 k) _

/-! ## The proof data -/

/-- The zero word, filling a block past its array's end where nothing reads it. -/
abbrev z32 : F .f32 := Scalar.ofBits .f32 0#32

/-- The decode pipeline's data on device `c`, entered with the buffers at `V`: after the body the inputs' staging buffers
    hold their blocks and the outputs' theirs of the three closed-form arrays. -/
def dat0 (V : Valuation τ sig (Elt F)) (c : Dev nD) : Dat τ (Elt F) Unit ℕ (UR sig nD τ) ℕ cfg0 c where
  A w := V (Proc.devRef .tc (Pipeline.arrRef cfg0.spec w))
  after w t := match w with
    | ⟨0, _⟩ => win0_0.fill (grid0.coords t) (fun _ => z32) ((win0_0.blk t).view.read (Elt F) (V (Proc.devRef .tc main_v1)))
    | ⟨1, _⟩ => win0_1.fill (grid0.coords t) (fun _ => z32) ((win0_1.blk t).view.read (Elt F) (V (Proc.devRef .tc main_arg1)))
    | ⟨2, _⟩ => win0_2.fill (grid0.coords t) (fun _ => z32) ((win0_2.blk t).view.read (Elt F) (V (Proc.devRef .tc main_v2)))
    | ⟨3, _⟩ => win0_3.fill (grid0.coords t) (fun _ => z32) ((win0_3.blk t).view.read (Elt F)
        (maskArr (V (Proc.devRef .tc main_v1)) (V (Proc.devRef .tc main_arg1)) (V (Proc.devRef .tc main_v2))))
    | ⟨4, _⟩ => win0_4.fill (grid0.coords t) (fun _ => (0#32 : BitVec 32)) ((win0_4.blk t).view.read (Elt F) (clsArr (V (Proc.devRef .tc main_arg1))))
    | ⟨5, _⟩ => win0_5.fill (grid0.coords t) (fun _ => z32) ((win0_5.blk t).view.read (Elt F)
        (boxArr (V (Proc.devRef .tc main_v1)) (V (Proc.devRef .tc main_v2))))
  Φ _ := Pipeline.scopedRest (Ix := Unit) (Name := ℕ) (U := UR sig nD τ) (Lvl := ℕ) spec0 c
  q _ := fullShare
  owed _ := 0

variable (V : Valuation τ sig (Elt F)) (c : Dev nD)

theorem before_0 (t : Fin cfg0.N) (d) :
    (dat0 V c).before (0 : Fin 6) t d = win0_0.fill (grid0.coords t) d ((win0_0.blk t).view.read (Elt F) (V (Proc.devRef .tc main_v1))) := by
  unfold Dat.before; rw [if_pos (fetch0_0 t)]; rfl
theorem before_1 (t : Fin cfg0.N) (d) :
    (dat0 V c).before (1 : Fin 6) t d = win0_1.fill (grid0.coords t) d ((win0_1.blk t).view.read (Elt F) (V (Proc.devRef .tc main_arg1))) := by
  unfold Dat.before; rw [if_pos (fetch0_1 t)]; rfl
theorem before_2 (t : Fin cfg0.N) (d) :
    (dat0 V c).before (2 : Fin 6) t d = win0_2.fill (grid0.coords t) d ((win0_2.blk t).view.read (Elt F) (V (Proc.devRef .tc main_v2))) := by
  unfold Dat.before; rw [if_pos (fetch0_2 t)]; rfl

set_option maxHeartbeats 1000000 in
/-- The body obligation of the decode pipeline. -/
theorem body0 : BodyObligationLoose (dat0 V c) defs₀ Variants.none () Set.univ := by
  intro t
  rw [bigSep_W0, bigSep_W0]
  simp only
  rw [show (dat0 V c).Φ t.succ = (dat0 V c).Φ t.castSucc from rfl, show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0, before_1, before_2]
  iapply (decode_body c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5))
    (win0_0.fill (grid0.coords t) d0 ((win0_0.blk t).view.read (Elt F) (V (Proc.devRef .tc main_v1))))
    (win0_1.fill (grid0.coords t) d1 ((win0_1.blk t).view.read (Elt F) (V (Proc.devRef .tc main_arg1))))
    (win0_2.fill (grid0.coords t) d2 ((win0_2.blk t).view.read (Elt F) (V (Proc.devRef .tc main_v2)))))
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]
  · iexists d0
    change _ ⊢ owns (c : Thread nD τ) (win0_0.stage (cfg0.slots t 0)) fullShare (win0_0.fill (grid0.coords t) d0 (win0_0.cut (grid0.coords t)
      (win0_0.fill (grid0.coords t) (fun _ => z32) ((win0_0.blk t).view.read (Elt F) (V (Proc.devRef .tc main_v1))))))
    rw [Window.cut_fill]
  isplitl [H1]
  · iexists d1
    change _ ⊢ owns (c : Thread nD τ) (win0_1.stage (cfg0.slots t 1)) fullShare (win0_1.fill (grid0.coords t) d1 (win0_1.cut (grid0.coords t)
      (win0_1.fill (grid0.coords t) (fun _ => z32) ((win0_1.blk t).view.read (Elt F) (V (Proc.devRef .tc main_arg1))))))
    rw [Window.cut_fill]
  isplitl [H2]
  · iexists d2
    change _ ⊢ owns (c : Thread nD τ) (win0_2.stage (cfg0.slots t 2)) fullShare (win0_2.fill (grid0.coords t) d2 (win0_2.cut (grid0.coords t)
      (win0_2.fill (grid0.coords t) (fun _ => z32) ((win0_2.blk t).view.read (Elt F) (V (Proc.devRef .tc main_v2))))))
    rw [Window.cut_fill]
  isplitl [H3]
  · iexists (outMask (win0_0.fill (grid0.coords t) d0 ((win0_0.blk t).view.read (Elt F) (V (Proc.devRef .tc main_v1))))
      (win0_1.fill (grid0.coords t) d1 ((win0_1.blk t).view.read (Elt F) (V (Proc.devRef .tc main_arg1))))
      (win0_2.fill (grid0.coords t) d2 ((win0_2.blk t).view.read (Elt F) (V (Proc.devRef .tc main_v2)))))
    change _ ⊢ owns (c : Thread nD τ) (win0_3.stage (cfg0.slots t 3)) fullShare (win0_3.fill (grid0.coords t) _ (win0_3.cut (grid0.coords t)
      (win0_3.fill (grid0.coords t) (fun _ => z32) ((win0_3.blk t).view.read (Elt F)
        (maskArr (V (Proc.devRef .tc main_v1)) (V (Proc.devRef .tc main_arg1)) (V (Proc.devRef .tc main_v2)))))))
    rw [Window.cut_fill, ← cut_3 t _ _ _ d0 d1 d2, Window.fill_cut]
  isplitl [H4]
  · iexists (outCls (win0_1.fill (grid0.coords t) d1 ((win0_1.blk t).view.read (Elt F) (V (Proc.devRef .tc main_arg1)))))
    change _ ⊢ owns (c : Thread nD τ) (win0_4.stage (cfg0.slots t 4)) fullShare (win0_4.fill (grid0.coords t) _ (win0_4.cut (grid0.coords t)
      (win0_4.fill (grid0.coords t) (fun _ => (0#32 : BitVec 32)) ((win0_4.blk t).view.read (Elt F) (clsArr (V (Proc.devRef .tc main_arg1)))))))
    rw [Window.cut_fill, ← cut_4 t _ d1, Window.fill_cut]
  · iexists (outBox (win0_0.fill (grid0.coords t) d0 ((win0_0.blk t).view.read (Elt F) (V (Proc.devRef .tc main_v1))))
      (win0_2.fill (grid0.coords t) d2 ((win0_2.blk t).view.read (Elt F) (V (Proc.devRef .tc main_v2)))))
    change _ ⊢ owns (c : Thread nD τ) (win0_5.stage (cfg0.slots t 5)) fullShare (win0_5.fill (grid0.coords t) _ (win0_5.cut (grid0.coords t)
      (win0_5.fill (grid0.coords t) (fun _ => z32) ((win0_5.blk t).view.read (Elt F)
        (boxArr (V (Proc.devRef .tc main_v1)) (V (Proc.devRef .tc main_v2)))))))
    rw [Window.cut_fill, ← cut_5 t _ _ d0 d2, Window.fill_cut]

end Cert.Own.Kernel

end
-- ==== Proof.KRegion1.lean ====
/-
  The suppression region: its body as a pure fold over the thousand trips, the proof data of its pipeline and its result
  array after the run.
-/
module

public import proofs.«01_k».proof.Proof.Own
public import proofs.«01_k».proof.Proof.Gen.Kernel.Skeleton
public import proofs.«01_k».proof.Proof.Gen.Kernel.Launch
public import proofs.«01_k».proof.Proof.Gen.Kernel.Points
public import Idealize.ShloMosaic.Lib.Pointwise
public import Idealize.ShloMosaic.Lib.Exec.Context

@[expose] public section

noncomputable section

namespace Cert.Own.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- Coordinate `k` of the boxes, as the body loads it. -/
def coordRow (B : Vec F S4x4x1024 .f32) (k : Fin 4) : Vec F S4x1x1024 .f32 := fun i => B (ix3 (i 0) k (i 2))

/-- The lane numbers. -/
abbrev lanes : IVec S1x1024 32 := iota .tc S1x1024 32 [1] iota_S1x1024_d1_w32

/-- The keep mask after trip `t`, from the one before it. -/
def nmsStep (S : Vec F S4x1024 .f32) (B : Vec F S4x4x1024 .f32) (t : Fin k1_t1_loop.trips) (keep : FVec F S4x1024 .f32) : FVec F S4x1024 .f32 :=
  k1_pay14 S keep (Scf.iv 0#32 1#32 t)
    (k1_pay3 lanes (k1_pay12 S (coordRow B 0) (coordRow B 1) (coordRow B 2) (coordRow B 3)) 0#32 1#32 t)
    (k1_pay4 lanes 0#32 1#32 t keep)
    (k1_pay5 (k1_pay7 (coordRow B 0)) (k1_pay8 (coordRow B 1)) (k1_pay9 (coordRow B 2)) (k1_pay10 (coordRow B 3))
      (k1_pay11 (coordRow B 0) (coordRow B 1) (coordRow B 2) (coordRow B 3)) lanes
      (k1_pay12 S (coordRow B 0) (coordRow B 1) (coordRow B 2) (coordRow B 3)) 0#32 1#32 t)
    (Scalar.ofBits .f32 0x3F000000#32)

/-- The keep mask after every trip. -/
def nmsKeep (S : Vec F S4x1024 .f32) (B : Vec F S4x4x1024 .f32) : FVec F S4x1024 .f32 := Scf.fold (nmsStep S B) (k1_pay13 (F := F))

/-- The scores the body writes. -/
def nmsOut (S : Vec F S4x1024 .f32) (B : Vec F S4x4x1024 .f32) : Vec F S4x1024 .f32 := k1_pay15 S (nmsKeep S B)

theorem ld_row0 (B : Vec F S4x4x1024 .f32) : View.ld B (Rect.unit (s := S4x4x1024) ![0, 0, 0] S4x1x1024.size inb_S4x4x1024_S4x1x1024_0_0_0) = coordRow B 0 := by
  funext i; idx_vars i
  exact congrArg B (funext fun a => Fin.ext (by match a with | ⟨0, _⟩ => simp [Rect.unit] | ⟨1, _⟩ => simp [Rect.unit] | ⟨2, _⟩ => simp [Rect.unit]))
theorem ld_row1 (B : Vec F S4x4x1024 .f32) : View.ld B (Rect.unit (s := S4x4x1024) ![0, 1, 0] S4x1x1024.size inb_S4x4x1024_S4x1x1024_0_1_0) = coordRow B 1 := by
  funext i; idx_vars i
  exact congrArg B (funext fun a => Fin.ext (by match a with | ⟨0, _⟩ => simp [Rect.unit] | ⟨1, _⟩ => simp [Rect.unit] | ⟨2, _⟩ => simp [Rect.unit]))
theorem ld_row2 (B : Vec F S4x4x1024 .f32) : View.ld B (Rect.unit (s := S4x4x1024) ![0, 2, 0] S4x1x1024.size inb_S4x4x1024_S4x1x1024_0_2_0) = coordRow B 2 := by
  funext i; idx_vars i
  exact congrArg B (funext fun a => Fin.ext (by match a with | ⟨0, _⟩ => simp [Rect.unit] | ⟨1, _⟩ => simp [Rect.unit] | ⟨2, _⟩ => simp [Rect.unit]))
theorem ld_row3 (B : Vec F S4x4x1024 .f32) : View.ld B (Rect.unit (s := S4x4x1024) ![0, 3, 0] S4x1x1024.size inb_S4x4x1024_S4x1x1024_0_3_0) = coordRow B 3 := by
  funext i; idx_vars i
  exact congrArg B (funext fun a => Fin.ext (by match a with | ⟨0, _⟩ => simp [Rect.unit] | ⟨1, _⟩ => simp [Rect.unit] | ⟨2, _⟩ => simp [Rect.unit]))

/-- One trip of the body's loop is pure. -/
theorem trip_pure (a0 : Memref sig .tc .vmem S4x1024 .f32) (h0 : a0.IsWhole) (a1 : Memref sig .tc .vmem S4x4x1024 .f32) (h1 : a1.IsWhole)
    (a2 : Memref sig .tc .vmem S4x1024 .f32) (h2 : a2.IsWhole) (S : Vec F S4x1024 .f32) (B : Vec F S4x4x1024 .f32)
    (t : Fin k1_t1_loop.trips) (keep : FVec F S4x1024 .f32) :
    k1_t1_body a0 h0 a1 h1 a2 h2 S (coordRow B 0) (coordRow B 1) (coordRow B 2) (coordRow B 3) lanes t keep = .ret (nmsStep S B t keep) := by
  unfold k1_t1_body nmsStep
  rw [k1_part1_eq_skeleton]
  rfl

/-- So the loop returns its fold. -/
theorem loop_pure (a0 : Memref sig .tc .vmem S4x1024 .f32) (h0 : a0.IsWhole) (a1 : Memref sig .tc .vmem S4x4x1024 .f32) (h1 : a1.IsWhole)
    (a2 : Memref sig .tc .vmem S4x1024 .f32) (h2 : a2.IsWhole) (S : Vec F S4x1024 .f32) (B : Vec F S4x4x1024 .f32) (init : FVec F S4x1024 .f32) :
    Scf.Loop.for k1_t1_loop k1_t1_ok init (k1_t1_body a0 h0 a1 h1 a2 h2 S (coordRow B 0) (coordRow B 1) (coordRow B 2) (coordRow B 3)
      (iota .tc S1x1024 32 [1] iota_S1x1024_d1_w32)) = .ret (Scf.fold (nmsStep S B) init) :=
  Scf.for_pure _ _ _ _ _ _ (nmsStep S B) (fun k acc => trip_pure a0 h0 a1 h1 a2 h2 S B k acc)

/-- The body on any three staging buffers. -/
theorem nms_body (c : Dev nD) (E : Set ℕ)
    (a0 : Memref sig .tc .vmem S4x1024 .f32) (h0 : a0.IsWhole) (a1 : Memref sig .tc .vmem S4x4x1024 .f32) (h1 : a1.IsWhole)
    (a2 : Memref sig .tc .vmem S4x1024 .f32) (h2 : a2.IsWhole) (S : Vec F S4x1024 .f32) (B : Vec F S4x4x1024 .f32) (D2 : Vec F S4x1024 .f32)
    (K : PUnit → sProp 𝕄) :
    iprop((owns (c : Thread nD τ) a0 fullShare S ∗ owns (c : Thread nD τ) a1 fullShare B ∗ owns (c : Thread nD τ) a2 fullShare D2)
          ∗ (iprop(owns (c : Thread nD τ) a0 fullShare S ∗ owns (c : Thread nD τ) a1 fullShare B
            ∗ owns (c : Thread nD τ) a2 fullShare (nmsOut S B)) -∗ K ⟨⟩))
      ⊢ wp frame (wpE (defs₀ (F := F)) Variants.none c none) E (cc1__nms_kernel a0 h0 a1 h1 a2 h2) K := by
  have hz : (![0, 0] : Fin 2 → Nat) = fun _ => 0 := funext fun a => by fin_cases a <;> rfl
  unfold nmsOut nmsKeep
  rw [cc1__nms_kernel_eq_skeleton]
  unfold cc1__nms_kernel_skel
  rw [k1_part2_eq_skeleton]
  unfold k1_part2_skel
  simp only [Prog.lift, Prog.bind_op, Prog.bind_ret]
  iintro ⟨⟨H0, H1, H2⟩, Hk⟩
  iapply (wp_load_owns (defs := defs₀ (F := F)) Variants.none (c : Thread nD τ) none E (s := S4x1024) hz) $$ H0
  iintro H0
  iapply (wp_load_rect_owns (defs := defs₀ (F := F)) Variants.none (c : Thread nD τ) none E) $$ H1
  iintro H1
  iapply (wp_load_rect_owns (defs := defs₀ (F := F)) Variants.none (c : Thread nD τ) none E) $$ H1
  iintro H1
  iapply (wp_load_rect_owns (defs := defs₀ (F := F)) Variants.none (c : Thread nD τ) none E) $$ H1
  iintro H1
  iapply (wp_load_rect_owns (defs := defs₀ (F := F)) Variants.none (c : Thread nD τ) none E) $$ H1
  iintro H1
  rw [ld_row0, ld_row1, ld_row2, ld_row3]
  rw [loop_pure]
  simp only [Prog.bind_op, Prog.bind_ret, Prog.pure_eq_ret]
  iapply (wp_load_owns (defs := defs₀ (F := F)) Variants.none (c : Thread nD τ) none E (s := S4x1024) hz) $$ H2
  iintro H2
  iapply (wp_store_owns (defs := defs₀ (F := F)) Variants.none (c : Thread nD τ) none E (s := S4x1024) hz) $$ H2
  iintro H2
  sl_steps
  iapply Hk
  isplitl [H0]; · iexact H0
  isplitl [H1]; · iexact H1
  iexact H2

/-! ## The proof data -/

/-- The suppression pipeline's data on device `c`, entered with the buffers at `V`. -/
def dat1 (V : Valuation τ sig (Elt F)) (c : Dev nD) : Dat τ (Elt F) Unit ℕ (UR sig nD τ) ℕ cfg1 c where
  A w := V (Proc.devRef .tc (Pipeline.arrRef cfg1.spec w))
  after w t := match w with
    | ⟨0, _⟩ => (win1_0.blk t).view.read (Elt F) (V (Proc.devRef .tc main_v10))
    | ⟨1, _⟩ => (win1_1.blk t).view.read (Elt F) (V (Proc.devRef .tc main_v12))
    | ⟨2, _⟩ => nmsOut ((win1_0.blk t).view.read (Elt F) (V (Proc.devRef .tc main_v10))) ((win1_1.blk t).view.read (Elt F) (V (Proc.devRef .tc main_v12)))
  Φ _ := Pipeline.scopedRest (Ix := Unit) (Name := ℕ) (U := UR sig nD τ) (Lvl := ℕ) spec1 c
  q _ := fullShare
  owed _ := 0

variable (V : Valuation τ sig (Elt F)) (c : Dev nD)

theorem before1_0 (t : Fin cfg1.N) (d) :
    (dat1 V c).before (0 : Fin 3) t d = (win1_0.blk t).view.read (Elt F) (V (Proc.devRef .tc main_v10)) := by
  unfold Dat.before; rw [if_pos (fetch1_0 t)]; rfl
theorem before1_1 (t : Fin cfg1.N) (d) :
    (dat1 V c).before (1 : Fin 3) t d = (win1_1.blk t).view.read (Elt F) (V (Proc.devRef .tc main_v12)) := by
  unfold Dat.before; rw [if_pos (fetch1_1 t)]; rfl

/-- The body obligation of the suppression pipeline. -/
theorem body1 : BodyObligation (dat1 V c) defs₀ Variants.none () Set.univ := by
  intro t
  rw [bigSep_W1, bigSep_W1]
  simp only
  rw [show (dat1 V c).Φ t.succ = (dat1 V c).Φ t.castSucc from rfl, show (dat1 V c).owesAt () t.succ = (dat1 V c).owesAt () t.castSucc from rfl]
  iintro ⟨HΦ, Ho, ⟨%d0, H0⟩, ⟨%d1, H1⟩, ⟨%d2, H2⟩⟩
  rw [before1_0, before1_1]
  iapply (nms_body c Set.univ (win1_0.stage (cfg1.slots t 0)) (hstage1_0 0) (win1_1.stage (cfg1.slots t 1)) (hstage1_1 0)
    (win1_2.stage (cfg1.slots t 2)) (hstage1_2 0)
    ((win1_0.blk t).view.read (Elt F) (V (Proc.devRef .tc main_v10))) ((win1_1.blk t).view.read (Elt F) (V (Proc.devRef .tc main_v12))))
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]; · iexact H0
  isplitl [H1]; · iexact H1
  iexact H2

end Cert.Own.Kernel

end
-- ==== Proof.KLaunch.lean ====
/-
  The launch: the two regions as segments over the buffers, and the run of the whole program.
-/
module

public import proofs.«01_k».proof.Proof.KRegion0
public import proofs.«01_k».proof.Proof.KRegion1
public import proofs.«01_k».proof.Proof.Gen.Kernel.Regions
public import Idealize.ShloMosaic.Lib.Pipeline.RegionArraysS

@[expose] public section

noncomputable section

namespace Cert.Own.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds

variable {F : FTy → Type} [FloatOps F]

local notation "𝕄" => MT nD τ sig Unit (Elt F) ℕ (UR sig nD τ) ℕ

section
variable (m : (ℓ : Loc nD τ sig) → Buf (Elt F) ℓ) (outs : Outs (F := F))
open Idealize.ShloMosaic.Rounds
/-- The launch's ghost state. -/
theorem launch_ghost : (ownU (initOf (Pipeline.cells cfgs launch0.cellOf_inj) (Pipeline.launchToks cfgs launch0.cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu
  imodintro
  isplitl [Hu]; · iapply (show (ownU _ : sProp 𝕄) ⊢ BI.own (emb₁ (initOf (Pipeline.cells cfgs cellOf_inj) (Pipeline.launchToks cfgs cellOf_inj))) from .rfl); iexact Hu
  rw [bigSep_emp_const]; iempintro

end

variable (m : (ℓ : Loc nD τ sig) → Buf (Elt F) ℓ)

/-! ## What the regions leave -/

/-- What the first region leaves in the buffers it writes, -/
def outs0 : Outs (F := F) := fun _ r c => afterRegion (dat0 (V1 m c) c) (V1 m c) (Proc.devRef .tc r)

/-- and what each region leaves. -/
def outs : Outs (F := F) := fun J r c =>
  if J = 2 then outs0 m J r c
  else afterRegion (dat1 (V6 m (outs0 m) c) c) (V6 m (outs0 m) c) (Proc.devRef .tc r)

theorem outs_two : outs m 2 = outs0 m 2 := by funext r c; exact if_pos rfl
theorem outs_seven : outs m 7 = fun r c => afterRegion (dat1 (V6 m (outs0 m) c) c) (V6 m (outs0 m) c) (Proc.devRef .tc r) := by
  funext r c; exact if_neg (by decide)

theorem V2_outs (c : Dev nD) : V2 m (outs m) c = V2 m (outs0 m) c := by unfold V2; rw [outs_two]
theorem V6_outs (c : Dev nD) : V6 m (outs m) c = V6 m (outs0 m) c := by
  show StableHlo.after hostOps1_3 (StableHlo.after hostOps1_2 (StableHlo.after hostOps1_1 (StableHlo.after hostOps1 (V2 m (outs m) c)))) = _
  rw [V2_outs]

theorem tc_ne {r r' : Ref sig .tc} (h : r ≠ r') : (Proc.devRef (τ := τ) .tc r) ≠ Proc.devRef .tc r' :=
  fun e => h (Proc.devRef_injective _ e)

theorem V2_eq (c : Dev nD) : V2 m (outs m) c = afterRegion (dat0 (V1 m c) c) (V1 m c) := by
  rw [V2_outs]
  funext b
  by_cases hb : ∃ r : Ref sig .tc, Proc.devRef .tc r = b
  · obtain ⟨r, rfl⟩ := hb
    by_cases h2 : r = main_v3_2
    · subst h2; exact Function.update_self _ _ _
    refine (Function.update_of_ne (tc_ne h2) _ _).trans ?_
    by_cases h1 : r = main_v3_1
    · subst h1; exact Function.update_self _ _ _
    refine (Function.update_of_ne (tc_ne h1) _ _).trans ?_
    by_cases h0 : r = main_v3_0
    · subst h0; exact Function.update_self _ _ _
    refine (Function.update_of_ne (tc_ne h0) _ _).trans ?_
    refine (afterRegion_keeps (dat0 (V1 m c) c) (V1 m c) launch0.win.arr_inj (fun _ => rfl) r fun w hw => ?_).symm
    match w, hw with
    | ⟨0, _⟩, _ => rfl
    | ⟨1, _⟩, _ => rfl
    | ⟨2, _⟩, _ => rfl
    | ⟨3, _⟩, e => exact absurd e.symm h0
    | ⟨4, _⟩, e => exact absurd e.symm h1
    | ⟨5, _⟩, e => exact absurd e.symm h2
  · have hne : ∀ r : Ref sig .tc, b ≠ Proc.devRef .tc r := fun r e => hb ⟨r, e.symm⟩
    unfold afterRegion
    rw [dif_neg (fun ⟨w, e⟩ => hne _ e)]
    exact (Function.update_of_ne (hne _) _ _).trans ((Function.update_of_ne (hne _) _ _).trans (Function.update_of_ne (hne _) _ _))

theorem V7_eq (c : Dev nD) : V7 m (outs m) c = afterRegion (dat1 (V6 m (outs m) c) c) (V6 m (outs m) c) := by
  unfold V7
  rw [outs_seven, V6_outs]
  funext b
  by_cases hb : ∃ r : Ref sig .tc, Proc.devRef .tc r = b
  · obtain ⟨r, rfl⟩ := hb
    by_cases h2 : r = main_v15
    · subst h2; exact Function.update_self _ _ _
    refine (Function.update_of_ne (tc_ne h2) _ _).trans ?_
    refine (afterRegion_keeps (dat1 (V6 m (outs0 m) c) c) (V6 m (outs0 m) c) launch1.win.arr_inj (fun _ => rfl) r fun w hw => ?_).symm
    match w, hw with
    | ⟨0, _⟩, _ => rfl
    | ⟨1, _⟩, _ => rfl
    | ⟨2, _⟩, e => exact absurd e.symm h2
  · have hne : ∀ r : Ref sig .tc, b ≠ Proc.devRef .tc r := fun r e => hb ⟨r, e.symm⟩
    unfold afterRegion
    rw [dif_neg (fun ⟨w, e⟩ => hne _ e)]
    exact Function.update_of_ne (hne _) _ _

/-! ## The segments -/

/-- Both pipelines' data. -/
def pdats : (p : Fin 2) → (c : Dev nD) → Dat τ (Elt F) Unit ℕ (UR sig nD τ) ℕ (cfgs p) c
  | ⟨0, _⟩, c => dat0 (V1 m c) c
  | ⟨1, _⟩, c => dat1 (V6 m (outs m) c) c

/-- One level everywhere. -/
abbrev L1 : GSem nD τ sig → Finset Unit := fun g => if g.1.2 = .tc then {()} else ∅
abbrev lv1 : GSem nD τ sig → Unit → ℕ := fun _ _ => 0

theorem cut (p : Fin 2) : LevelCut (pcfgs (F := F)) adm () L1 lv1 p (fun _ => 0) (fun _ => 0) where
  hι c w s := by show () ∈ (if (Proc.tc : Proc τ) = .tc then {()} else ∅ : Finset Unit); rw [if_pos rfl]; exact Finset.mem_singleton_self _
  hιb c w s := le_refl _
  hD c g i h := absurd h (lt_irrefl _)

theorem rest_in0 (c : Dev nD) : iprop(scopedRest spec0 c ∗ BI.emp) ⊢ (scopedRest spec0 c : sProp 𝕄) := by
  iintro ⟨H, -⟩; iexact H
theorem rest_out0 (c : Dev nD) : (scopedRest spec0 c : sProp 𝕄) ⊢ iprop(scopedRest spec0 c ∗ BI.emp) := by
  iintro H; isplitl [H]; · iexact H
  iempintro
theorem rest_in1 (c : Dev nD) : iprop(scopedRest spec1 c ∗ BI.emp) ⊢ (scopedRest spec1 c : sProp 𝕄) := by
  iintro ⟨H, -⟩; iexact H
theorem rest_out1 (c : Dev nD) : (scopedRest spec1 c : sProp 𝕄) ⊢ iprop(scopedRest spec1 c ∗ BI.emp) := by
  iintro H; isplitl [H]; · iexact H
  iempintro

/-- The decode region over the buffers at `V1`. -/
def R0 : RegionSeg (pcfgs (F := F)) adm (pdats m) () defs₀ Variants.none L1 lv1 0 :=
  RegionSeg.ofHeldIn _ _ _ _ _ _ _ _ _ (fun _ => 0) (ucRefs τ sig) (fun _ => BI.emp) (fun _ => BI.emp) launch0.toP rfl
    (fun c => body0 (V1 m c) c) (fun _ _ => rfl) (fun _ => rfl)
    (fun c => Dat.share_full _ (fun _ => rfl)) (fun c => rest_in0 c) (fun c => rest_out0 c)
    (fun _ => 0) (cut 0) (fun _ => BI.emp) (fun c => V1 m c) (fun c w => rfl)

/-- The suppression region over the buffers at `V6`. -/
def R1 : RegionSeg (pcfgs (F := F)) adm (pdats m) () defs₀ Variants.none L1 lv1 1 :=
  RegionSeg.ofHeldIn _ _ _ _ _ _ _ _ _ (fun _ => 0) (ucRefs τ sig) (fun _ => BI.emp) (fun _ => BI.emp) launch1.toP rfl
    (fun c => (body1 (V6 m (outs m) c) c).loose) (fun _ _ => rfl) (fun _ => rfl)
    (fun c => Dat.share_full _ (fun _ => rfl)) (fun c => rest_in1 c) (fun c => rest_out1 c)
    (fun _ => 0) (cut 1) (fun _ => BI.emp) (fun c => V6 m (outs m) c) (fun c w => rfl)

/-- What rides beside the buffers: the core owes nothing. -/
def Eb : Fin 3 → Dev nD → sProp 𝕄 := fun _ c => iprop((∃ W, owes (c : Thread nD τ) (0 : CellTallies nD τ sig Unit) W) ∗ BI.emp ∗ BI.emp)

theorem arrs0 : arrRefs (τ := τ) (pcfgs (F := F) 0).spec ⊆ ucRefs τ sig := arrRefs_sub_ucRefs spec0 (by decide)
theorem arrs1 : arrRefs (τ := τ) (pcfgs (F := F) 1).spec ⊆ ucRefs τ sig := arrRefs_sub_ucRefs spec1 (by decide)

theorem pre0 (c : Dev nD) : iprop(StableHlo.held (c : Thread nD τ) (ucRefs τ sig) (V1 m c) ∗ Eb (F := F) 0 c) ⊢ (R0 m).pre c :=
  RegionSeg.ofHeldIn_pre (pcs := pcfgs (F := F)) (a := adm) (pdats := pdats m) (ι := ()) (defs₀ := defs₀) (𝒱₀ := Variants.none) (L := L1) (lv := lv1) (p := 0)
    (D := fun _ => 0) (S := ucRefs τ sig) (X := fun _ => BI.emp) (Y := fun _ => BI.emp) (R := fun _ => BI.emp) (W := fun c => V1 m c) arrs0 c
theorem post0 (c : Dev nD) : (R0 m).post c ⊢ iprop(StableHlo.held (c : Thread nD τ) (ucRefs τ sig) (V2 m (outs m) c) ∗ Eb (F := F) 1 c) := by
  rw [V2_eq]; exact RegionSeg.ofHeldIn_post (pcs := pcfgs (F := F)) (a := adm) (pdats := pdats m) (ι := ()) (defs₀ := defs₀) (𝒱₀ := Variants.none) (L := L1) (lv := lv1) (p := 0)
    (D := fun _ => 0) (S := ucRefs τ sig) (X := fun _ => BI.emp) (Y := fun _ => BI.emp) (R := fun _ => BI.emp) (W := fun c => V1 m c) arrs0 c
theorem pre1 (c : Dev nD) : iprop(StableHlo.held (c : Thread nD τ) (ucRefs τ sig) (V6 m (outs m) c) ∗ Eb (F := F) 1 c) ⊢ (R1 m).pre c :=
  RegionSeg.ofHeldIn_pre (pcs := pcfgs (F := F)) (a := adm) (pdats := pdats m) (ι := ()) (defs₀ := defs₀) (𝒱₀ := Variants.none) (L := L1) (lv := lv1) (p := 1)
    (D := fun _ => 0) (S := ucRefs τ sig) (X := fun _ => BI.emp) (Y := fun _ => BI.emp) (R := fun _ => BI.emp) (W := fun c => V6 m (outs m) c) arrs1 c
theorem post1 (c : Dev nD) : (R1 m).post c ⊢ iprop(StableHlo.held (c : Thread nD τ) (ucRefs τ sig) (V7 m (outs m) c) ∗ Eb (F := F) 2 c) := by
  rw [V7_eq]; exact RegionSeg.ofHeldIn_post (pcs := pcfgs (F := F)) (a := adm) (pdats := pdats m) (ι := ()) (defs₀ := defs₀) (𝒱₀ := Variants.none) (L := L1) (lv := lv1) (p := 1)
    (D := fun _ => 0) (S := ucRefs τ sig) (X := fun _ => BI.emp) (Y := fun _ => BI.emp) (R := fun _ => BI.emp) (W := fun c => V6 m (outs m) c) arrs1 c

/-! ## The run -/

/-- The launch makes what rides beside the buffers. -/
theorem launch_rest (ρ : Dev nD → PrngReg) :
    iprop((bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ BI.emp)) ∗ levAts L1 lv1)
      ⊢ (|={Set.univ}=> bigSep Finset.univ (Eb (F := F) 0) : sProp 𝕄) := by
  iintro ⟨H, -⟩
  imodintro
  have h : (bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ BI.emp)) ⊢ (bigSep Finset.univ (Eb (F := F) 0) : sProp 𝕄) :=
    bigSep_mono fun c _ => by
      show _ ⊢ iprop((∃ W, owes (c : Thread nD τ) (0 : CellTallies nD τ sig Unit) W) ∗ BI.emp ∗ BI.emp)
      iintro ⟨-, H, -⟩
      isplitl [H]
      · iexists ∅; iexact H
      isplitl <;> iempintro
  iapply h; iexact H

/-- The run of the whole program: it terminates; its arguments are as launched, every semaphore is at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  frame_cond m emb₁ () Variants.none L1 lv1 (fun g h => if_neg h) ρ (outs m) (pdats m) (fun _ => 0) (fun _ => BI.emp)
    (initOf (Pipeline.cells cfgs launch0.cellOf_inj) (Pipeline.launchToks cfgs launch0.cellOf_inj))
    (launch_ghost)
    Eb (launch_rest ρ) (fun c => by unfold Eb; iintro ⟨H, -⟩; iexact H)
    (R0 m) (pre0 m) (post0 m) (R1 m) (pre1 m) (post1 m)

end Cert.Own.Kernel

end
-- ==== Proof.RefRun.lean ====
/-
  The reference's run: which buffers its stretches leave alone, and its frame.
-/
module

public import proofs.«01_k».proof.Proof.Gen.ReferenceIdeal.Run
public import Idealize.ShloMosaic.Lib.StableHlo.RunHlo

@[expose] public section

noncomputable section

namespace Cert.Own.Reference

open Cert.ReferenceIdeal Cert.ReferenceIdeal.Gen Cert.ReferenceIdeal.Value
open Idealize.ShloMosaic Idealize.ShloMosaic.TcCoe Idealize.ShloMosaic.StableHlo
open Idealize.SL

variable {F : FTy → Type} [FloatOps F]

/-! What each stretch after the loop writes. -/

abbrev hostOps0_17_W : List (Ref sig .tc) := [main_cst_34, main_v162, main_v163, main_v164, main_cst_35]
theorem hostOps0_17_writes : (hostOps0_17 : List (HloOp τ sig (Elt F))).Forall fun op => op.writes ⊆ (hostOps0_17_W.map (Proc.devRef (τ := τ) .tc)).toFinset :=
  StableHlo.forall_writes_sub_of_map rfl
abbrev hostOps0_18_W : List (Ref sig .tc) := [main_call11_v0, main_call11_v1, main_call11_v2, main_v165]
theorem hostOps0_18_writes : (hostOps0_18 : List (HloOp τ sig (Elt F))).Forall fun op => op.writes ⊆ (hostOps0_18_W.map (Proc.devRef (τ := τ) .tc)).toFinset :=
  StableHlo.forall_writes_sub_of_map rfl
abbrev hostOps0_19_W : List (Ref sig .tc) := [main_values_36, main_indices_37, main_v166, main_cst_38, main_v167, main_v168, main_v169, main_c_39, main_v170, main_v171, main_c_40, main_v172, main_v173, main_v174, main_v175, main_v176, main_cst_41]
theorem hostOps0_19_writes : (hostOps0_19 : List (HloOp τ sig (Elt F))).Forall fun op => op.writes ⊆ (hostOps0_19_W.map (Proc.devRef (τ := τ) .tc)).toFinset :=
  StableHlo.forall_writes_sub_of_map rfl
abbrev hostOps0_20_W : List (Ref sig .tc) := [main_call12_v0, main_call12_v1, main_call12_v2, main_call12_v3, main_v177]
theorem hostOps0_20_writes : (hostOps0_20 : List (HloOp τ sig (Elt F))).Forall fun op => op.writes ⊆ (hostOps0_20_W.map (Proc.devRef (τ := τ) .tc)).toFinset :=
  StableHlo.forall_writes_sub_of_map rfl
abbrev hostOps0_21_W : List (Ref sig .tc) := [main_cst_42]
theorem hostOps0_21_writes : (hostOps0_21 : List (HloOp τ sig (Elt F))).Forall fun op => op.writes ⊆ (hostOps0_21_W.map (Proc.devRef (τ := τ) .tc)).toFinset :=
  StableHlo.forall_writes_sub_of_map rfl
abbrev hostOps0_22_W : List (Ref sig .tc) := [main_call13_v0, main_call13_v1, main_call13_v2, main_v178]
theorem hostOps0_22_writes : (hostOps0_22 : List (HloOp τ sig (Elt F))).Forall fun op => op.writes ⊆ (hostOps0_22_W.map (Proc.devRef (τ := τ) .tc)).toFinset :=
  StableHlo.forall_writes_sub_of_map rfl
abbrev hostOps0_23_W : List (Ref sig .tc) := [main_c_43, main_v179, main_v180, main_c_44, main_v181, main_v182, main_v183, main_v184, main_v185, main_c_45]
theorem hostOps0_23_writes : (hostOps0_23 : List (HloOp τ sig (Elt F))).Forall fun op => op.writes ⊆ (hostOps0_23_W.map (Proc.devRef (τ := τ) .tc)).toFinset :=
  StableHlo.forall_writes_sub_of_map rfl
abbrev hostOps0_24_W : List (Ref sig .tc) := [main_call14_v0, main_call14_v1, main_call14_v2, main_v186]
theorem hostOps0_24_writes : (hostOps0_24 : List (HloOp τ sig (Elt F))).Forall fun op => op.writes ⊆ (hostOps0_24_W.map (Proc.devRef (τ := τ) .tc)).toFinset :=
  StableHlo.forall_writes_sub_of_map rfl

/-- What the stretches before the loop write. -/
abbrev preW : List (Ref sig .tc) :=
  hostOps0_16_W ++ hostOps0_15_W ++ hostOps0_14_W ++ hostOps0_13_W ++ hostOps0_12_W ++ hostOps0_11_W ++ hostOps0_10_W ++ hostOps0_9_W ++ hostOps0_8_W ++ hostOps0_7_W ++ hostOps0_6_W ++ hostOps0_5_W ++ hostOps0_4_W ++ hostOps0_3_W ++ hostOps0_2_W ++ hostOps0_1_W ++ hostOps0_W
/-- What a trip writes. -/
abbrev bodyW : List (Ref sig .tc) :=
  while0Ops0_6_W ++ while0Ops0_5_W ++ while0Ops0_4_W ++ while0Ops0_3_W ++ while0Ops0_2_W ++ while0Ops0_1_W ++ while0Ops0_W
/-- What the stretches after the loop write. -/
abbrev postW : List (Ref sig .tc) :=
  hostOps0_24_W ++ hostOps0_23_W ++ hostOps0_22_W ++ hostOps0_21_W ++ hostOps0_20_W ++ hostOps0_19_W ++ hostOps0_18_W ++ hostOps0_17_W

variable (V : Valuation τ sig (Elt F)) (r : Ref sig .tc)

theorem pre_keeps (h : r ∉ preW) : afterL preI V (Proc.devRef .tc r) = V (Proc.devRef .tc r) := by
  simp only [preW, List.mem_append, not_or] at h
  simp only [preI, afterL_cons, afterL_nil]
  obtain ⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩ := h
  rw [after_of_writes_sub hostOps0_16 _ hostOps0_16_writes h0,
    after_of_writes_sub hostOps0_15 _ hostOps0_15_writes h1,
    after_of_writes_sub hostOps0_14 _ hostOps0_14_writes h2,
    after_of_writes_sub hostOps0_13 _ hostOps0_13_writes h3,
    after_of_writes_sub hostOps0_12 _ hostOps0_12_writes h4,
    after_of_writes_sub hostOps0_11 _ hostOps0_11_writes h5,
    after_of_writes_sub hostOps0_10 _ hostOps0_10_writes h6,
    after_of_writes_sub hostOps0_9 _ hostOps0_9_writes h7,
    after_of_writes_sub hostOps0_8 _ hostOps0_8_writes h8,
    after_of_writes_sub hostOps0_7 _ hostOps0_7_writes h9,
    after_of_writes_sub hostOps0_6 _ hostOps0_6_writes h10,
    after_of_writes_sub hostOps0_5 _ hostOps0_5_writes h11,
    after_of_writes_sub hostOps0_4 _ hostOps0_4_writes h12,
    after_of_writes_sub hostOps0_3 _ hostOps0_3_writes h13,
    after_of_writes_sub hostOps0_2 _ hostOps0_2_writes h14,
    after_of_writes_sub hostOps0_1 _ hostOps0_1_writes h15,
    after_of_writes_sub hostOps0 _ hostOps0_writes h16]
theorem body_keeps (h : r ∉ bodyW) : afterL bodyI V (Proc.devRef .tc r) = V (Proc.devRef .tc r) := by
  simp only [bodyW, List.mem_append, not_or] at h
  simp only [bodyI, afterL_cons, afterL_nil]
  obtain ⟨⟨⟨⟨⟨⟨h0, h1⟩, h2⟩, h3⟩, h4⟩, h5⟩, h6⟩ := h
  rw [after_of_writes_sub while0Ops0_6 _ while0Ops0_6_writes h0,
    after_of_writes_sub while0Ops0_5 _ while0Ops0_5_writes h1,
    after_of_writes_sub while0Ops0_4 _ while0Ops0_4_writes h2,
    after_of_writes_sub while0Ops0_3 _ while0Ops0_3_writes h3,
    after_of_writes_sub while0Ops0_2 _ while0Ops0_2_writes h4,
    after_of_writes_sub while0Ops0_1 _ while0Ops0_1_writes h5,
    after_of_writes_sub while0Ops0 _ while0Ops0_writes h6]
theorem post_keeps (h : r ∉ postW) : afterL postI V (Proc.devRef .tc r) = V (Proc.devRef .tc r) := by
  simp only [postW, List.mem_append, not_or] at h
  simp only [postI, afterL_cons, afterL_nil]
  obtain ⟨⟨⟨⟨⟨⟨⟨h0, h1⟩, h2⟩, h3⟩, h4⟩, h5⟩, h6⟩, h7⟩ := h
  rw [after_of_writes_sub hostOps0_24 _ hostOps0_24_writes h0,
    after_of_writes_sub hostOps0_23 _ hostOps0_23_writes h1,
    after_of_writes_sub hostOps0_22 _ hostOps0_22_writes h2,
    after_of_writes_sub hostOps0_21 _ hostOps0_21_writes h3,
    after_of_writes_sub hostOps0_20 _ hostOps0_20_writes h4,
    after_of_writes_sub hostOps0_19 _ hostOps0_19_writes h5,
    after_of_writes_sub hostOps0_18 _ hostOps0_18_writes h6,
    after_of_writes_sub hostOps0_17 _ hostOps0_17_writes h7]

variable (m : (ℓ : Loc nD τ sig) → Buf (Elt F) ℓ) (c : Dev nD)

/-- A buffer no trip writes is at every trip as it was before the loop. -/
theorem trips_keep (hb : r ∉ bodyW) (hc : r ∉ condOps_W) (k : ℕ) :
    atK m k c (Proc.devRef .tc r) = entryContents preI m c (Proc.devRef .tc r) := by
  induction k with
  | zero => rfl
  | succ k ih =>
    rw [show atK m (k + 1) c = afterL bodyI (after condOps (atK m k c)) from rfl, body_keeps _ _ hb,
      after_of_writes_sub condOps _ condOps_writes hc, ih]

/-- What the stretches after the loop are entered with. -/
abbrev exitV : Valuation τ sig (Elt F) := after condOps (atK m 1000 c)

theorem exit_keeps (hb : r ∉ bodyW) (hc : r ∉ condOps_W) :
    exitV m c (Proc.devRef .tc r) = entryContents preI m c (Proc.devRef .tc r) := by
  rw [show exitV m c = after condOps (atK m 1000 c) from rfl, after_of_writes_sub condOps _ condOps_writes hc, trips_keep r m c hb hc]

theorem final_eq : finalContents condOps preI bodyI postI 1000 m c = afterL postI (exitV m c) := rfl

theorem entry_eq : entryContents preI m c = afterL preI (launchContents m c) := rfl

theorem final_keeps (h1 : r ∉ preW) (hb : r ∉ bodyW) (hc : r ∉ condOps_W) (h2 : r ∉ postW) :
    finalContents condOps preI bodyI postI 1000 m c (Proc.devRef .tc r) = m ((c.tc : Thread nD τ).loc r) := by
  rw [final_eq, post_keeps _ _ h2, exit_keeps _ _ _ hb hc, entry_eq, pre_keeps _ _ h1]

/-- The reference's run: its results are what the stretches after the loop leave, its arguments as launched. -/
theorem run (ρ : Dev nD → PrngReg) :
    θ_run (defs (F := F)) (onTc (τ := τ) (main (F := F))) ⟨m, fun _ => 0, ρ⟩ (fun r => ∀ c : Dev nD,
      (r.2.mem ((c.tc : Thread nD τ).loc main_v177) = afterL postI (exitV m c) (Proc.devRef .tc main_v177)
      ∧ r.2.mem ((c.tc : Thread nD τ).loc main_v178) = afterL postI (exitV m c) (Proc.devRef .tc main_v178)
      ∧ r.2.mem ((c.tc : Thread nD τ).loc main_v186) = afterL postI (exitV m c) (Proc.devRef .tc main_v186))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (run_fold m ρ) fun r h c => ⟨⟨h c main_v177 (by decide), h c main_v178 (by decide), h c main_v186 (by decide)⟩,
      (h c main_arg0 (by decide)).trans (final_keeps main_arg0 m c (by decide +kernel) (by decide +kernel) (by decide +kernel) (by decide +kernel)),
      (h c main_arg1 (by decide)).trans (final_keeps main_arg1 m c (by decide +kernel) (by decide +kernel) (by decide +kernel) (by decide +kernel)),
      (h c main_arg2 (by decide)).trans (final_keeps main_arg2 m c (by decide +kernel) (by decide +kernel) (by decide +kernel) (by decide +kernel))⟩

end Cert.Own.Reference

end
-- ==== Proof.Spec.lean ====
/-
  The mathematics of the post-processing on extended reals: decoding a box, masking a score, the order of a row, the
  greedy suppression.
-/
module

public import Idealize.ShloMosaic.PureOps.Ideal
public import Idealize.ShloMosaic.Lib.Pointwise

@[expose] public section

noncomputable section

namespace Cert.Own.Spec

open Idealize.ShloMosaic

/-- The real a binary32 word denotes. -/
abbrev lit (w : BitVec 32) : EReal := Ideal.ofBits FTy.f32 w

/-- A coordinate clipped to the image. -/
def clip (x : EReal) : EReal := min (lit 1140850688#32) (max 0 x)

/-- A box's centre along one axis, from the anchor's two ends and the offset. -/
def centre (lo hi off : EReal) : EReal := lo + lit 1056964608#32 * (hi - lo) + off * (hi - lo)

/-- A box's extent along one axis, from the anchor's two ends and the logarithm of the ratio, clipped. -/
def extent (lo hi lg : EReal) : EReal := (hi - lo) * Ideal.exp (min (lit 1082130432#32) (max (lit 3229614080#32) lg))

/-- The decoded box of an anchor and its deltas. -/
def box (a d : Fin 4 → EReal) : Fin 4 → EReal :=
  ![clip (centre (a 0) (a 2) (d 0) - lit 1056964608#32 * extent (a 0) (a 2) (d 2)),
    clip (centre (a 1) (a 3) (d 1) - lit 1056964608#32 * extent (a 1) (a 3) (d 3)),
    clip (centre (a 0) (a 2) (d 0) + lit 1056964608#32 * extent (a 0) (a 2) (d 2)),
    clip (centre (a 1) (a 3) (d 1) + lit 1056964608#32 * extent (a 1) (a 3) (d 3))]

/-- A row's greatest score. -/
def best (s : Fin 80 → EReal) : EReal := (Finset.univ : Finset (Fin 80)).fold max (lit 4286578688#32) s

/-- The score of a box, −10⁹ where it is too low or the box too small. -/
def masked (s : Fin 80 → EReal) (p : Fin 4 → EReal) : EReal :=
  Scalar.select
    (IntOp.andi (IntOp.andi (BitVec.ofBool (decide (lit 1028443341#32 < best s))) (BitVec.ofBool (decide (lit 1073741824#32 < p 3 - p 1))))
      (BitVec.ofBool (decide (lit 1073741824#32 < p 2 - p 0))))
    (best s) (lit 3463342888#32)

/-- The class of a row: the first place its greatest score stands at. -/
def cls (s : Fin 80 → EReal) : BitVec 32 := BitVec.ofNat 32 ((List.finRange 80).findIdx fun k => decide (s k = best s))

/-- Which entry of a row stands `k`-th when the row is put in descending order, equal entries in the row's order. -/
def top {n : ℕ} (x : Fin n → EReal) (k : Fin n) : Fin n := sortedFrom (fun i j => decide (x j < x i)) k

/-- Area of a box. -/
def area (p : Fin 4 → EReal) : EReal := max (p 2 - p 0) 0 * max (p 3 - p 1) 0

/-- Area of the intersection of two boxes. -/
def inter (p q : Fin 4 → EReal) : EReal := max (min (p 2) (q 2) - max (p 0) (q 0)) 0 * max (min (p 3) (q 3) - max (p 1) (q 1)) 0

/-- Their intersection over their union. -/
def iou (p q : Fin 4 → EReal) : EReal := Ideal.div (inter p q) (max (area p + area q - inter p q) (lit 897988541#32))

/-- Which boxes the suppression keeps after the first `t` boxes have been its pivot. -/
def keep (p : Fin 1000 → Fin 4 → EReal) (s : Fin 1000 → EReal) : ℕ → Fin 1000 → Bool
  | 0, _ => true
  | t + 1, j => keep p s t j && !(if h : t < 1000 then
      decide (lit 1056964608#32 < iou (p ⟨t, h⟩) (p j)) && decide (0 < s ⟨t, h⟩ - s j) && decide (t < j.val) && keep p s t ⟨t, h⟩ else false)

/-- The scores kept and high enough, −∞ elsewhere. -/
def final (s : Fin 1000 → EReal) (q : Fin 1000 → Bool) (j : Fin 1000) : EReal :=
  if q j && decide (lit 3435052064#32 < s j) then s j else lit 4286578688#32

/-- The entry of a row of scores that stands `k`-th. -/
def place (x : Fin 20000 → EReal) (k : Fin 1000) : Fin 20000 := top x (Fin.castLE (by decide) k)

/-- The entry of a row of kept scores that stands `k`-th. -/
def spot (x : Fin 1000 → EReal) (k : Fin 100) : Fin 1000 := top x (Fin.castLE (by decide) k)

/-- Whether a score is finite. -/
def finite (x : EReal) : BitVec 1 := BitVec.ofBool (decide (max x (-x) < ⊤))

/-! The whole, for one image: `anchors`, `deltas` and `scores` are its boxes' rows. -/

section
variable (anchors deltas : Fin 20000 → Fin 4 → EReal) (scores : Fin 20000 → Fin 80 → EReal)

/-- The masked scores. -/
def row (n : Fin 20000) : EReal := masked (scores n) (box (anchors n) (deltas n))

/-- Which box stands `k`-th among the best thousand. -/
def pick (k : Fin 1000) : Fin 20000 := place (row anchors deltas scores) k

/-- Its coordinates. -/
def pickBox (k : Fin 1000) : Fin 4 → EReal := box (anchors (pick anchors deltas scores k)) (deltas (pick anchors deltas scores k))

/-- Its score. -/
def pickScore (k : Fin 1000) : EReal := row anchors deltas scores (pick anchors deltas scores k)

/-- The scores after the suppression. -/
def survive : Fin 1000 → EReal :=
  final (pickScore anchors deltas scores) (keep (pickBox anchors deltas scores) (pickScore anchors deltas scores) 1000)

/-- Which of the thousand stands `k`-th among the best hundred that survive. -/
def last (k : Fin 100) : Fin 1000 := spot (survive anchors deltas scores) k

/-- Whether there are so many. -/
def there (k : Fin 100) : BitVec 1 := finite (survive anchors deltas scores (last anchors deltas scores k))

/-- The boxes returned. -/
def outBoxes (k : Fin 100) (c : Fin 4) : EReal :=
  Scalar.select (there anchors deltas scores k) (pickBox anchors deltas scores (last anchors deltas scores k) c) 0

/-- The scores returned. -/
def outScores (k : Fin 100) : EReal :=
  Scalar.select (there anchors deltas scores k) (survive anchors deltas scores (last anchors deltas scores k)) 0

/-- The classes returned. -/
def outClasses (k : Fin 100) : BitVec 32 :=
  Scalar.select (there anchors deltas scores k) (cls (scores (pick anchors deltas scores (last anchors deltas scores k)))) 0#32
end

end Cert.Own.Spec

end
-- ==== Proof.RefPre.lean ====
/-
  The reference before its loop: the decoded boxes, the greatest scores, the masked scores and the classes, at an index.
-/
module

public import proofs.«01_k».proof.Proof.RefRun
public import proofs.«01_k».proof.Proof.Spec
public import Idealize.ShloMosaic.Lib.StableHlo.ReadAt
public import Idealize.ShloMosaic.Lib.Pointwise
public import Idealize.ShloMosaic.PureOps.Ideal

@[expose] public section

noncomputable section

namespace Cert.Own.Reference

open Cert.ReferenceIdeal Cert.ReferenceIdeal.Gen Cert.ReferenceIdeal.Value
open Idealize.ShloMosaic Idealize.ShloMosaic.TcCoe Idealize.ShloMosaic.StableHlo
open Cert.Own.Spec

variable (V : Valuation τ sig (Elt Ideal)) (b : Fin 4) (n : Fin 20000)

/-! The stretches before the loop, a few at a time. -/

/-- The buffers after `hostOps0` and `hostOps0_1`. -/
def U1 : Valuation τ sig (Elt Ideal) := after hostOps0_1 (after hostOps0 V)
theorem U1_keeps {r : Ref sig .tc} (h : r ∉ hostOps0_1_W ++ hostOps0_W) : U1 V (Proc.devRef .tc r) = V (Proc.devRef .tc r) := by
  rw [List.mem_append, not_or] at h
  unfold U1
  rw [after_of_writes_sub hostOps0_1 _ hostOps0_1_writes h.1, after_of_writes_sub hostOps0 _ hostOps0_writes h.2]
/-- The buffers after `hostOps0_2` and `hostOps0_3`. -/
def U2 : Valuation τ sig (Elt Ideal) := after hostOps0_3 (after hostOps0_2 V)
theorem U2_keeps {r : Ref sig .tc} (h : r ∉ hostOps0_3_W ++ hostOps0_2_W) : U2 V (Proc.devRef .tc r) = V (Proc.devRef .tc r) := by
  rw [List.mem_append, not_or] at h
  unfold U2
  rw [after_of_writes_sub hostOps0_3 _ hostOps0_3_writes h.1, after_of_writes_sub hostOps0_2 _ hostOps0_2_writes h.2]
/-- The buffers after `hostOps0_4` and `hostOps0_5`. -/
def U3 : Valuation τ sig (Elt Ideal) := after hostOps0_5 (after hostOps0_4 V)
theorem U3_keeps {r : Ref sig .tc} (h : r ∉ hostOps0_5_W ++ hostOps0_4_W) : U3 V (Proc.devRef .tc r) = V (Proc.devRef .tc r) := by
  rw [List.mem_append, not_or] at h
  unfold U3
  rw [after_of_writes_sub hostOps0_5 _ hostOps0_5_writes h.1, after_of_writes_sub hostOps0_4 _ hostOps0_4_writes h.2]
/-- The buffers after `hostOps0_6` and `hostOps0_7`. -/
def U4 : Valuation τ sig (Elt Ideal) := after hostOps0_7 (after hostOps0_6 V)
theorem U4_keeps {r : Ref sig .tc} (h : r ∉ hostOps0_7_W ++ hostOps0_6_W) : U4 V (Proc.devRef .tc r) = V (Proc.devRef .tc r) := by
  rw [List.mem_append, not_or] at h
  unfold U4
  rw [after_of_writes_sub hostOps0_7 _ hostOps0_7_writes h.1, after_of_writes_sub hostOps0_6 _ hostOps0_6_writes h.2]
/-- The buffers after `hostOps0_8` and `hostOps0_9`. -/
def U5 : Valuation τ sig (Elt Ideal) := after hostOps0_9 (after hostOps0_8 V)
theorem U5_keeps {r : Ref sig .tc} (h : r ∉ hostOps0_9_W ++ hostOps0_8_W) : U5 V (Proc.devRef .tc r) = V (Proc.devRef .tc r) := by
  rw [List.mem_append, not_or] at h
  unfold U5
  rw [after_of_writes_sub hostOps0_9 _ hostOps0_9_writes h.1, after_of_writes_sub hostOps0_8 _ hostOps0_8_writes h.2]
/-- The buffers after `hostOps0_10` and `hostOps0_11`. -/
def U6 : Valuation τ sig (Elt Ideal) := after hostOps0_11 (after hostOps0_10 V)
theorem U6_keeps {r : Ref sig .tc} (h : r ∉ hostOps0_11_W ++ hostOps0_10_W) : U6 V (Proc.devRef .tc r) = V (Proc.devRef .tc r) := by
  rw [List.mem_append, not_or] at h
  unfold U6
  rw [after_of_writes_sub hostOps0_11 _ hostOps0_11_writes h.1, after_of_writes_sub hostOps0_10 _ hostOps0_10_writes h.2]
/-- The buffers after `hostOps0_12`. -/
def U7 : Valuation τ sig (Elt Ideal) := after hostOps0_12 V
theorem U7_keeps {r : Ref sig .tc} (h : r ∉ hostOps0_12_W) : U7 V (Proc.devRef .tc r) = V (Proc.devRef .tc r) := by
  unfold U7
  rw [after_of_writes_sub hostOps0_12 _ hostOps0_12_writes h]
/-- The buffers after `hostOps0_13`. -/
def U8 : Valuation τ sig (Elt Ideal) := after hostOps0_13 V
theorem U8_keeps {r : Ref sig .tc} (h : r ∉ hostOps0_13_W) : U8 V (Proc.devRef .tc r) = V (Proc.devRef .tc r) := by
  unfold U8
  rw [after_of_writes_sub hostOps0_13 _ hostOps0_13_writes h]
/-- The buffers after `hostOps0_14` and `hostOps0_15`. -/
def U9 : Valuation τ sig (Elt Ideal) := after hostOps0_15 (after hostOps0_14 V)
theorem U9_keeps {r : Ref sig .tc} (h : r ∉ hostOps0_15_W ++ hostOps0_14_W) : U9 V (Proc.devRef .tc r) = V (Proc.devRef .tc r) := by
  rw [List.mem_append, not_or] at h
  unfold U9
  rw [after_of_writes_sub hostOps0_15 _ hostOps0_15_writes h.1, after_of_writes_sub hostOps0_14 _ hostOps0_14_writes h.2]
/-- The buffers after `hostOps0_16`. -/
def U10 : Valuation τ sig (Elt Ideal) := after hostOps0_16 V
theorem U10_keeps {r : Ref sig .tc} (h : r ∉ hostOps0_16_W) : U10 V (Proc.devRef .tc r) = V (Proc.devRef .tc r) := by
  unfold U10
  rw [after_of_writes_sub hostOps0_16 _ hostOps0_16_writes h]

theorem pre_eq : afterL preI V = U10 (U9 (U8 (U7 (U6 (U5 (U4 (U3 (U2 (U1 V))))))))) := rfl

theorem U1_v4 {e1 : EReal} (he1 : @Eq EReal (V (Proc.devRef .tc main_arg0) (ix2 n 2)) e1) {e2 : EReal} (he2 : @Eq EReal (V (Proc.devRef .tc main_arg0) (ix2 n 0)) e2) :
    @Eq EReal (U1 V (Proc.devRef .tc main_v4) (ix1 n)) (e1 - e2) := by
  subst he1
  subst he2
  unfold U1
  after_reads_simp
  try dsimp only [id]
  try simp -implicitDefEqProofs only [StableHlo.TRef.toBuf, StableHlo.TRef.ofBuf, cast_cast, cast_eq]
  clean_types
  pointwise
theorem U1_v9 {e1 : EReal} (he1 : @Eq EReal (V (Proc.devRef .tc main_arg0) (ix2 n 3)) e1) {e2 : EReal} (he2 : @Eq EReal (V (Proc.devRef .tc main_arg0) (ix2 n 1)) e2) :
    @Eq EReal (U1 V (Proc.devRef .tc main_v9) (ix1 n)) (e1 - e2) := by
  subst he1
  subst he2
  unfold U1
  after_reads_simp
  try dsimp only [id]
  try simp -implicitDefEqProofs only [StableHlo.TRef.toBuf, StableHlo.TRef.ofBuf, cast_cast, cast_eq]
  clean_types
  pointwise
theorem U1_v14 {e1 : EReal} (he1 : @Eq EReal (V (Proc.devRef .tc main_arg0) (ix2 n 0)) e1) {e2 : EReal} (he2 : @Eq EReal (V (Proc.devRef .tc main_arg0) (ix2 n 2)) e2) :
    @Eq EReal (U1 V (Proc.devRef .tc main_v14) (ix1 n)) (e1 + lit 1056964608#32 * (e2 - e1)) := by
  subst he1
  subst he2
  unfold U1
  after_reads_simp
  try dsimp only [id]
  try simp -implicitDefEqProofs only [StableHlo.TRef.toBuf, StableHlo.TRef.ofBuf, cast_cast, cast_eq]
  clean_types
  pointwise
theorem U1_v19 {e1 : EReal} (he1 : @Eq EReal (V (Proc.devRef .tc main_arg0) (ix2 n 1)) e1) {e2 : EReal} (he2 : @Eq EReal (V (Proc.devRef .tc main_arg0) (ix2 n 3)) e2) :
    @Eq EReal (U1 V (Proc.devRef .tc main_v19) (ix1 n)) (e1 + lit 1056964608#32 * (e2 - e1)) := by
  subst he1
  subst he2
  unfold U1
  after_reads_simp
  try dsimp only [id]
  try simp -implicitDefEqProofs only [StableHlo.TRef.toBuf, StableHlo.TRef.ofBuf, cast_cast, cast_eq]
  clean_types
  pointwise
theorem U1_v21 {e1 : EReal} (he1 : @Eq EReal (V (Proc.devRef .tc main_arg2) (ix3 b n 0)) e1) :
    @Eq EReal (U1 V (Proc.devRef .tc main_v21) (ix2 b n)) (e1) := by
  subst he1
  unfold U1
  after_reads_simp
  try dsimp only [id]
  try simp -implicitDefEqProofs only [StableHlo.TRef.toBuf, StableHlo.TRef.ofBuf, cast_cast, cast_eq]
  clean_types
  pointwise
theorem U1_v23 {e1 : EReal} (he1 : @Eq EReal (V (Proc.devRef .tc main_arg2) (ix3 b n 1)) e1) :
    @Eq EReal (U1 V (Proc.devRef .tc main_v23) (ix2 b n)) (e1) := by
  subst he1
  unfold U1
  after_reads_simp
  try dsimp only [id]
  try simp -implicitDefEqProofs only [StableHlo.TRef.toBuf, StableHlo.TRef.ofBuf, cast_cast, cast_eq]
  clean_types
  pointwise
theorem U1_v26 {e1 : EReal} (he1 : @Eq EReal (V (Proc.devRef .tc main_arg2) (ix3 b n 2)) e1) :
    @Eq EReal (U1 V (Proc.devRef .tc main_v26) (ix2 b n)) (min (lit 1082130432#32) (max (lit 3229614080#32) (e1))) := by
  subst he1
  unfold U1
  after_reads_simp
  try dsimp only [id]
  try simp -implicitDefEqProofs only [StableHlo.TRef.toBuf, StableHlo.TRef.ofBuf, cast_cast, cast_eq]
  clean_types
  pointwise
theorem U2_v29 {e1 : EReal} (he1 : @Eq EReal (V (Proc.devRef .tc main_arg2) (ix3 b n 3)) e1) :
    @Eq EReal (U2 V (Proc.devRef .tc main_v29) (ix2 b n)) (min (lit 1082130432#32) (max (lit 3229614080#32) (e1))) := by
  subst he1
  unfold U2
  after_reads_simp
  try dsimp only [id]
  try simp -implicitDefEqProofs only [StableHlo.TRef.toBuf, StableHlo.TRef.ofBuf, cast_cast, cast_eq]
  clean_types
  pointwise
theorem U3_v35 {e1 : EReal} (he1 : @Eq EReal (V (Proc.devRef .tc main_v14) (ix1 n)) e1) {e2 : EReal} (he2 : @Eq EReal (V (Proc.devRef .tc main_v21) (ix2 b n)) e2) {e3 : EReal} (he3 : @Eq EReal (V (Proc.devRef .tc main_v4) (ix1 n)) e3) :
    @Eq EReal (U3 V (Proc.devRef .tc main_v35) (ix2 b n)) ((e1 + e2 * e3)) := by
  subst he1
  subst he2
  subst he3
  unfold U3
  after_reads_simp
  try dsimp only [id]
  try simp -implicitDefEqProofs only [StableHlo.TRef.toBuf, StableHlo.TRef.ofBuf, cast_cast, cast_eq]
  clean_types
  pointwise
theorem U3_v41 {e1 : EReal} (he1 : @Eq EReal (V (Proc.devRef .tc main_v19) (ix1 n)) e1) {e2 : EReal} (he2 : @Eq EReal (V (Proc.devRef .tc main_v23) (ix2 b n)) e2) {e3 : EReal} (he3 : @Eq EReal (V (Proc.devRef .tc main_v9) (ix1 n)) e3) :
    @Eq EReal (U3 V (Proc.devRef .tc main_v41) (ix2 b n)) ((e1 + e2 * e3)) := by
  subst he1
  subst he2
  subst he3
  unfold U3
  after_reads_simp
  try dsimp only [id]
  try simp -implicitDefEqProofs only [StableHlo.TRef.toBuf, StableHlo.TRef.ofBuf, cast_cast, cast_eq]
  clean_types
  pointwise
theorem U3_v45 {e1 : EReal} (he1 : @Eq EReal (V (Proc.devRef .tc main_v4) (ix1 n)) e1) {e2 : EReal} (he2 : @Eq EReal (V (Proc.devRef .tc main_v26) (ix2 b n)) e2) :
    @Eq EReal (U3 V (Proc.devRef .tc main_v45) (ix2 b n)) ((e1 * Ideal.exp (e2))) := by
  subst he1
  subst he2
  unfold U3
  after_reads_simp
  try dsimp only [id]
  try simp -implicitDefEqProofs only [StableHlo.TRef.toBuf, StableHlo.TRef.ofBuf, cast_cast, cast_eq]
  clean_types
  pointwise
theorem U3_v49 {e1 : EReal} (he1 : @Eq EReal (V (Proc.devRef .tc main_v9) (ix1 n)) e1) {e2 : EReal} (he2 : @Eq EReal (V (Proc.devRef .tc main_v29) (ix2 b n)) e2) :
    @Eq EReal (U3 V (Proc.devRef .tc main_v49) (ix2 b n)) ((e1 * Ideal.exp (e2))) := by
  subst he1
  subst he2
  unfold U3
  after_reads_simp
  try dsimp only [id]
  try simp -implicitDefEqProofs only [StableHlo.TRef.toBuf, StableHlo.TRef.ofBuf, cast_cast, cast_eq]
  clean_types
  pointwise
theorem U3_v53 {e1 : EReal} (he1 : @Eq EReal (V (Proc.devRef .tc main_v14) (ix1 n)) e1) {e2 : EReal} (he2 : @Eq EReal (V (Proc.devRef .tc main_v21) (ix2 b n)) e2) {e3 : EReal} (he3 : @Eq EReal (V (Proc.devRef .tc main_v4) (ix1 n)) e3) {e4 : EReal} (he4 : @Eq EReal (V (Proc.devRef .tc main_v26) (ix2 b n)) e4) :
    @Eq EReal (U3 V (Proc.devRef .tc main_v53) (ix2 b n)) (min (lit 1140850688#32) (max 0 ((e1 + e2 * e3) - lit 1056964608#32 * (e3 * Ideal.exp (e4))))) := by
  subst he1
  subst he2
  subst he3
  subst he4
  unfold U3
  after_reads_simp
  try dsimp only [id]
  try simp -implicitDefEqProofs only [StableHlo.TRef.toBuf, StableHlo.TRef.ofBuf, cast_cast, cast_eq]
  clean_types
  pointwise
theorem U4_v57 {e1 : EReal} (he1 : @Eq EReal (V (Proc.devRef .tc main_v41) (ix2 b n)) e1) {e2 : EReal} (he2 : @Eq EReal (V (Proc.devRef .tc main_v49) (ix2 b n)) e2) :
    @Eq EReal (U4 V (Proc.devRef .tc main_v57) (ix2 b n)) (min (lit 1140850688#32) (max 0 (e1 - lit 1056964608#32 * e2))) := by
  subst he1
  subst he2
  unfold U4
  after_reads_simp
  try dsimp only [id]
  try simp -implicitDefEqProofs only [StableHlo.TRef.toBuf, StableHlo.TRef.ofBuf, cast_cast, cast_eq]
  clean_types
  pointwise
theorem U5_v61 {e1 : EReal} (he1 : @Eq EReal (V (Proc.devRef .tc main_v35) (ix2 b n)) e1) {e2 : EReal} (he2 : @Eq EReal (V (Proc.devRef .tc main_v45) (ix2 b n)) e2) :
    @Eq EReal (U5 V (Proc.devRef .tc main_v61) (ix2 b n)) (min (lit 1140850688#32) (max 0 (e1 + lit 1056964608#32 * e2))) := by
  subst he1
  subst he2
  unfold U5
  after_reads_simp
  try dsimp only [id]
  try simp -implicitDefEqProofs only [StableHlo.TRef.toBuf, StableHlo.TRef.ofBuf, cast_cast, cast_eq]
  clean_types
  pointwise
theorem U6_v65 {e1 : EReal} (he1 : @Eq EReal (V (Proc.devRef .tc main_v41) (ix2 b n)) e1) {e2 : EReal} (he2 : @Eq EReal (V (Proc.devRef .tc main_v49) (ix2 b n)) e2) :
    @Eq EReal (U6 V (Proc.devRef .tc main_v65) (ix2 b n)) (min (lit 1140850688#32) (max 0 (e1 + lit 1056964608#32 * e2))) := by
  subst he1
  subst he2
  unfold U6
  after_reads_simp
  try dsimp only [id]
  try simp -implicitDefEqProofs only [StableHlo.TRef.toBuf, StableHlo.TRef.ofBuf, cast_cast, cast_eq]
  clean_types
  pointwise
theorem U7_v71 :
    @Eq EReal (U7 V (Proc.devRef .tc main_v71) (ix2 b n)) (best (fun k => V (Proc.devRef .tc main_arg1) (ix3 b n k))) := by
  unfold U7
  after_reads_simp
  try dsimp only [id]
  try simp -implicitDefEqProofs only [StableHlo.TRef.toBuf, StableHlo.TRef.ofBuf, cast_cast, cast_eq]
  clean_types
  pointwise [best]
theorem U7_v70 (k : Fin 4) : @Eq EReal (U7 V (Proc.devRef .tc main_v70) (ix3 b n k))
    ((![V (Proc.devRef .tc main_v53) (ix2 b n), V (Proc.devRef .tc main_v57) (ix2 b n), V (Proc.devRef .tc main_v61) (ix2 b n),
      V (Proc.devRef .tc main_v65) (ix2 b n)] : Fin 4 → EReal) k) := by
  unfold U7
  after_reads_simp
  dsimp only [Matrix.cons_val]
  after_reads_simp
  fin_cases k
  · pointwise
  · pointwise
  · pointwise
  · pointwise
theorem U9_v74 {e1 : (BitVec 32)} (he1 : @Eq (BitVec 32) (V (Proc.devRef .tc main_v72) (ix2 b n)) e1) :
    @Eq (BitVec 32) (U9 V (Proc.devRef .tc main_v74) (ix2 b n)) (e1) := by
  subst he1
  unfold U9
  after_reads_simp
  try dsimp only [id]
  try simp -implicitDefEqProofs only [StableHlo.TRef.toBuf, StableHlo.TRef.ofBuf, cast_cast, cast_eq]
  clean_types
  pointwise
  simp [IntOp.addi]
theorem U9_v93 (s : Fin 80 → EReal) (hs : @Eq EReal (V (Proc.devRef .tc main_v71) (ix2 b n)) (best s)) :
    @Eq EReal (U9 V (Proc.devRef .tc main_v93) (ix2 b n)) (masked s fun k => V (Proc.devRef .tc main_v70) (ix3 b n k)) := by
  unfold U9
  after_reads_simp
  dsimp only [id]
  simp -implicitDefEqProofs only [StableHlo.TRef.toBuf, StableHlo.TRef.ofBuf, cast_cast, cast_eq]
  clean_types
  pointwise
  rw [hs]
  rfl

end Cert.Own.Reference

end
-- ==== Proof.Cls.lean ====
/-
  The class of a row: the first place of the row's greatest score, found by a fold that keeps the better of two
  (score, place) pairs, or as the least place at which the greatest score stands.
-/
module

public import proofs.«01_k».proof.Proof.Spec

@[expose] public section

noncomputable section

namespace Cert.Own.Spec

open Idealize.ShloMosaic

variable (s : Fin 80 → EReal)

theorem lit_bot : lit 4286578688#32 = ⊥ := rfl

theorem best_le (k : Fin 80) : s k ≤ best s := by
  unfold best
  rw [Finset.le_fold_max]
  exact .inr ⟨k, Finset.mem_univ _, le_rfl⟩

theorem best_mem : ∃ k, s k = best s := by
  have h : best s ≤ (Finset.univ : Finset (Fin 80)).fold max (lit 4286578688#32) s := le_rfl
  rw [Finset.le_fold_max, lit_bot] at h
  rcases h with h | ⟨k, _, h⟩
  · exact ⟨0, le_antisymm (best_le s 0) (h.trans bot_le)⟩
  · exact ⟨k, le_antisymm (best_le s k) h⟩

theorem cls_of (k : Fin 80) (hk : s k = best s) (hl : ∀ j, s j = best s → k ≤ j) : cls s = BitVec.ofNat 32 k.val := by
  unfold cls
  congr 1
  rw [List.findIdx_eq (by simp)]
  refine ⟨by simp only [List.getElem_finRange]; exact decide_eq_true hk, fun j hj => ?_⟩
  simp only [List.getElem_finRange, decide_eq_false_iff_not]
  intro he
  have := hl _ he
  simp [Fin.le_def] at this
  omega

theorem toInt_place (k : Fin 80) : (BitVec.ofNat 32 k.val).toInt = k.val := by revert k; decide

/-- `r` is at least as good a (score, place) pair as `p`. -/
def Beats (r p : EReal × BitVec 32) : Prop := p.1 < r.1 ∨ (p.1 = r.1 ∧ r.2.toInt ≤ p.2.toInt)

theorem Beats.refl (r : EReal × BitVec 32) : Beats r r := .inr ⟨rfl, le_rfl⟩

theorem Beats.trans {a b c : EReal × BitVec 32} (h : Beats a b) (h' : Beats b c) : Beats a c := by
  rcases h with h | ⟨h, k⟩ <;> rcases h' with h' | ⟨h', k'⟩
  · exact .inl (h'.trans h)
  · exact .inl (h' ▸ h)
  · exact .inl (h ▸ h')
  · exact .inr ⟨h'.trans h, k.trans k'⟩

section
variable (f : EReal × BitVec 32 → EReal × BitVec 32 → EReal × BitVec 32)
  (hf : ∀ a b, f a b = if b.1 < a.1 ∨ (a.1 = b.1 ∧ a.2.toInt < b.2.toInt) then a else b)
include hf

theorem better (a b : EReal × BitVec 32) : Beats (f a b) a ∧ Beats (f a b) b ∧ (f a b = a ∨ f a b = b) := by
  rw [hf]
  split
  · rename_i h
    refine ⟨.refl a, ?_, .inl rfl⟩
    rcases h with h | ⟨h, k⟩
    · exact .inl h
    · exact .inr ⟨h.symm, k.le⟩
  · rename_i h
    refine ⟨?_, .refl b, .inr rfl⟩
    simp only [not_or, not_and, not_lt] at h
    rcases lt_or_eq_of_le h.1 with h' | h'
    · exact .inl h'
    · exact .inr ⟨h', h.2 h'⟩

theorem fold_better (l : List (EReal × BitVec 32)) (r0 : EReal × BitVec 32) :
    Beats (l.foldl f r0) r0 ∧ (∀ p ∈ l, Beats (l.foldl f r0) p) ∧ (l.foldl f r0 = r0 ∨ l.foldl f r0 ∈ l) := by
  induction l generalizing r0 with
  | nil => exact ⟨.refl _, by simp, .inl rfl⟩
  | cons q l ih =>
    obtain ⟨h1, h2, h3⟩ := ih (f r0 q)
    obtain ⟨b1, b2, b3⟩ := better f hf r0 q
    rw [List.foldl_cons]
    refine ⟨h1.trans b1, ?_, ?_⟩
    · intro p hp
      rcases List.mem_cons.mp hp with rfl | hp
      · exact h1.trans b2
      · exact h2 p hp
    · rcases h3 with h3 | h3
      · rcases b3 with b | b
        · exact .inl (h3.trans b)
        · exact .inr (by rw [h3, b]; exact List.mem_cons_self)
      · exact .inr (List.mem_cons_of_mem _ h3)

/-- The fold over a row's (score, place) pairs, from −∞ at place 0, ends at the class. -/
theorem fold_cls (l : List (EReal × BitVec 32)) (hl : ∀ p, p ∈ l ↔ ∃ k : Fin 80, p = (s k, BitVec.ofNat 32 k.val)) :
    (l.foldl f (lit 4286578688#32, 0#32)).2 = cls s := by
  obtain ⟨-, h2, h3⟩ := fold_better f hf l (lit 4286578688#32, 0#32)
  generalize l.foldl f (lit 4286578688#32, 0#32) = r at h2 h3
  have hb : ∀ k : Fin 80, Beats r (s k, BitVec.ofNat 32 k.val) := fun k => h2 _ ((hl _).mpr ⟨k, rfl⟩)
  have hk : ∃ k : Fin 80, r = (s k, BitVec.ofNat 32 k.val) := by
    rcases h3 with h3 | h3
    · refine ⟨0, ?_⟩
      have h0 := hb 0
      rw [h3, lit_bot] at h0 ⊢
      rcases h0 with h0 | ⟨h0, _⟩
      · exact absurd h0 not_lt_bot
      · exact Prod.ext h0.symm rfl
    · exact (hl _).mp h3
  obtain ⟨k, rfl⟩ := hk
  have hle : ∀ j, s j ≤ s k := fun j => (hb j).elim (fun h => h.le) fun h => h.1.le
  have hbest : s k = best s := by
    obtain ⟨j, hj⟩ := best_mem s
    exact le_antisymm (best_le s k) (hj ▸ hle j)
  refine (cls_of s k hbest fun j hj => ?_).symm
  rcases hb j with h | ⟨_, h⟩
  · exact absurd h (by simp only [hj, hbest, lt_irrefl, not_false_eq_true])
  · simp only [toInt_place] at h
    exact_mod_cast h
end

end Cert.Own.Spec

end
-- ==== Proof.RefVal.lean ====
/-
  What the reference holds before its loop, at an index, from its arguments.
-/
module

public import proofs.«01_k».proof.Proof.RefRun
public import proofs.«01_k».proof.Proof.RefPre
public import proofs.«01_k».proof.Proof.Cls
public import Idealize.ShloMosaic.Lib.StableHlo.ReadAt
public import Idealize.ShloMosaic.Lib.Pointwise
public import Idealize.ShloMosaic.PureOps.Ideal

@[expose] public section

noncomputable section

namespace Cert.Own.Reference

open Cert.ReferenceIdeal Cert.ReferenceIdeal.Gen Cert.ReferenceIdeal.Value
open Idealize.ShloMosaic Idealize.ShloMosaic.TcCoe Idealize.ShloMosaic.StableHlo
open Cert.Own.Spec

variable (V : Valuation τ sig (Elt Ideal)) (b : Fin 4) (n : Fin 20000)

theorem reducer_eq (p q : EReal × BitVec 32) : (reducer_argmax_f32_i32 (F := Ideal) p q : EReal × BitVec 32)
    = if q.1 < p.1 ∨ (p.1 = q.1 ∧ p.2.toInt < q.2.toInt) then p else q := by
  obtain ⟨a, i⟩ := p
  obtain ⟨c, k⟩ := q
  have hi : (i.slt k) = decide (i.toInt < k.toInt) := rfl
  unfold reducer_argmax_f32_i32
  simp only [Ideal.cmpf_def, Ideal.cmp, IntOp.cmpi, IntOp.ori, IntOp.andi, Scalar.select, hi]
  rcases lt_trichotomy c a with h | h | h
  · simp [h, h.ne', not_lt_of_gt h]
  · subst h
    by_cases h2 : i.toInt < k.toInt <;> simp [h2]
  · simp [h, h.ne, not_lt_of_gt h, h.ne']

set_option maxRecDepth 100000 in
theorem U8_v72 : @Eq (BitVec 32) (U8 V (Proc.devRef .tc main_v72) (ix2 b n))
    (cls fun k => V (Proc.devRef .tc main_arg1) (ix3 b n k)) := by
  unfold U8
  after_reads_simp
  simp -implicitDefEqProofs only [StableHlo.TRef.toBuf, StableHlo.TRef.ofBuf, cast_cast, cast_eq]
  rw [Ideal.argReduce_eq_reduce2, Host.reduce2_eq_foldl_fiber]
  refine fold_cls _ _ reducer_eq _ fun p => ?_
  unfold Host.argReduceFiber
  simp only [List.mem_map, List.mem_filter, List.mem_finRange, true_and, decide_eq_true_eq]
  constructor
  · rintro ⟨q, hq, rfl⟩
    generalize S4x20000x80.rowMajor.symm q = i at hq ⊢
    have h0 : i 0 = b := congrFun hq 0
    have h1 : i 1 = n := congrFun hq 1
    refine ⟨i 2, ?_⟩
    rw [eq_ix3 i, h0, h1]
    rfl
  · rintro ⟨k, rfl⟩
    refine ⟨S4x20000x80.rowMajor (ix3 b n k), ?_, ?_⟩
    · rw [Equiv.symm_apply_apply]
      funext a
      fin_cases a <;> rfl
    · rw [Equiv.symm_apply_apply]
      rfl

/-- The anchors, the scores and the deltas, by index. -/
def anchor (n : Fin 20000) (k : Fin 4) : EReal := V (Proc.devRef .tc main_arg0) (ix2 n k)
def score (b : Fin 4) (n : Fin 20000) (k : Fin 80) : EReal := V (Proc.devRef .tc main_arg1) (ix3 b n k)
def delta (b : Fin 4) (n : Fin 20000) (k : Fin 4) : EReal := V (Proc.devRef .tc main_arg2) (ix3 b n k)

/-- The buffers before the last stretch before the loop. -/
def U : Valuation τ sig (Elt Ideal) := U9 (U8 (U7 (U6 (U5 (U4 (U3 (U2 (U1 V))))))))

theorem pre_eq' : afterL preI V = U10 (U V) := rfl

theorem U_v70 (k : Fin 4) : @Eq EReal (U V (Proc.devRef .tc main_v70) (ix3 b n k)) (box (anchor V n) (delta V b n) k) := by
  unfold U
  have h4 := U1_v4 V n rfl rfl
  have h9 := U1_v9 V n rfl rfl
  have h14 := U1_v14 V n rfl rfl
  have h19 := U1_v19 V n rfl rfl
  have h21 := U1_v21 V b n rfl
  have h23 := U1_v23 V b n rfl
  have h26 := U1_v26 V b n rfl
  have h29 := U2_v29 (U1 V) b n rfl
  rw [U1_keeps V (by decide)] at h29
  rw [← U2_keeps (U1 V) (by decide)] at h4 h9 h14 h19 h21 h23 h26
  have k35 := U3_v35 _ b n h14 h21 h4
  have k41 := U3_v41 _ b n h19 h23 h9
  have k45 := U3_v45 _ b n h4 h26
  have k49 := U3_v49 _ b n h9 h29
  have k53 := U3_v53 _ b n h14 h21 h4 h26
  rw [← U4_keeps (U3 (U2 (U1 V))) (by decide)] at k35 k45 k53
  have k57 := U4_v57 _ b n k41 k49
  rw [← U4_keeps (U3 (U2 (U1 V))) (by decide)] at k41 k49
  rw [← U5_keeps (U4 (U3 (U2 (U1 V)))) (by decide)] at k53 k57 k41 k49
  have k61 := U5_v61 _ b n k35 k45
  rw [← U6_keeps (U5 (U4 (U3 (U2 (U1 V))))) (by decide)] at k53 k57 k61
  have k65 := U6_v65 _ b n k41 k49
  rw [U9_keeps _ (by decide), U8_keeps _ (by decide), U7_v70, k53, k57, k61, k65]
  rfl

theorem U_v71 : @Eq EReal (U7 (U6 (U5 (U4 (U3 (U2 (U1 V)))))) (Proc.devRef .tc main_v71) (ix2 b n)) (best (score V b n)) := by
  refine (U7_v71 _ b n).trans ?_
  rw [U6_keeps _ (by decide), U5_keeps _ (by decide), U4_keeps _ (by decide), U3_keeps _ (by decide), U2_keeps _ (by decide), U1_keeps _ (by decide)]
  rfl

theorem U_v93 : @Eq EReal (U V (Proc.devRef .tc main_v93) (ix2 b n)) (masked (score V b n) (box (anchor V n) (delta V b n))) := by
  unfold U
  refine (U9_v93 _ b n (score V b n) ?_).trans ?_
  · rw [U8_keeps _ (by decide)]
    exact U_v71 V b n
  · congr 1
    funext k
    refine Eq.trans ?_ (U_v70 V b n k)
    unfold U
    rw [U9_keeps _ (by decide)]

theorem U_v74 : @Eq (BitVec 32) (U V (Proc.devRef .tc main_v74) (ix2 b n)) (cls (score V b n)) := by
  unfold U
  refine (U9_v74 _ b n rfl).trans ((U8_v72 _ b n).trans ?_)
  rw [U7_keeps _ (by decide), U6_keeps _ (by decide), U5_keeps _ (by decide), U4_keeps _ (by decide), U3_keeps _ (by decide), U2_keeps _ (by decide), U1_keeps _ (by decide)]
  rfl

end Cert.Own.Reference

end
-- ==== Proof.TopK.lean ====
/-
  The stable sort that puts a row in descending order: entries never before the rest stay at the row's end, so a row
  padded with such entries has the same beginning as the row itself.
-/
module

public import proofs.«01_k».proof.Proof.Spec
public import Idealize.ShloMosaic.Lib.SortFacts
public import Idealize.ShloMosaic.Lib.ValueIdx

@[expose] public section

noncomputable section

namespace Cert.Own.Spec

open Idealize.ShloMosaic

variable {ι κ : Type} (before : ι → ι → Bool)

theorem insertBefore_end (a : ι) (l q : List ι) (h : ∀ p ∈ q, before p a = false) :
    insertBefore before a (l ++ q) = insertBefore before a l ++ q := by
  induction l with
  | nil =>
    cases q with
    | nil => rfl
    | cons p q =>
      show insertBefore before a (p :: q) = a :: p :: q
      simp [insertBefore, h p List.mem_cons_self]
  | cons c l ih =>
    show insertBefore before a (c :: (l ++ q)) = insertBefore before a (c :: l) ++ q
    unfold insertBefore
    split
    · rw [ih]; rfl
    · rfl

theorem stableSort_end (l q : List ι) (h : ∀ a ∈ l, ∀ p ∈ q, before p a = false) :
    stableSort before (l ++ q) = stableSort before l ++ stableSort before q := by
  induction l with
  | nil => rfl
  | cons a l ih =>
    show insertBefore before a (stableSort before (l ++ q)) = insertBefore before a (stableSort before l) ++ stableSort before q
    rw [ih fun c hc => h c (List.mem_cons_of_mem _ hc)]
    exact insertBefore_end before a _ _ fun p hp => h a List.mem_cons_self p ((perm_stableSort before q).mem_iff.mp hp)

theorem insertBefore_map (f : κ → ι) (a : κ) (l : List κ) :
    insertBefore before (f a) (l.map f) = (insertBefore (fun x y => before (f x) (f y)) a l).map f := by
  induction l with
  | nil => rfl
  | cons c l ih =>
    simp only [List.map_cons, insertBefore]
    split
    · rw [ih]; rfl
    · rfl

theorem stableSort_map (f : κ → ι) (l : List κ) :
    stableSort before (l.map f) = (stableSort (fun x y => before (f x) (f y)) l).map f := by
  induction l with
  | nil => rfl
  | cons a l ih =>
    show insertBefore before (f a) (stableSort before (l.map f)) = _
    rw [ih, insertBefore_map]; rfl

theorem finRange_pad (n m N : ℕ) (h : n + m = N) :
    List.finRange N = (List.finRange n).map (Fin.castLE (by omega)) ++ (List.finRange m).map fun i => ⟨n + i.val, by omega⟩ := by
  subst h
  apply List.ext_getElem
  · simp
  · intro i h1 h2
    rw [List.getElem_append]
    split
    · apply Fin.ext; simp
    · rename_i hi
      have : n ≤ i := by simpa using hi
      apply Fin.ext
      simp
      omega

/-- The beginning of a row's order is unchanged by padding with entries no greater than any. -/
theorem top_pad {n N : ℕ} (hn : n ≤ N) (x : Fin n → EReal) (y : Fin N → EReal)
    (hy : ∀ i : Fin n, y (Fin.castLE hn i) = x i) (hp : ∀ i : Fin N, n ≤ i.val → y i = ⊥) (k : Fin n) :
    top y (Fin.castLE hn k) = Fin.castLE hn (top x k) := by
  have hl : sortPositions N (fun i j => decide (y j < y i))
      = (sortPositions n (fun i j => decide (x j < x i))).map (Fin.castLE hn)
        ++ stableSort (fun i j => decide (y j < y i)) ((List.finRange (N - n)).map fun i => ⟨n + i.val, by omega⟩) := by
    unfold sortPositions
    rw [finRange_pad n (N - n) N (by omega), stableSort_end, stableSort_map]
    · simp only [hy]
    · intro a _ p hp'
      obtain ⟨i, _, rfl⟩ := List.mem_map.mp hp'
      have he := hp ⟨n + i.val, by omega⟩ (Nat.le_add_right _ _)
      simp [he]
  unfold top sortedFrom
  simp only [List.get_eq_getElem, Fin.val_cast, Fin.val_castLE]
  rw [List.getElem_of_eq hl, List.getElem_append_left (by rw [List.length_map, length_sortPositions]; exact k.isLt)]
  simp

end Cert.Own.Spec

end
-- ==== Proof.Reads.lean ====
/-
  What the host's top-k and its gathers along a row read, at an index, when the start indices are in range.
-/
module

public import proofs.«01_k».proof.Proof.TopK
public import Idealize.ShloMosaic.Lib.Pointwise
public import Idealize.ShloMosaic.Lib.ValueIdx
public import Idealize.ShloMosaic.PureOps.Ideal

@[expose] public section

noncomputable section

namespace Cert.Own.Spec

open Idealize.ShloMosaic

/-! ## The top-k -/

theorem total_gt (x y : EReal) :
    (@FloatOps.cmpfTotal Ideal _ .f32 .gt x y == 1#1) = decide (y < x) := by
  show (BitVec.ofBool (decide (y < x)) == 1#1) = _
  by_cases h : y < x <;> simp [h]

theorem along_ix2 {N : ℕ} (b : Fin 4) (n k : Fin N) :
    Shape.Idx.along (s := ⟨2, ![4, N]⟩) (ix2 b n) 1 k = ix2 b k := by
  funext a
  match a with
  | ⟨0, _⟩ => rfl
  | ⟨1, _⟩ => rfl

theorem slice_ix2 {α : Type} {N K : ℕ} (hK : K ≤ N) (y : (⟨2, ![4, N]⟩ : Shape).Idx → α)
    (h : (⟨2, ![4, N]⟩ : Shape).Slices (fun _ => 0) ⟨2, ![4, K]⟩) (b : Fin 4) (k : Fin K) :
    extractStridedSlice ⟨2, ![4, K]⟩ (fun _ => 0) y h (ix2 b k) = y (ix2 b (Fin.castLE hK k)) :=
  congrArg y (funext fun a => Fin.ext (by
    match a with
    | ⟨0, _⟩ => exact Nat.zero_add _
    | ⟨1, _⟩ => exact Nat.zero_add _))

variable {N K : ℕ} (hK : K ≤ N) (x : FVec Ideal ⟨2, ![4, N]⟩ .f32) (h : (⟨2, ![4, N]⟩ : Shape).Slices (fun _ => 0) ⟨2, ![4, K]⟩)
  (b : Fin 4) (k : Fin K)

theorem order_eq (j : Fin N) :
    sortedFrom (fun i i' => @FloatOps.cmpfTotal Ideal _ .f32 .gt (x (Shape.Idx.along (s := ⟨2, ![4, N]⟩) (ix2 b j) 1 i))
      (x (Shape.Idx.along (s := ⟨2, ![4, N]⟩) (ix2 b j) 1 i')) == 1#1) j = top (fun n => x (ix2 b n)) j := by
  refine congrArg (fun f => sortedFrom f j) (funext fun i => funext fun i' => ?_)
  rw [total_gt]
  exact congrArg₂ (fun p q => decide (x p < x q)) (along_ix2 b j i') (along_ix2 b j i)

/-- The `k`-th value the top-k returns for a row. -/
theorem topk_vals : (Host.topK ⟨2, ![4, K]⟩ 1 (@FloatOps.cmpfTotal Ideal _ .f32 .gt) x h).1 (ix2 b k)
      = x (ix2 b (top (fun n => x (ix2 b n)) (Fin.castLE hK k))) := by
  unfold Host.topK
  dsimp only
  rw [slice_ix2 hK]
  show x (Shape.Idx.along (s := ⟨2, ![4, N]⟩) (ix2 b (Fin.castLE hK k)) 1 (sortedFrom _ (Fin.castLE hK k))) = _
  exact (congrArg x (along_ix2 b _ _)).trans (congrArg (fun i => x (ix2 b i)) (order_eq x b _))

/-- The place it returns for it. -/
theorem topk_places : (Host.topK ⟨2, ![4, K]⟩ 1 (@FloatOps.cmpfTotal Ideal _ .f32 .gt) x h).2 (ix2 b k)
      = BitVec.ofNat 32 (top (fun n => x (ix2 b n)) (Fin.castLE hK k)).val := by
  unfold Host.topK
  dsimp only
  rw [slice_ix2 hK]
  show iotaInDim ⟨2, ![4, N]⟩ 32 1 (Shape.Idx.along (s := ⟨2, ![4, N]⟩) (ix2 b (Fin.castLE hK k)) 1 (sortedFrom _ (Fin.castLE hK k))) = _
  exact (congrArg (iotaInDim ⟨2, ![4, N]⟩ 32 1) (along_ix2 b _ _)).trans
    (congrArg (fun i : Fin N => BitVec.ofNat 32 i.val) (order_eq x b _))

/-! ## Gathers along a row -/

/-- Rows of four gathered by place. -/
abbrev rowsDims (N K : ℕ) (wf : GatherDims.WF ⟨3, ![4, N, 4]⟩ ⟨3, ![4, K, 1]⟩ ⟨3, ![4, K, 4]⟩ [2] [1] [0] [1] [0] 2 ![1, 1, 4]) :
    GatherDims ⟨3, ![4, N, 4]⟩ ⟨3, ![4, K, 1]⟩ ⟨3, ![4, K, 4]⟩ where
  offsetDims := [2]
  collapsedSliceDims := [1]
  operandBatchingDims := [0]
  startIndicesBatchingDims := [0]
  startIndexMap := [1]
  indexVectorDim := 2
  sliceSizes := ![1, 1, 4]
  wf := wf

/-- Single entries gathered by place. -/
abbrev entryDims (N K : ℕ) (wf : GatherDims.WF ⟨2, ![4, N]⟩ ⟨3, ![4, K, 1]⟩ ⟨2, ![4, K]⟩ [] [1] [0] [1] [0] 2 ![1, 1]) :
    GatherDims ⟨2, ![4, N]⟩ ⟨3, ![4, K, 1]⟩ ⟨2, ![4, K]⟩ where
  offsetDims := []
  collapsedSliceDims := [1]
  operandBatchingDims := [0]
  startIndicesBatchingDims := [0]
  startIndexMap := [1]
  indexVectorDim := 2
  sliceSizes := ![1, 1]
  wf := wf

/-- Columns of four gathered by place. -/
abbrev colsDims (N K : ℕ) (wf : GatherDims.WF ⟨3, ![4, 4, N]⟩ ⟨3, ![4, K, 1]⟩ ⟨3, ![4, 4, K]⟩ [1] [2] [0] [2] [0] 2 ![1, 4, 1]) :
    GatherDims ⟨3, ![4, 4, N]⟩ ⟨3, ![4, K, 1]⟩ ⟨3, ![4, 4, K]⟩ where
  offsetDims := [1]
  collapsedSliceDims := [2]
  operandBatchingDims := [0]
  startIndicesBatchingDims := [0]
  startIndexMap := [2]
  indexVectorDim := 2
  sliceSizes := ![1, 4, 1]
  wf := wf

/-- A place read as a signed word and clamped to the row is itself. -/
theorem place_clamp (hN : N ≤ 2 ^ 31) (i : Fin N) : min (BitVec.ofNat 32 i.val).toInt.toNat (N - 1) = i.val := by
  have hi := i.isLt
  have : (BitVec.ofNat 32 i.val).toInt = i.val := by
    rw [BitVec.toInt_eq_toNat_of_lt]
    · rw [BitVec.toNat_ofNat, Nat.mod_eq_of_lt (by omega)]
    · rw [BitVec.toNat_ofNat, Nat.mod_eq_of_lt (by omega)]; omega
  rw [this]
  simp only [Int.toNat_natCast]
  omega

section
variable {α : Type} (hN : N ≤ 2 ^ 31) (idx : IVec ⟨3, ![4, K, 1]⟩ 32) (i : Fin N) (hi : idx (ix3 b k 0) = BitVec.ofNat 32 i.val)
include hN hi

theorem gather_rows (wf) (y : (⟨3, ![4, N, 4]⟩ : Shape).Idx → α) (c : Fin 4) :
    Host.gather (rowsDims N K wf) y idx (ix3 b k c) = y (ix3 b i c) := by
  refine congrArg y (funext fun a => Fin.ext ?_)
  show (rowsDims N K wf).start (ix3 b k c) idx a + (rowsDims N K wf).batchCoord (ix3 b k c) a + (rowsDims N K wf).offCoord (ix3 b k c) a = _
  match a with
  | ⟨0, _⟩ => exact (Nat.add_zero _).trans (Nat.zero_add _)
  | ⟨1, _⟩ =>
    have hs : (rowsDims N K wf).start (ix3 b k c) idx 1 = min (idx (ix3 b k 0)).toInt.toNat (N - 1) := by
      have he : (rowsDims N K wf).siIdx (ix3 b k c) ⟨0, Nat.one_pos⟩ = ix3 b k 0 := by
        funext e
        match e with
        | ⟨0, _⟩ => rfl
        | ⟨1, _⟩ => rfl
        | ⟨2, _⟩ => rfl
      rw [← he]; rfl
    exact hs.trans (by rw [hi]; exact place_clamp hN i)
  | ⟨2, _⟩ => exact Nat.zero_add _

theorem gather_entry (wf) (y : (⟨2, ![4, N]⟩ : Shape).Idx → α) :
    Host.gather (entryDims N K wf) y idx (ix2 b k) = y (ix2 b i) := by
  refine congrArg y (funext fun a => Fin.ext ?_)
  show (entryDims N K wf).start (ix2 b k) idx a + (entryDims N K wf).batchCoord (ix2 b k) a + (entryDims N K wf).offCoord (ix2 b k) a = _
  match a with
  | ⟨0, _⟩ => exact (Nat.add_zero _).trans (Nat.zero_add _)
  | ⟨1, _⟩ =>
    have hs : (entryDims N K wf).start (ix2 b k) idx 1 = min (idx (ix3 b k 0)).toInt.toNat (N - 1) := by
      have he : (entryDims N K wf).siIdx (ix2 b k) ⟨0, Nat.one_pos⟩ = ix3 b k 0 := by
        funext e
        match e with
        | ⟨0, _⟩ => rfl
        | ⟨1, _⟩ => rfl
        | ⟨2, _⟩ => rfl
      rw [← he]; rfl
    exact hs.trans (by rw [hi]; exact place_clamp hN i)

theorem gather_cols (wf) (y : (⟨3, ![4, 4, N]⟩ : Shape).Idx → α) (c : Fin 4) :
    Host.gather (colsDims N K wf) y idx (ix3 b c k) = y (ix3 b c i) := by
  refine congrArg y (funext fun a => Fin.ext ?_)
  show (colsDims N K wf).start (ix3 b c k) idx a + (colsDims N K wf).batchCoord (ix3 b c k) a + (colsDims N K wf).offCoord (ix3 b c k) a = _
  match a with
  | ⟨0, _⟩ => exact (Nat.add_zero _).trans (Nat.zero_add _)
  | ⟨1, _⟩ => exact Nat.zero_add _
  | ⟨2, _⟩ =>
    have hs : (colsDims N K wf).start (ix3 b c k) idx 2 = min (idx (ix3 b k 0)).toInt.toNat (N - 1) := by
      have he : (colsDims N K wf).siIdx (ix3 b c k) ⟨0, Nat.one_pos⟩ = ix3 b k 0 := by
        funext e
        match e with
        | ⟨0, _⟩ => rfl
        | ⟨1, _⟩ => rfl
        | ⟨2, _⟩ => rfl
      rw [← he]; rfl
    exact hs.trans (by rw [hi]; exact place_clamp hN i)
end

/-- A place in range is not negative, so adding the row's length to the negative ones leaves it. -/
theorem place_wrap (hN : N ≤ 2 ^ 31) (i : Fin N) (w : BitVec 32) :
    Scalar.select (IntOp.cmpi .slt (BitVec.ofNat 32 i.val) 0#32) w (BitVec.ofNat 32 i.val) = BitVec.ofNat 32 i.val := by
  have hi := i.isLt
  have : (BitVec.ofNat 32 i.val).slt 0#32 = false := by
    rw [BitVec.slt_zero_eq_msb, BitVec.msb_eq_false_iff_two_mul_lt, BitVec.toNat_ofNat, Nat.mod_eq_of_lt (by omega)]
    omega
  simp [IntOp.cmpi, Scalar.select, this]

end Cert.Own.Spec

end
-- ==== Proof.RefTop.lean ====
/-
  The last stretch before the reference's loop in five parts: the thousand best boxes, their areas, and the table of
  intersections over unions, at an index.
-/
module

public import proofs.«01_k».proof.Proof.RefRun
public import proofs.«01_k».proof.Proof.RefPre
public import proofs.«01_k».proof.Proof.Reads
public import Idealize.ShloMosaic.Lib.StableHlo.ReadAt
public import Idealize.ShloMosaic.Lib.Pointwise
public import Idealize.ShloMosaic.PureOps.Ideal

@[expose] public section

noncomputable section

namespace Cert.Own.Reference

open Cert.ReferenceIdeal Cert.ReferenceIdeal.Gen Cert.ReferenceIdeal.Value
open Idealize.ShloMosaic Idealize.ShloMosaic.TcCoe Idealize.ShloMosaic.StableHlo
open Cert.Own.Spec

variable (V : Valuation τ sig (Elt Ideal)) (b : Fin 4) (k j : Fin 1000)

/-- Operations 1 to 20 of the last stretch before the loop. -/
abbrev part1 {F : FTy → Type} [FloatOps F] : List (HloOp τ sig (Elt F)) :=
  [ StableHlo.unary main_v93 main_values ((fun x => (Host.topK S4x1000 1 (FloatOps.cmpfTotal .gt) x sliceFits_S4x20000_S4x1000).1) : (⟨S4x20000, .f32⟩ : BufTy).Contents (Elt F) → (⟨S4x1000, .f32⟩ : BufTy).Contents (Elt F)),
    StableHlo.unary main_v93 main_indices ((fun x => (Host.topK S4x1000 1 (FloatOps.cmpfTotal .gt) x sliceFits_S4x20000_S4x1000).2) : (⟨S4x20000, .f32⟩ : BufTy).Contents (Elt F) → (⟨S4x1000, .i32⟩ : BufTy).Contents (Elt F)),
    StableHlo.nullary main_c_22 (constantI S_ 32 0#32),
    StableHlo.unary main_c_22 main_v94 (broadcastInDim S4x1000 ![] bcast_S_S4x1000 : (⟨S_, .i32⟩ : BufTy).Contents (Elt F) → (⟨S4x1000, .i32⟩ : BufTy).Contents (Elt F)),
    StableHlo.binary main_indices main_v94 main_v95 (cmpi .slt : (⟨S4x1000, .i32⟩ : BufTy).Contents (Elt F) → (⟨S4x1000, .i32⟩ : BufTy).Contents (Elt F) → (⟨S4x1000, .i1⟩ : BufTy).Contents (Elt F)),
    StableHlo.nullary main_c_23 (constantI S_ 32 20000#32),
    StableHlo.unary main_c_23 main_v96 (broadcastInDim S4x1000 ![] bcast_S_S4x1000 : (⟨S_, .i32⟩ : BufTy).Contents (Elt F) → (⟨S4x1000, .i32⟩ : BufTy).Contents (Elt F)),
    StableHlo.binary main_indices main_v96 main_v97 (addi : (⟨S4x1000, .i32⟩ : BufTy).Contents (Elt F) → (⟨S4x1000, .i32⟩ : BufTy).Contents (Elt F) → (⟨S4x1000, .i32⟩ : BufTy).Contents (Elt F)),
    StableHlo.ternary main_v95 main_v97 main_indices main_v98 (select : (⟨S4x1000, .i1⟩ : BufTy).Contents (Elt F) → (⟨S4x1000, .i32⟩ : BufTy).Contents (Elt F) → (⟨S4x1000, .i32⟩ : BufTy).Contents (Elt F) → (⟨S4x1000, .i32⟩ : BufTy).Contents (Elt F)),
    StableHlo.unary main_v98 main_v99 (broadcastInDim S4x1000x1 ![0, 1] bcast_S4x1000_S4x1000x1_0_1 : (⟨S4x1000, .i32⟩ : BufTy).Contents (Elt F) → (⟨S4x1000x1, .i32⟩ : BufTy).Contents (Elt F)),
    StableHlo.binary main_v70 main_v99 main_v100 ((fun x i => Host.gather gather_S4x20000x4_S4x1000x1_S4x1000x4_2_1_0_0_1_2_114 x i) : (⟨S4x20000x4, .f32⟩ : BufTy).Contents (Elt F) → (⟨S4x1000x1, .i32⟩ : BufTy).Contents (Elt F) → (⟨S4x1000x4, .f32⟩ : BufTy).Contents (Elt F)),
    StableHlo.nullary main_c_24 (constantI S_ 32 0#32),
    StableHlo.unary main_c_24 main_v101 (broadcastInDim S4x1000 ![] bcast_S_S4x1000 : (⟨S_, .i32⟩ : BufTy).Contents (Elt F) → (⟨S4x1000, .i32⟩ : BufTy).Contents (Elt F)),
    StableHlo.binary main_indices main_v101 main_v102 (cmpi .slt : (⟨S4x1000, .i32⟩ : BufTy).Contents (Elt F) → (⟨S4x1000, .i32⟩ : BufTy).Contents (Elt F) → (⟨S4x1000, .i1⟩ : BufTy).Contents (Elt F)),
    StableHlo.nullary main_c_25 (constantI S_ 32 20000#32),
    StableHlo.unary main_c_25 main_v103 (broadcastInDim S4x1000 ![] bcast_S_S4x1000 : (⟨S_, .i32⟩ : BufTy).Contents (Elt F) → (⟨S4x1000, .i32⟩ : BufTy).Contents (Elt F)),
    StableHlo.binary main_indices main_v103 main_v104 (addi : (⟨S4x1000, .i32⟩ : BufTy).Contents (Elt F) → (⟨S4x1000, .i32⟩ : BufTy).Contents (Elt F) → (⟨S4x1000, .i32⟩ : BufTy).Contents (Elt F)),
    StableHlo.ternary main_v102 main_v104 main_indices main_v105 (select : (⟨S4x1000, .i1⟩ : BufTy).Contents (Elt F) → (⟨S4x1000, .i32⟩ : BufTy).Contents (Elt F) → (⟨S4x1000, .i32⟩ : BufTy).Contents (Elt F) → (⟨S4x1000, .i32⟩ : BufTy).Contents (Elt F)),
    StableHlo.unary main_v105 main_v106 (broadcastInDim S4x1000x1 ![0, 1] bcast_S4x1000_S4x1000x1_0_1 : (⟨S4x1000, .i32⟩ : BufTy).Contents (Elt F) → (⟨S4x1000x1, .i32⟩ : BufTy).Contents (Elt F)),
    StableHlo.binary main_v74 main_v106 main_v107 ((fun x i => Host.gather gather_S4x20000_S4x1000x1_S4x1000_n_1_0_0_1_2_11 x i) : (⟨S4x20000, .i32⟩ : BufTy).Contents (Elt F) → (⟨S4x1000x1, .i32⟩ : BufTy).Contents (Elt F) → (⟨S4x1000, .i32⟩ : BufTy).Contents (Elt F)) ]
abbrev part1_W : List (Ref sig .tc) := [main_values, main_indices, main_c_22, main_v94, main_v95, main_c_23, main_v96, main_v97, main_v98, main_v99, main_v100, main_c_24, main_v101, main_v102, main_c_25, main_v103, main_v104, main_v105, main_v106, main_v107]
theorem part1_writes {F : FTy → Type} [FloatOps F] : (part1 : List (HloOp τ sig (Elt F))).Forall fun op => op.writes ⊆ (part1_W.map (Proc.devRef (τ := τ) .tc)).toFinset :=
  StableHlo.forall_writes_sub_of_map rfl
/-- The buffers after it. -/
def P1 : Valuation τ sig (Elt Ideal) := after part1 V
theorem P1_keeps {r : Ref sig .tc} (h : r ∉ part1_W) : P1 V (Proc.devRef .tc r) = V (Proc.devRef .tc r) :=
  after_of_writes_sub part1 _ part1_writes h

/-- Operations 21 to 37 of the last stretch before the loop. -/
abbrev part2 {F : FTy → Type} [FloatOps F] : List (HloOp τ sig (Elt F)) :=
  [ StableHlo.unary main_v100 main_v108 ((extractStridedSlice S4x1000x1 ![0, 0, 0] · slices_S4x1000x4_S4x1000x1_0_0_0) : (⟨S4x1000x4, .f32⟩ : BufTy).Contents (Elt F) → (⟨S4x1000x1, .f32⟩ : BufTy).Contents (Elt F)),
    StableHlo.reshape main_v108 main_v109 (rfl : (.f32 : EltTy) = .f32) shapeCasts_S4x1000x1_S4x1000,
    StableHlo.unary main_v100 main_v110 ((extractStridedSlice S4x1000x1 ![0, 0, 1] · slices_S4x1000x4_S4x1000x1_0_0_1) : (⟨S4x1000x4, .f32⟩ : BufTy).Contents (Elt F) → (⟨S4x1000x1, .f32⟩ : BufTy).Contents (Elt F)),
    StableHlo.reshape main_v110 main_v111 (rfl : (.f32 : EltTy) = .f32) shapeCasts_S4x1000x1_S4x1000,
    StableHlo.unary main_v100 main_v112 ((extractStridedSlice S4x1000x1 ![0, 0, 2] · slices_S4x1000x4_S4x1000x1_0_0_2) : (⟨S4x1000x4, .f32⟩ : BufTy).Contents (Elt F) → (⟨S4x1000x1, .f32⟩ : BufTy).Contents (Elt F)),
    StableHlo.reshape main_v112 main_v113 (rfl : (.f32 : EltTy) = .f32) shapeCasts_S4x1000x1_S4x1000,
    StableHlo.unary main_v100 main_v114 ((extractStridedSlice S4x1000x1 ![0, 0, 3] · slices_S4x1000x4_S4x1000x1_0_0_3) : (⟨S4x1000x4, .f32⟩ : BufTy).Contents (Elt F) → (⟨S4x1000x1, .f32⟩ : BufTy).Contents (Elt F)),
    StableHlo.reshape main_v114 main_v115 (rfl : (.f32 : EltTy) = .f32) shapeCasts_S4x1000x1_S4x1000,
    StableHlo.binary main_v113 main_v109 main_v116 (subf : (⟨S4x1000, .f32⟩ : BufTy).Contents (Elt F) → (⟨S4x1000, .f32⟩ : BufTy).Contents (Elt F) → (⟨S4x1000, .f32⟩ : BufTy).Contents (Elt F)),
    StableHlo.nullary main_cst_26 (constant S_ .f32 0x00000000#32),
    StableHlo.unary main_cst_26 main_v117 (broadcastInDim S4x1000 ![] bcast_S_S4x1000 : (⟨S_, .f32⟩ : BufTy).Contents (Elt F) → (⟨S4x1000, .f32⟩ : BufTy).Contents (Elt F)),
    StableHlo.binary main_v116 main_v117 main_v118 (maximumf : (⟨S4x1000, .f32⟩ : BufTy).Contents (Elt F) → (⟨S4x1000, .f32⟩ : BufTy).Contents (Elt F) → (⟨S4x1000, .f32⟩ : BufTy).Contents (Elt F)),
    StableHlo.binary main_v115 main_v111 main_v119 (subf : (⟨S4x1000, .f32⟩ : BufTy).Contents (Elt F) → (⟨S4x1000, .f32⟩ : BufTy).Contents (Elt F) → (⟨S4x1000, .f32⟩ : BufTy).Contents (Elt F)),
    StableHlo.nullary main_cst_27 (constant S_ .f32 0x00000000#32),
    StableHlo.unary main_cst_27 main_v120 (broadcastInDim S4x1000 ![] bcast_S_S4x1000 : (⟨S_, .f32⟩ : BufTy).Contents (Elt F) → (⟨S4x1000, .f32⟩ : BufTy).Contents (Elt F)),
    StableHlo.binary main_v119 main_v120 main_v121 (maximumf : (⟨S4x1000, .f32⟩ : BufTy).Contents (Elt F) → (⟨S4x1000, .f32⟩ : BufTy).Contents (Elt F) → (⟨S4x1000, .f32⟩ : BufTy).Contents (Elt F)),
    StableHlo.binary main_v118 main_v121 main_v122 (mulf : (⟨S4x1000, .f32⟩ : BufTy).Contents (Elt F) → (⟨S4x1000, .f32⟩ : BufTy).Contents (Elt F) → (⟨S4x1000, .f32⟩ : BufTy).Contents (Elt F)) ]
abbrev part2_W : List (Ref sig .tc) := [main_v108, main_v109, main_v110, main_v111, main_v112, main_v113, main_v114, main_v115, main_v116, main_cst_26, main_v117, main_v118, main_v119, main_cst_27, main_v120, main_v121, main_v122]
theorem part2_writes {F : FTy → Type} [FloatOps F] : (part2 : List (HloOp τ sig (Elt F))).Forall fun op => op.writes ⊆ (part2_W.map (Proc.devRef (τ := τ) .tc)).toFinset :=
  StableHlo.forall_writes_sub_of_map rfl
/-- The buffers after it. -/
def P2 : Valuation τ sig (Elt Ideal) := after part2 V
theorem P2_keeps {r : Ref sig .tc} (h : r ∉ part2_W) : P2 V (Proc.devRef .tc r) = V (Proc.devRef .tc r) :=
  after_of_writes_sub part2 _ part2_writes h

/-- Operations 38 to 66 of the last stretch before the loop. -/
abbrev part3 {F : FTy → Type} [FloatOps F] : List (HloOp τ sig (Elt F)) :=
  [ StableHlo.unary main_v109 main_v123 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v109 main_v124 (broadcastInDim S4x1x1000 ![0, 2] bcast_S4x1000_S4x1x1000_0_2 : (⟨S4x1000, .f32⟩ : BufTy).Contents (Elt F) → (⟨S4x1x1000, .f32⟩ : BufTy).Contents (Elt F)),
    StableHlo.unary main_v123 main_v125 (broadcastInDim S4x1000x1000 ![0, 1, 2] bcast_S4x1000x1_S4x1000x1000_0_1_2 : (⟨S4x1000x1, .f32⟩ : BufTy).Contents (Elt F) → (⟨S4x1000x1000, .f32⟩ : BufTy).Contents (Elt F)),
    StableHlo.unary main_v124 main_v126 (broadcastInDim S4x1000x1000 ![0, 1, 2] bcast_S4x1x1000_S4x1000x1000_0_1_2 : (⟨S4x1x1000, .f32⟩ : BufTy).Contents (Elt F) → (⟨S4x1000x1000, .f32⟩ : BufTy).Contents (Elt F)),
    StableHlo.binary main_v125 main_v126 main_v127 (maximumf : (⟨S4x1000x1000, .f32⟩ : BufTy).Contents (Elt F) → (⟨S4x1000x1000, .f32⟩ : BufTy).Contents (Elt F) → (⟨S4x1000x1000, .f32⟩ : BufTy).Contents (Elt F)),
    StableHlo.unary main_v111 main_v128 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v111 main_v129 (broadcastInDim S4x1x1000 ![0, 2] bcast_S4x1000_S4x1x1000_0_2 : (⟨S4x1000, .f32⟩ : BufTy).Contents (Elt F) → (⟨S4x1x1000, .f32⟩ : BufTy).Contents (Elt F)),
    StableHlo.unary main_v128 main_v130 (broadcastInDim S4x1000x1000 ![0, 1, 2] bcast_S4x1000x1_S4x1000x1000_0_1_2 : (⟨S4x1000x1, .f32⟩ : BufTy).Contents (Elt F) → (⟨S4x1000x1000, .f32⟩ : BufTy).Contents (Elt F)),
    StableHlo.unary main_v129 main_v131 (broadcastInDim S4x1000x1000 ![0, 1, 2] bcast_S4x1x1000_S4x1000x1000_0_1_2 : (⟨S4x1x1000, .f32⟩ : BufTy).Contents (Elt F) → (⟨S4x1000x1000, .f32⟩ : BufTy).Contents (Elt F)),
    StableHlo.binary main_v130 main_v131 main_v132 (maximumf : (⟨S4x1000x1000, .f32⟩ : BufTy).Contents (Elt F) → (⟨S4x1000x1000, .f32⟩ : BufTy).Contents (Elt F) → (⟨S4x1000x1000, .f32⟩ : BufTy).Contents (Elt F)),
    StableHlo.unary main_v113 main_v133 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v113 main_v134 (broadcastInDim S4x1x1000 ![0, 2] bcast_S4x1000_S4x1x1000_0_2 : (⟨S4x1000, .f32⟩ : BufTy).Contents (Elt F) → (⟨S4x1x1000, .f32⟩ : BufTy).Contents (Elt F)),
    StableHlo.unary main_v133 main_v135 (broadcastInDim S4x1000x1000 ![0, 1, 2] bcast_S4x1000x1_S4x1000x1000_0_1_2 : (⟨S4x1000x1, .f32⟩ : BufTy).Contents (Elt F) → (⟨S4x1000x1000, .f32⟩ : BufTy).Contents (Elt F)),
    StableHlo.unary main_v134 main_v136 (broadcastInDim S4x1000x1000 ![0, 1, 2] bcast_S4x1x1000_S4x1000x1000_0_1_2 : (⟨S4x1x1000, .f32⟩ : BufTy).Contents (Elt F) → (⟨S4x1000x1000, .f32⟩ : BufTy).Contents (Elt F)),
    StableHlo.binary main_v135 main_v136 main_v137 (minimumf : (⟨S4x1000x1000, .f32⟩ : BufTy).Contents (Elt F) → (⟨S4x1000x1000, .f32⟩ : BufTy).Contents (Elt F) → (⟨S4x1000x1000, .f32⟩ : BufTy).Contents (Elt F)),
    StableHlo.unary main_v115 main_v138 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v115 main_v139 (broadcastInDim S4x1x1000 ![0, 2] bcast_S4x1000_S4x1x1000_0_2 : (⟨S4x1000, .f32⟩ : BufTy).Contents (Elt F) → (⟨S4x1x1000, .f32⟩ : BufTy).Contents (Elt F)),
    StableHlo.unary main_v138 main_v140 (broadcastInDim S4x1000x1000 ![0, 1, 2] bcast_S4x1000x1_S4x1000x1000_0_1_2 : (⟨S4x1000x1, .f32⟩ : BufTy).Contents (Elt F) → (⟨S4x1000x1000, .f32⟩ : BufTy).Contents (Elt F)),
    StableHlo.unary main_v139 main_v141 (broadcastInDim S4x1000x1000 ![0, 1, 2] bcast_S4x1x1000_S4x1000x1000_0_1_2 : (⟨S4x1x1000, .f32⟩ : BufTy).Contents (Elt F) → (⟨S4x1000x1000, .f32⟩ : BufTy).Contents (Elt F)),
    StableHlo.binary main_v140 main_v141 main_v142 (minimumf : (⟨S4x1000x1000, .f32⟩ : BufTy).Contents (Elt F) → (⟨S4x1000x1000, .f32⟩ : BufTy).Contents (Elt F) → (⟨S4x1000x1000, .f32⟩ : BufTy).Contents (Elt F)),
    StableHlo.binary main_v137 main_v127 main_v143 (subf : (⟨S4x1000x1000, .f32⟩ : BufTy).Contents (Elt F) → (⟨S4x1000x1000, .f32⟩ : BufTy).Contents (Elt F) → (⟨S4x1000x1000, .f32⟩ : BufTy).Contents (Elt F)),
    StableHlo.nullary main_cst_28 (constant S_ .f32 0x00000000#32),
    StableHlo.unary main_cst_28 main_v144 (broadcastInDim S4x1000x1000 ![] bcast_S_S4x1000x1000 : (⟨S_, .f32⟩ : BufTy).Contents (Elt F) → (⟨S4x1000x1000, .f32⟩ : BufTy).Contents (Elt F)),
    StableHlo.binary main_v143 main_v144 main_v145 (maximumf : (⟨S4x1000x1000, .f32⟩ : BufTy).Contents (Elt F) → (⟨S4x1000x1000, .f32⟩ : BufTy).Contents (Elt F) → (⟨S4x1000x1000, .f32⟩ : BufTy).Contents (Elt F)),
    StableHlo.binary main_v142 main_v132 main_v146 (subf : (⟨S4x1000x1000, .f32⟩ : BufTy).Contents (Elt F) → (⟨S4x1000x1000, .f32⟩ : BufTy).Contents (Elt F) → (⟨S4x1000x1000, .f32⟩ : BufTy).Contents (Elt F)),
    StableHlo.nullary main_cst_29 (constant S_ .f32 0x00000000#32),
    StableHlo.unary main_cst_29 main_v147 (broadcastInDim S4x1000x1000 ![] bcast_S_S4x1000x1000 : (⟨S_, .f32⟩ : BufTy).Contents (Elt F) → (⟨S4x1000x1000, .f32⟩ : BufTy).Contents (Elt F)),
    StableHlo.binary main_v146 main_v147 main_v148 (maximumf : (⟨S4x1000x1000, .f32⟩ : BufTy).Contents (Elt F) → (⟨S4x1000x1000, .f32⟩ : BufTy).Contents (Elt F) → (⟨S4x1000x1000, .f32⟩ : BufTy).Contents (Elt F)),
    StableHlo.binary main_v145 main_v148 main_v149 (mulf : (⟨S4x1000x1000, .f32⟩ : BufTy).Contents (Elt F) → (⟨S4x1000x1000, .f32⟩ : BufTy).Contents (Elt F) → (⟨S4x1000x1000, .f32⟩ : BufTy).Contents (Elt F)) ]
abbrev part3_W : List (Ref sig .tc) := [main_v123, main_v124, main_v125, main_v126, main_v127, main_v128, main_v129, main_v130, main_v131, main_v132, main_v133, main_v134, main_v135, main_v136, main_v137, main_v138, main_v139, main_v140, main_v141, main_v142, main_v143, main_cst_28, main_v144, main_v145, main_v146, main_cst_29, main_v147, main_v148, main_v149]
theorem part3_writes {F : FTy → Type} [FloatOps F] : (part3 : List (HloOp τ sig (Elt F))).Forall fun op => op.writes ⊆ (part3_W.map (Proc.devRef (τ := τ) .tc)).toFinset :=
  StableHlo.forall_writes_sub_of_map rfl
/-- The buffers after it. -/
def P3 : Valuation τ sig (Elt Ideal) := after part3 V
theorem P3_keeps {r : Ref sig .tc} (h : r ∉ part3_W) : P3 V (Proc.devRef .tc r) = V (Proc.devRef .tc r) :=
  after_of_writes_sub part3 _ part3_writes h

/-- Operations 67 to 76 of the last stretch before the loop. -/
abbrev part4 {F : FTy → Type} [FloatOps F] : List (HloOp τ sig (Elt F)) :=
  [ StableHlo.unary main_v122 main_v150 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v122 main_v151 (broadcastInDim S4x1x1000 ![0, 2] bcast_S4x1000_S4x1x1000_0_2 : (⟨S4x1000, .f32⟩ : BufTy).Contents (Elt F) → (⟨S4x1x1000, .f32⟩ : BufTy).Contents (Elt F)),
    StableHlo.unary main_v150 main_v152 (broadcastInDim S4x1000x1000 ![0, 1, 2] bcast_S4x1000x1_S4x1000x1000_0_1_2 : (⟨S4x1000x1, .f32⟩ : BufTy).Contents (Elt F) → (⟨S4x1000x1000, .f32⟩ : BufTy).Contents (Elt F)),
    StableHlo.unary main_v151 main_v153 (broadcastInDim S4x1000x1000 ![0, 1, 2] bcast_S4x1x1000_S4x1000x1000_0_1_2 : (⟨S4x1x1000, .f32⟩ : BufTy).Contents (Elt F) → (⟨S4x1000x1000, .f32⟩ : BufTy).Contents (Elt F)),
    StableHlo.binary main_v152 main_v153 main_v154 (addf : (⟨S4x1000x1000, .f32⟩ : BufTy).Contents (Elt F) → (⟨S4x1000x1000, .f32⟩ : BufTy).Contents (Elt F) → (⟨S4x1000x1000, .f32⟩ : BufTy).Contents (Elt F)),
    StableHlo.binary main_v154 main_v149 main_v155 (subf : (⟨S4x1000x1000, .f32⟩ : BufTy).Contents (Elt F) → (⟨S4x1000x1000, .f32⟩ : BufTy).Contents (Elt F) → (⟨S4x1000x1000, .f32⟩ : BufTy).Contents (Elt F)),
    StableHlo.nullary main_cst_30 (constant S_ .f32 0x358637BD#32),
    StableHlo.unary main_cst_30 main_v156 (broadcastInDim S4x1000x1000 ![] bcast_S_S4x1000x1000 : (⟨S_, .f32⟩ : BufTy).Contents (Elt F) → (⟨S4x1000x1000, .f32⟩ : BufTy).Contents (Elt F)),
    StableHlo.binary main_v155 main_v156 main_v157 (maximumf : (⟨S4x1000x1000, .f32⟩ : BufTy).Contents (Elt F) → (⟨S4x1000x1000, .f32⟩ : BufTy).Contents (Elt F) → (⟨S4x1000x1000, .f32⟩ : BufTy).Contents (Elt F)),
    StableHlo.binary main_v149 main_v157 main_v158 (Host.divf : (⟨S4x1000x1000, .f32⟩ : BufTy).Contents (Elt F) → (⟨S4x1000x1000, .f32⟩ : BufTy).Contents (Elt F) → (⟨S4x1000x1000, .f32⟩ : BufTy).Contents (Elt F)) ]
abbrev part4_W : List (Ref sig .tc) := [main_v150, main_v151, main_v152, main_v153, main_v154, main_v155, main_cst_30, main_v156, main_v157, main_v158]
theorem part4_writes {F : FTy → Type} [FloatOps F] : (part4 : List (HloOp τ sig (Elt F))).Forall fun op => op.writes ⊆ (part4_W.map (Proc.devRef (τ := τ) .tc)).toFinset :=
  StableHlo.forall_writes_sub_of_map rfl
/-- The buffers after it. -/
def P4 : Valuation τ sig (Elt Ideal) := after part4 V
theorem P4_keeps {r : Ref sig .tc} (h : r ∉ part4_W) : P4 V (Proc.devRef .tc r) = V (Proc.devRef .tc r) :=
  after_of_writes_sub part4 _ part4_writes h

/-- Operations 77 to 87 of the last stretch before the loop. -/
abbrev part5 {F : FTy → Type} [FloatOps F] : List (HloOp τ sig (Elt F)) :=
  [ StableHlo.nullary main_v159 (iotaInDim S1000 32 0),
    StableHlo.nullary main_c_31 (constantI S_ 1 1#1),
    StableHlo.unary main_c_31 main_v160 (broadcastInDim S4x1000 ![] bcast_S_S4x1000 : (⟨S_, .i1⟩ : BufTy).Contents (Elt F) → (⟨S4x1000, .i1⟩ : BufTy).Contents (Elt F)),
    StableHlo.nullary main_c_32 (constantI S_ 32 0#32),
    StableHlo.nullary main_c_33 (constantI S_ 32 0#32),
    StableHlo.unary main_v158 main_v161_0 id,
    StableHlo.unary main_values main_v161_1 id,
    StableHlo.unary main_v159 main_v161_2 id,
    StableHlo.unary main_c_33 main_v161_3 id,
    StableHlo.unary main_c_32 main_v161_4 id,
    StableHlo.unary main_v160 main_v161_5 id ]
abbrev part5_W : List (Ref sig .tc) := [main_v159, main_c_31, main_v160, main_c_32, main_c_33, main_v161_0, main_v161_1, main_v161_2, main_v161_3, main_v161_4, main_v161_5]
theorem part5_writes {F : FTy → Type} [FloatOps F] : (part5 : List (HloOp τ sig (Elt F))).Forall fun op => op.writes ⊆ (part5_W.map (Proc.devRef (τ := τ) .tc)).toFinset :=
  StableHlo.forall_writes_sub_of_map rfl
/-- The buffers after it. -/
def P5 : Valuation τ sig (Elt Ideal) := after part5 V
theorem P5_keeps {r : Ref sig .tc} (h : r ∉ part5_W) : P5 V (Proc.devRef .tc r) = V (Proc.devRef .tc r) :=
  after_of_writes_sub part5 _ part5_writes h

theorem U10_eq : U10 V = P5 (P4 (P3 (P2 (P1 V)))) := by
  unfold U10 P5 P4 P3 P2 P1
  rw [← StableHlo.after_append, ← StableHlo.after_append, ← StableHlo.after_append, ← StableHlo.after_append]
  rfl

/-- The masked scores of an image. -/
def scoreRow : Fin 20000 → EReal := fun n => V (Proc.devRef .tc main_v93) (ix2 b n)

theorem P1_values : @Eq EReal (P1 V (Proc.devRef .tc main_values) (ix2 b k)) (scoreRow V b (place (scoreRow V b) k)) := by
  unfold P1
  after_reads_simp
  exact topk_vals (by decide) _ _ b k

theorem P1_v100 (c : Fin 4) : @Eq EReal (P1 V (Proc.devRef .tc main_v100) (ix3 b k c)) (V (Proc.devRef .tc main_v70) (ix3 b (place (scoreRow V b) k) c)) := by
  unfold P1
  after_reads_simp
  refine gather_rows b k (by decide) _ (place (scoreRow V b) k) ?_ _ _ c
  have hI := topk_places (by decide : 1000 ≤ 20000) (V (Proc.devRef .tc main_v93) : FVec Ideal S4x20000 .f32) sliceFits_S4x20000_S4x1000 b k
  generalize (Host.topK S4x1000 1 (@FloatOps.cmpfTotal Ideal _ .f32 .gt) (V (Proc.devRef .tc main_v93) : FVec Ideal S4x20000 .f32) sliceFits_S4x20000_S4x1000).2 = I at hI ⊢
  pointwise
  erw [hI]
  exact place_wrap (by decide) _ _

theorem P1_v107 : @Eq (BitVec 32) (P1 V (Proc.devRef .tc main_v107) (ix2 b k)) (V (Proc.devRef .tc main_v74) (ix2 b (place (scoreRow V b) k))) := by
  unfold P1
  after_reads_simp
  refine gather_entry b k (by decide) _ (place (scoreRow V b) k) ?_ _ _
  have hI := topk_places (by decide : 1000 ≤ 20000) (V (Proc.devRef .tc main_v93) : FVec Ideal S4x20000 .f32) sliceFits_S4x20000_S4x1000 b k
  generalize (Host.topK S4x1000 1 (@FloatOps.cmpfTotal Ideal _ .f32 .gt) (V (Proc.devRef .tc main_v93) : FVec Ideal S4x20000 .f32) sliceFits_S4x20000_S4x1000).2 = I at hI ⊢
  pointwise
  erw [hI]
  exact place_wrap (by decide) _ _

theorem P2_v109 : @Eq EReal (P2 V (Proc.devRef .tc main_v109) (ix2 b k)) (V (Proc.devRef .tc main_v100) (ix3 b k 0)) := by
  unfold P2
  after_reads_simp
  clean_types
  pointwise

theorem P2_v111 : @Eq EReal (P2 V (Proc.devRef .tc main_v111) (ix2 b k)) (V (Proc.devRef .tc main_v100) (ix3 b k 1)) := by
  unfold P2
  after_reads_simp
  clean_types
  pointwise

theorem P2_v113 : @Eq EReal (P2 V (Proc.devRef .tc main_v113) (ix2 b k)) (V (Proc.devRef .tc main_v100) (ix3 b k 2)) := by
  unfold P2
  after_reads_simp
  clean_types
  pointwise

theorem P2_v115 : @Eq EReal (P2 V (Proc.devRef .tc main_v115) (ix2 b k)) (V (Proc.devRef .tc main_v100) (ix3 b k 3)) := by
  unfold P2
  after_reads_simp
  clean_types
  pointwise

theorem P2_v122 {p : Fin 4 → EReal} (hp : ∀ c, @Eq EReal (V (Proc.devRef .tc main_v100) (ix3 b k c)) (p c)) :
    @Eq EReal (P2 V (Proc.devRef .tc main_v122) (ix2 b k)) (area p) := by
  unfold P2
  after_reads_simp
  clean_types
  pointwise
  rw [hp, hp, hp, hp]
  rfl

theorem P3_v149 {p q : Fin 4 → EReal}
    (p0 : @Eq EReal (V (Proc.devRef .tc main_v109) (ix2 b k)) (p 0)) (q0 : @Eq EReal (V (Proc.devRef .tc main_v109) (ix2 b j)) (q 0))
    (p1 : @Eq EReal (V (Proc.devRef .tc main_v111) (ix2 b k)) (p 1)) (q1 : @Eq EReal (V (Proc.devRef .tc main_v111) (ix2 b j)) (q 1))
    (p2 : @Eq EReal (V (Proc.devRef .tc main_v113) (ix2 b k)) (p 2)) (q2 : @Eq EReal (V (Proc.devRef .tc main_v113) (ix2 b j)) (q 2))
    (p3 : @Eq EReal (V (Proc.devRef .tc main_v115) (ix2 b k)) (p 3)) (q3 : @Eq EReal (V (Proc.devRef .tc main_v115) (ix2 b j)) (q 3)) :
    @Eq EReal (P3 V (Proc.devRef .tc main_v149) (ix3 b k j)) (inter p q) := by
  unfold P3
  after_reads_simp
  clean_types
  pointwise
  rw [p0, p1, p2, p3, q0, q1, q2, q3]
  rfl

theorem P4_v158 {a a' i : EReal} (ha : @Eq EReal (V (Proc.devRef .tc main_v122) (ix2 b k)) a) (ha' : @Eq EReal (V (Proc.devRef .tc main_v122) (ix2 b j)) a')
    (hi : @Eq EReal (V (Proc.devRef .tc main_v149) (ix3 b k j)) i) :
    @Eq EReal (P4 V (Proc.devRef .tc main_v158) (ix3 b k j)) (Ideal.div i (max (a + a' - i) (lit 897988541#32))) := by
  subst ha
  subst ha'
  subst hi
  unfold P4
  after_reads_simp
  clean_types
  pointwise

theorem P5_0 : P5 V (Proc.devRef .tc main_v161_0) = V (Proc.devRef .tc main_v158) := by
  unfold P5
  after_reads_simp
  rfl

theorem P5_1 : P5 V (Proc.devRef .tc main_v161_1) = V (Proc.devRef .tc main_values) := by
  unfold P5
  after_reads_simp
  rfl

theorem P5_2 : @Eq (BitVec 32) (P5 V (Proc.devRef .tc main_v161_2) (ix1 j)) (BitVec.ofNat 32 j.val) := by
  unfold P5
  after_reads_simp
  rfl

theorem P5_4 : @Eq (BitVec 32) (P5 V (Proc.devRef .tc main_v161_4) ix0) 0#32 := by
  unfold P5
  after_reads_simp
  rfl

theorem P5_5 : @Eq (BitVec 1) (P5 V (Proc.devRef .tc main_v161_5) (ix2 b j)) 1#1 := by
  unfold P5
  after_reads_simp
  rfl

/-! Together. -/

/-- The boxes of an image's best, from what is held before the last stretch. -/
def boxes : Fin 4 → EReal := fun c => V (Proc.devRef .tc main_v70) (ix3 b (place (scoreRow V b) k) c)

theorem U10_values : @Eq EReal (U10 V (Proc.devRef .tc main_values) (ix2 b k)) (scoreRow V b (place (scoreRow V b) k)) := by
  rw [U10_eq, P5_keeps _ (by decide), P4_keeps _ (by decide), P3_keeps _ (by decide), P2_keeps _ (by decide)]
  exact P1_values V b k

theorem U10_v100 (c : Fin 4) : @Eq EReal (U10 V (Proc.devRef .tc main_v100) (ix3 b k c)) (boxes V b k c) := by
  rw [U10_eq, P5_keeps _ (by decide), P4_keeps _ (by decide), P3_keeps _ (by decide), P2_keeps _ (by decide)]
  exact P1_v100 V b k c

theorem U10_v107 : @Eq (BitVec 32) (U10 V (Proc.devRef .tc main_v107) (ix2 b k)) (V (Proc.devRef .tc main_v74) (ix2 b (place (scoreRow V b) k))) := by
  rw [U10_eq, P5_keeps _ (by decide), P4_keeps _ (by decide), P3_keeps _ (by decide), P2_keeps _ (by decide)]
  exact P1_v107 V b k

theorem U10_0 : @Eq EReal (U10 V (Proc.devRef .tc main_v161_0) (ix3 b k j)) (iou (boxes V b k) (boxes V b j)) := by
  have h0 := fun k => (P2_v109 (P1 V) b k).trans (P1_v100 V b k 0)
  have h1 := fun k => (P2_v111 (P1 V) b k).trans (P1_v100 V b k 1)
  have h2 := fun k => (P2_v113 (P1 V) b k).trans (P1_v100 V b k 2)
  have h3 := fun k => (P2_v115 (P1 V) b k).trans (P1_v100 V b k 3)
  have ha := fun k => P2_v122 (P1 V) b k (p := boxes V b k) (P1_v100 V b k)
  have hi := P3_v149 (P2 (P1 V)) b k j (p := boxes V b k) (q := boxes V b j) (h0 k) (h0 j) (h1 k) (h1 j) (h2 k) (h2 j) (h3 k) (h3 j)
  rw [← P3_keeps (P2 (P1 V)) (by decide)] at ha
  rw [U10_eq, P5_0]
  exact P4_v158 _ b k j (ha k) (ha j) hi

theorem U10_1 : @Eq EReal (U10 V (Proc.devRef .tc main_v161_1) (ix2 b k)) (scoreRow V b (place (scoreRow V b) k)) := by
  rw [U10_eq, P5_1, P4_keeps _ (by decide), P3_keeps _ (by decide), P2_keeps _ (by decide)]
  exact P1_values V b k

end Cert.Own.Reference

end
-- ==== Proof.RefLoop.lean ====
/-
  The reference's loop: after `t` trips the mask it carries is the suppression's after `t` pivots.
-/
module

public import proofs.«01_k».proof.Proof.RefRun
public import proofs.«01_k».proof.Proof.RefPre
public import proofs.«01_k».proof.Proof.Reads
public import Idealize.ShloMosaic.Lib.StableHlo.ReadAt
public import Idealize.ShloMosaic.Lib.Pointwise
public import Idealize.ShloMosaic.PureOps.Ideal

@[expose] public section

noncomputable section

namespace Cert.Own.Reference

open Cert.ReferenceIdeal Cert.ReferenceIdeal.Gen Cert.ReferenceIdeal.Value
open Idealize.ShloMosaic Idealize.ShloMosaic.TcCoe Idealize.ShloMosaic.StableHlo
open Cert.Own.Spec

variable (V : Valuation τ sig (Elt Ideal)) (b : Fin 4) (j : Fin 1000)

theorem slice_row {α : Type} (x : S4x1000x1000.Idx → α) (st : Fin 3 → Int) (h : S4x1000x1000.Slices (fun _ => 0) S4x1x1000) (i : Fin 1000)
    (h0 : st 0 = 0) (h1 : st 1 = i.val) (h2 : st 2 = 0) : Host.dynamicSlice S4x1x1000 x st h (ix3 b 0 j) = x (ix3 b i j) := by
  refine congrArg x (funext fun a => Fin.ext ?_)
  match a with
  | ⟨0, _⟩ =>
    show (min (max (st 0) 0) ((4 - 4 : ℕ) : Int)).toNat + b.val = b.val
    rw [h0]; simp
  | ⟨1, _⟩ =>
    show (min (max (st 1) 0) ((1000 - 1 : ℕ) : Int)).toNat + 0 = i.val
    rw [h1]; omega
  | ⟨2, _⟩ =>
    show (min (max (st 2) 0) ((1000 - 1000 : ℕ) : Int)).toNat + j.val = j.val
    rw [h2]; simp

theorem slice_entry {α : Type} (x : S4x1000.Idx → α) (st : Fin 2 → Int) (h : S4x1000.Slices (fun _ => 0) S4x1) (i : Fin 1000)
    (h0 : st 0 = 0) (h1 : st 1 = i.val) : Host.dynamicSlice S4x1 x st h (ix2 b 0) = x (ix2 b i) := by
  refine congrArg x (funext fun a => Fin.ext ?_)
  match a with
  | ⟨0, _⟩ =>
    show (min (max (st 0) 0) ((4 - 4 : ℕ) : Int)).toNat + b.val = b.val
    rw [h0]; simp
  | ⟨1, _⟩ =>
    show (min (max (st 1) 0) ((1000 - 1 : ℕ) : Int)).toNat + 0 = i.val
    rw [h1]; omega

theorem toInt_small (i : Fin 1000) : (BitVec.ofNat 32 i.val).toInt = i.val := by
  have hi := i.isLt
  rw [BitVec.toInt_eq_toNat_of_lt]
  · rw [BitVec.toNat_ofNat, Nat.mod_eq_of_lt (by omega)]
  · rw [BitVec.toNat_ofNat, Nat.mod_eq_of_lt (by omega)]; omega

theorem start_eq (w : IVec S_ 32) (i : Fin 1000) (hw : w ix0 = BitVec.ofNat 32 i.val) :
    (select (cmpi .slt w (constantI S_ 32 0#32)) (addi (id w) (constantI S_ 32 1000#32)) w (Shape.Idx.first h_S_)).toInt = i.val := by
  have hf : Shape.Idx.first h_S_ = ix0 := funext fun a => a.elim0
  rw [hf]
  show (Scalar.select (IntOp.cmpi .slt (w ix0) 0#32) (addi (id w) (constantI S_ 32 1000#32) ix0) (w ix0)).toInt = _
  rw [hw, place_wrap (by decide), toInt_small]

set_option maxRecDepth 8192 in
/-- One trip on the mask. -/
theorem step_5 (i : Fin 1000) (hi : @Eq (BitVec 32) (V (Proc.devRef .tc main_v161_4) ix0) (BitVec.ofNat 32 i.val))
    (h2 : @Eq (BitVec 32) (V (Proc.devRef .tc main_v161_2) (ix1 j)) (BitVec.ofNat 32 j.val))
    {u si sj : EReal} (hu : @Eq EReal (V (Proc.devRef .tc main_v161_0) (ix3 b i j)) u)
    (hsi : @Eq EReal (V (Proc.devRef .tc main_v161_1) (ix2 b i)) si) (hsj : @Eq EReal (V (Proc.devRef .tc main_v161_1) (ix2 b j)) sj)
    {ki kj : Bool} (hki : @Eq (BitVec 1) (V (Proc.devRef .tc main_v161_5) (ix2 b i)) (BitVec.ofBool ki))
    (hkj : @Eq (BitVec 1) (V (Proc.devRef .tc main_v161_5) (ix2 b j)) (BitVec.ofBool kj)) :
    @Eq (BitVec 1) (step_main_v161_5 V (ix2 b j))
      (BitVec.ofBool (kj && !(decide (lit 1056964608#32 < u) && decide (0 < si - sj) && decide (i.val < j.val) && ki))) := by
  unfold step_main_v161_5
  have e0 := fun h => slice_row b j (V (Proc.devRef .tc main_v161_0) : FVec Ideal S4x1000x1000 .f32) (fun k => (((![constantI S_ 32 0#32, select (cmpi .slt (V (Proc.devRef .tc main_v161_4)) (constantI S_ 32 0#32)) (addi (id (V (Proc.devRef .tc main_v161_4))) (constantI S_ 32 1000#32)) (V (Proc.devRef .tc main_v161_4)), constantI S_ 32 0#32] : Fin 3 → IVec S_ 32)) k (Shape.Idx.first h_S_)).toInt) h i rfl (start_eq _ i hi) rfl
  have e1 := fun h => slice_entry b (V (Proc.devRef .tc main_v161_1) : FVec Ideal S4x1000 .f32) (fun k => (((![constantI S_ 32 0#32, select (cmpi .slt (V (Proc.devRef .tc main_v161_4)) (constantI S_ 32 0#32)) (addi (id (V (Proc.devRef .tc main_v161_4))) (constantI S_ 32 1000#32)) (V (Proc.devRef .tc main_v161_4))] : Fin 2 → IVec S_ 32)) k (Shape.Idx.first h_S_)).toInt) h i rfl (start_eq _ i hi)
  have e5 := fun h => slice_entry b (V (Proc.devRef .tc main_v161_5) : IVec S4x1000 1) (fun k => (((![constantI S_ 32 0#32, select (cmpi .slt (V (Proc.devRef .tc main_v161_4)) (constantI S_ 32 0#32)) (addi (id (V (Proc.devRef .tc main_v161_4))) (constantI S_ 32 1000#32)) (V (Proc.devRef .tc main_v161_4))] : Fin 2 → IVec S_ 32)) k (Shape.Idx.first h_S_)).toInt) h i rfl (start_eq _ i hi)
  specialize e0 sliceFits_S4x1000x1000_S4x1x1000
  specialize e1 sliceFits_S4x1000_S4x1
  specialize e5 sliceFits_S4x1000_S4x1
  rw [hu] at e0
  rw [hsi] at e1
  rw [hki] at e5
  dsimp only [id]
  dsimp only [id] at e0 e1 e5
  generalize hd0 : Host.dynamicSlice S4x1x1000 (V (Proc.devRef .tc main_v161_0)) _ _ = d0
  generalize hd1 : Host.dynamicSlice S4x1 (V (Proc.devRef .tc main_v161_1)) _ _ = d1
  generalize hd5 : Host.dynamicSlice S4x1 (V (Proc.devRef .tc main_v161_5)) _ _ = d5
  have f0 : @Eq EReal (d0 (ix3 b 0 j)) u := (congrFun hd0.symm (ix3 b 0 j)).trans e0
  have f1 : @Eq EReal (d1 (ix2 b 0)) si := (congrFun hd1.symm (ix2 b 0)).trans e1
  have f5 : @Eq (BitVec 1) (d5 (ix2 b 0)) (BitVec.ofBool ki) := (congrFun hd5.symm (ix2 b 0)).trans e5
  clear hd0 hd1 hd5 e0 e1 e5
  pointwise
  have hc : IntOp.cmpi .sgt (BitVec.ofNat 32 j.val) (BitVec.ofNat 32 i.val) = BitVec.ofBool (decide (i.val < j.val)) := by
    show BitVec.ofBool (decide ((BitVec.ofNat 32 i.val).toInt < (BitVec.ofNat 32 j.val).toInt)) = _
    rw [toInt_small, toInt_small, decide_eq_decide.mpr Int.ofNat_lt]
  rw [f0, f1, f5, hkj, hsj, h2, hi, hc]
  generalize decide (Ideal.ofBits FTy.f32 1056964608#32 < u) = a1
  generalize decide (0 < si - sj) = a2
  generalize decide (i.val < j.val) = a3
  clear hki hkj f5
  revert a1 a2 a3 ki kj
  decide

/-- The carried row of scores, the table and the row of places are never written. -/
theorem iterate_fixed (t : ℕ) : STEP^[t] V (Proc.devRef .tc main_v161_0) = V (Proc.devRef .tc main_v161_0)
    ∧ STEP^[t] V (Proc.devRef .tc main_v161_1) = V (Proc.devRef .tc main_v161_1)
    ∧ STEP^[t] V (Proc.devRef .tc main_v161_2) = V (Proc.devRef .tc main_v161_2) := by
  induction t with
  | zero => exact ⟨rfl, rfl, rfl⟩
  | succ t ih =>
    rw [Function.iterate_succ_apply', STEP_main_v161_0, STEP_main_v161_1, STEP_main_v161_2]
    exact ih

/-- The carried place is the trip's number. -/
theorem iterate_4 (h4 : @Eq (BitVec 32) (V (Proc.devRef .tc main_v161_4) ix0) 0#32) (t : ℕ) :
    @Eq (BitVec 32) (STEP^[t] V (Proc.devRef .tc main_v161_4) ix0) (BitVec.ofNat 32 t) := by
  induction t with
  | zero => exact h4
  | succ t ih =>
    rw [Function.iterate_succ_apply', STEP_main_v161_4]
    exact (congrArg (fun w : BitVec 32 => w + 1#32) ih).trans (BitVec.ofNat_add t 1).symm

variable {p : Fin 1000 → Fin 4 → EReal} {s : Fin 1000 → EReal}

/-- The carried mask is the suppression's. -/
theorem iterate_5 (h0 : ∀ i j, @Eq EReal (V (Proc.devRef .tc main_v161_0) (ix3 b i j)) (iou (p i) (p j)))
    (h1 : ∀ j, @Eq EReal (V (Proc.devRef .tc main_v161_1) (ix2 b j)) (s j))
    (h2 : ∀ j : Fin 1000, @Eq (BitVec 32) (V (Proc.devRef .tc main_v161_2) (ix1 j)) (BitVec.ofNat 32 j.val))
    (h4 : @Eq (BitVec 32) (V (Proc.devRef .tc main_v161_4) ix0) 0#32)
    (h5 : ∀ j, @Eq (BitVec 1) (V (Proc.devRef .tc main_v161_5) (ix2 b j)) 1#1) (t : ℕ) (ht : t ≤ 1000) (j : Fin 1000) :
    @Eq (BitVec 1) (STEP^[t] V (Proc.devRef .tc main_v161_5) (ix2 b j)) (BitVec.ofBool (keep p s t j)) := by
  induction t generalizing j with
  | zero => exact h5 j
  | succ t ih =>
    have ih := ih (by omega)
    obtain ⟨f0, f1, f2⟩ := iterate_fixed V t
    rw [Function.iterate_succ_apply', STEP_main_v161_5]
    have g2 : @Eq (BitVec 32) (STEP^[t] V (Proc.devRef .tc main_v161_2) (ix1 j)) (BitVec.ofNat 32 j.val) := (congrFun f2 _).trans (h2 j)
    have g0 : @Eq EReal (STEP^[t] V (Proc.devRef .tc main_v161_0) (ix3 b ⟨t, ht⟩ j)) (iou (p ⟨t, ht⟩) (p j)) := (congrFun f0 _).trans (h0 _ _)
    have g1 : ∀ j, @Eq EReal (STEP^[t] V (Proc.devRef .tc main_v161_1) (ix2 b j)) (s j) := fun j => (congrFun f1 _).trans (h1 j)
    refine (step_5 (STEP^[t] V) b j ⟨t, ht⟩ (iterate_4 V h4 t) g2 g0 (g1 _) (g1 j) (ih ⟨t, ht⟩) (ih j)).trans ?_
    rw [keep, dif_pos (show t < 1000 from ht)]

end Cert.Own.Reference

end
-- ==== Proof.RefPost.lean ====
/-
  The reference after its loop: its three results at an index.
-/
module

public import proofs.«01_k».proof.Proof.RefRun
public import proofs.«01_k».proof.Proof.RefPre
public import proofs.«01_k».proof.Proof.Reads
public import Idealize.ShloMosaic.Lib.StableHlo.ReadAt
public import Idealize.ShloMosaic.Lib.Pointwise
public import Idealize.ShloMosaic.PureOps.Ideal

@[expose] public section

noncomputable section

namespace Cert.Own.Reference

open Cert.ReferenceIdeal Cert.ReferenceIdeal.Gen Cert.ReferenceIdeal.Value
open Idealize.ShloMosaic Idealize.ShloMosaic.TcCoe Idealize.ShloMosaic.StableHlo
open Cert.Own.Spec

variable (V : Valuation τ sig (Elt Ideal)) (b : Fin 4) (j : Fin 1000) (k : Fin 100)

/-- The buffers up to the scores the second top-k takes. -/
def Q1 : Valuation τ sig (Elt Ideal) := after hostOps0_18 (after hostOps0_17 V)
theorem Q1_keeps {r : Ref sig .tc} (h : r ∉ hostOps0_18_W ++ hostOps0_17_W) : Q1 V (Proc.devRef .tc r) = V (Proc.devRef .tc r) := by
  rw [List.mem_append, not_or] at h
  unfold Q1
  rw [after_of_writes_sub hostOps0_18 _ hostOps0_18_writes h.1, after_of_writes_sub hostOps0_17 _ hostOps0_17_writes h.2]
/-- The buffers after the second top-k and the gather of the boxes. -/
def Q2 : Valuation τ sig (Elt Ideal) := after hostOps0_19 V
theorem Q2_keeps {r : Ref sig .tc} (h : r ∉ hostOps0_19_W) : Q2 V (Proc.devRef .tc r) = V (Proc.devRef .tc r) := by
  unfold Q2
  rw [after_of_writes_sub hostOps0_19 _ hostOps0_19_writes h]
/-- The buffers after the boxes and the scores are masked. -/
def Q3 : Valuation τ sig (Elt Ideal) := after hostOps0_22 (after hostOps0_21 (after hostOps0_20 V))
theorem Q3_keeps {r : Ref sig .tc} (h : r ∉ hostOps0_22_W ++ (hostOps0_21_W ++ hostOps0_20_W)) : Q3 V (Proc.devRef .tc r) = V (Proc.devRef .tc r) := by
  rw [List.mem_append, not_or, List.mem_append, not_or] at h
  unfold Q3
  rw [after_of_writes_sub hostOps0_22 _ hostOps0_22_writes h.1, after_of_writes_sub hostOps0_21 _ hostOps0_21_writes h.2.1,
    after_of_writes_sub hostOps0_20 _ hostOps0_20_writes h.2.2]
/-- The buffers after the gather of the classes. -/
def Q4 : Valuation τ sig (Elt Ideal) := after hostOps0_23 V
theorem Q4_keeps {r : Ref sig .tc} (h : r ∉ hostOps0_23_W) : Q4 V (Proc.devRef .tc r) = V (Proc.devRef .tc r) := by
  unfold Q4
  rw [after_of_writes_sub hostOps0_23 _ hostOps0_23_writes h]
/-- The buffers at the end. -/
def Q5 : Valuation τ sig (Elt Ideal) := after hostOps0_24 V
theorem Q5_keeps {r : Ref sig .tc} (h : r ∉ hostOps0_24_W) : Q5 V (Proc.devRef .tc r) = V (Proc.devRef .tc r) := by
  unfold Q5
  rw [after_of_writes_sub hostOps0_24 _ hostOps0_24_writes h]

theorem post_eq : afterL postI V = Q5 (Q4 (Q3 (Q2 (Q1 V)))) := rfl

theorem Q1_v165 {s : EReal} (hs : @Eq EReal (V (Proc.devRef .tc main_values) (ix2 b j)) s) {q : Bool}
    (hq : @Eq (BitVec 1) (V (Proc.devRef .tc main_v161_5) (ix2 b j)) (BitVec.ofBool q)) :
    @Eq EReal (Q1 V (Proc.devRef .tc main_v165) (ix2 b j)) (if q && decide (lit 3435052064#32 < s) then s else lit 4286578688#32) := by
  unfold Q1
  after_reads_simp
  try dsimp only [id]
  simp -implicitDefEqProofs only [StableHlo.TRef.toBuf, StableHlo.TRef.ofBuf, cast_cast, cast_eq]
  clean_types
  pointwise
  rw [hs, hq]
  cases q <;> by_cases h : lit 3435052064#32 < s <;> simp [h, Scalar.select, IntOp.andi]

/-- The scores the second top-k takes. -/
def kept : Fin 1000 → EReal := fun j => V (Proc.devRef .tc main_v165) (ix2 b j)

theorem Q2_values : @Eq EReal (Q2 V (Proc.devRef .tc main_values_36) (ix2 b k)) (kept V b (spot (kept V b) k)) := by
  unfold Q2
  after_reads_simp
  exact topk_vals (by decide) _ _ b k

theorem Q2_v168 : @Eq (BitVec 1) (Q2 V (Proc.devRef .tc main_v168) (ix2 b k)) (finite (kept V b (spot (kept V b) k))) := by
  unfold Q2
  after_reads_simp
  have hI := topk_vals (by decide : 100 ≤ 1000) (V (Proc.devRef .tc main_v165) : FVec Ideal S4x1000 .f32) sliceFits_S4x1000_S4x100 b k
  generalize (Host.topK S4x100 1 (@FloatOps.cmpfTotal Ideal _ .f32 .gt) (V (Proc.devRef .tc main_v165) : FVec Ideal S4x1000 .f32) sliceFits_S4x1000_S4x100).1 = I at hI ⊢
  clean_types
  pointwise
  rw [hI]
  rfl

theorem Q2_v169 : @Eq (BitVec 1) (Q2 V (Proc.devRef .tc main_v169) (ix3 b k 0)) (finite (kept V b (spot (kept V b) k))) := by
  unfold Q2
  after_reads_simp
  have hI := topk_vals (by decide : 100 ≤ 1000) (V (Proc.devRef .tc main_v165) : FVec Ideal S4x1000 .f32) sliceFits_S4x1000_S4x100 b k
  generalize (Host.topK S4x100 1 (@FloatOps.cmpfTotal Ideal _ .f32 .gt) (V (Proc.devRef .tc main_v165) : FVec Ideal S4x1000 .f32) sliceFits_S4x1000_S4x100).1 = I at hI ⊢
  clean_types
  pointwise
  rw [hI]
  rfl

theorem Q2_indices : @Eq (BitVec 32) (Q2 V (Proc.devRef .tc main_indices_37) (ix2 b k)) (BitVec.ofNat 32 (spot (kept V b) k).val) := by
  unfold Q2
  after_reads_simp
  exact topk_places (by decide) _ _ b k

theorem Q2_v176 (c : Fin 4) : @Eq EReal (Q2 V (Proc.devRef .tc main_v176) (ix3 b k c)) (V (Proc.devRef .tc main_v100) (ix3 b (spot (kept V b) k) c)) := by
  unfold Q2
  after_reads_simp
  refine gather_rows b k (by decide) _ (spot (kept V b) k) ?_ _ _ c
  have hI := topk_places (by decide : 100 ≤ 1000) (V (Proc.devRef .tc main_v165) : FVec Ideal S4x1000 .f32) sliceFits_S4x1000_S4x100 b k
  generalize (Host.topK S4x100 1 (@FloatOps.cmpfTotal Ideal _ .f32 .gt) (V (Proc.devRef .tc main_v165) : FVec Ideal S4x1000 .f32) sliceFits_S4x1000_S4x100).2 = I at hI ⊢
  pointwise
  erw [hI]
  exact place_wrap (by decide) _ _

theorem Q3_v177 (c : Fin 4) {f : BitVec 1} (hf : @Eq (BitVec 1) (V (Proc.devRef .tc main_v169) (ix3 b k 0)) f)
    {x : EReal} (hx : @Eq EReal (V (Proc.devRef .tc main_v176) (ix3 b k c)) x) (h0 : @Eq EReal (V (Proc.devRef .tc main_cst_41) ix0) 0) :
    @Eq EReal (Q3 V (Proc.devRef .tc main_v177) (ix3 b k c)) (Scalar.select f x 0) := by
  unfold Q3
  after_reads_simp
  try dsimp only [id]
  simp -implicitDefEqProofs only [StableHlo.TRef.toBuf, StableHlo.TRef.ofBuf, cast_cast, cast_eq]
  clean_types
  pointwise
  rw [hf, hx, h0]

theorem Q3_v178 {f : BitVec 1} (hf : @Eq (BitVec 1) (V (Proc.devRef .tc main_v168) (ix2 b k)) f)
    {x : EReal} (hx : @Eq EReal (V (Proc.devRef .tc main_values_36) (ix2 b k)) x) :
    @Eq EReal (Q3 V (Proc.devRef .tc main_v178) (ix2 b k)) (Scalar.select f x 0) := by
  unfold Q3
  after_reads_simp
  try dsimp only [id]
  simp -implicitDefEqProofs only [StableHlo.TRef.toBuf, StableHlo.TRef.ofBuf, cast_cast, cast_eq]
  clean_types
  pointwise
  rw [hf, hx]

theorem Q2_cst : @Eq EReal (Q2 V (Proc.devRef .tc main_cst_41) ix0) 0 := by
  unfold Q2
  after_reads_simp
  pointwise

theorem Q4_v185 (i : Fin 1000) (hi : @Eq (BitVec 32) (V (Proc.devRef .tc main_indices_37) (ix2 b k)) (BitVec.ofNat 32 i.val)) :
    @Eq (BitVec 32) (Q4 V (Proc.devRef .tc main_v185) (ix2 b k)) (V (Proc.devRef .tc main_v107) (ix2 b i)) := by
  unfold Q4
  after_reads_simp
  refine gather_entry b k (by decide) _ i ?_ _ _
  pointwise
  erw [hi]
  exact place_wrap (by decide) _ _

theorem Q4_cst : @Eq (BitVec 32) (Q4 V (Proc.devRef .tc main_c_45) ix0) 0#32 := by
  unfold Q4
  after_reads_simp
  rfl

theorem Q5_v186 {f : BitVec 1} (hf : @Eq (BitVec 1) (V (Proc.devRef .tc main_v168) (ix2 b k)) f)
    {x : BitVec 32} (hx : @Eq (BitVec 32) (V (Proc.devRef .tc main_v185) (ix2 b k)) x) (h0 : @Eq (BitVec 32) (V (Proc.devRef .tc main_c_45) ix0) 0#32) :
    @Eq (BitVec 32) (Q5 V (Proc.devRef .tc main_v186) (ix2 b k)) (Scalar.select f x 0#32) := by
  unfold Q5
  after_reads_simp
  try dsimp only [id]
  simp -implicitDefEqProofs only [StableHlo.TRef.toBuf, StableHlo.TRef.ofBuf, cast_cast, cast_eq]
  clean_types
  pointwise
  rw [hf, hx, h0]

/-! Together, from what is held when the loop ends. -/

section
variable {p : Fin 1000 → Fin 4 → EReal} {s : Fin 1000 → EReal} {l : Fin 1000 → BitVec 32} {q : Fin 1000 → Bool}

theorem kept_eq (hs : ∀ j, @Eq EReal (V (Proc.devRef .tc main_values) (ix2 b j)) (s j))
    (hq : ∀ j, @Eq (BitVec 1) (V (Proc.devRef .tc main_v161_5) (ix2 b j)) (BitVec.ofBool (q j))) : kept (Q1 V) b = final s q :=
  funext fun j => Q1_v165 V b j (hs j) (hq j)

variable {x : Fin 1000 → EReal} (hx : kept (Q1 V) b = x)
include hx

theorem post_v177 (hp : ∀ j c, @Eq EReal (V (Proc.devRef .tc main_v100) (ix3 b j c)) (p j c)) (c : Fin 4) :
    @Eq EReal (afterL postI V (Proc.devRef .tc main_v177) (ix3 b k c)) (Scalar.select (finite (x (spot x k))) (p (spot x k) c) 0) := by
  subst hx
  rw [post_eq, Q5_keeps _ (by decide), Q4_keeps _ (by decide)]
  refine Q3_v177 _ b k c (Q2_v169 _ b k) ((Q2_v176 _ b k c).trans ?_) (Q2_cst _)
  rw [Q1_keeps _ (by decide)]
  exact hp _ c

theorem post_v178 :
    @Eq EReal (afterL postI V (Proc.devRef .tc main_v178) (ix2 b k)) (Scalar.select (finite (x (spot x k))) (x (spot x k)) 0) := by
  subst hx
  rw [post_eq, Q5_keeps _ (by decide), Q4_keeps _ (by decide)]
  exact Q3_v178 _ b k (Q2_v168 _ b k) (Q2_values _ b k)

theorem post_v186 (hl : ∀ j, @Eq (BitVec 32) (V (Proc.devRef .tc main_v107) (ix2 b j)) (l j)) :
    @Eq (BitVec 32) (afterL postI V (Proc.devRef .tc main_v186) (ix2 b k)) (Scalar.select (finite (x (spot x k))) (l (spot x k)) 0#32) := by
  subst hx
  rw [post_eq]
  refine Q5_v186 _ b k ?_ ((Q4_v185 _ b k (spot (kept (Q1 V) b) k) ?_).trans ?_) (Q4_cst _)
  · rw [Q4_keeps _ (by decide), Q3_keeps _ (by decide)]
    exact Q2_v168 _ b k
  · rw [Q3_keeps _ (by decide)]
    exact Q2_indices _ b k
  · rw [Q3_keeps _ (by decide), Q2_keeps _ (by decide), Q1_keeps _ (by decide)]
    exact hl _
end

end Cert.Own.Reference

end
-- ==== Proof.RefAll.lean ====
/-
  The reference from end to end: its three results at an index, of its arguments.
-/
module

public import proofs.«01_k».proof.Proof.RefRun
public import proofs.«01_k».proof.Proof.RefPre
public import proofs.«01_k».proof.Proof.RefVal
public import proofs.«01_k».proof.Proof.RefTop
public import proofs.«01_k».proof.Proof.RefLoop
public import proofs.«01_k».proof.Proof.RefPost
public import Idealize.ShloMosaic.Lib.StableHlo.ReadAt
public import Idealize.ShloMosaic.Lib.Pointwise
public import Idealize.ShloMosaic.PureOps.Ideal

@[expose] public section

noncomputable section

namespace Cert.Own.Reference

open Cert.ReferenceIdeal Cert.ReferenceIdeal.Gen Cert.ReferenceIdeal.Value
open Idealize.ShloMosaic Idealize.ShloMosaic.TcCoe Idealize.ShloMosaic.StableHlo
open Cert.Own.Spec

section
variable (V : Valuation τ sig (Elt Ideal)) (b : Fin 4)

theorem scoreRow_eq : scoreRow (U V) b = row (anchor V) (delta V b) (score V b) := funext fun n => U_v93 V b n

theorem boxes_eq (k : Fin 1000) : boxes (U V) b k = pickBox (anchor V) (delta V b) (score V b) k := by
  funext c
  unfold boxes
  rw [scoreRow_eq]
  exact U_v70 V b _ c

/-- After the trips the mask is the suppression's. -/
theorem trips_mask (t : ℕ) (ht : t ≤ 1000) (j : Fin 1000) :
    @Eq (BitVec 1) (STEP^[t] (afterL preI V) (Proc.devRef .tc main_v161_5) (ix2 b j))
      (BitVec.ofBool (keep (pickBox (anchor V) (delta V b) (score V b)) (pickScore (anchor V) (delta V b) (score V b)) t j)) := by
  rw [pre_eq']
  refine iterate_5 (U10 (U V)) b (fun i j => ?_) (fun j => ?_) (fun j => ?_) ?_ (fun j => ?_) t ht j
  · rw [← boxes_eq, ← boxes_eq]
    exact U10_0 (U V) b i j
  · refine (U10_1 (U V) b j).trans ?_
    rw [scoreRow_eq]
    rfl
  · rw [U10_eq]
    exact P5_2 _ j
  · rw [U10_eq]
    exact P5_4 _
  · rw [U10_eq]
    exact P5_5 _ b j
end

variable (m : (ℓ : Loc nD τ sig) → Buf (Elt Ideal) ℓ) (c : Dev nD) (b : Fin 4) (k : Fin 100)

/-- What the buffers hold at launch. -/
abbrev start : Valuation τ sig (Elt Ideal) := launchContents m c

theorem exit_mask (j : Fin 1000) : @Eq (BitVec 1) (exitV m c (Proc.devRef .tc main_v161_5) (ix2 b j))
    (BitVec.ofBool (keep (pickBox (anchor (start m c)) (delta (start m c) b) (score (start m c) b))
      (pickScore (anchor (start m c)) (delta (start m c) b) (score (start m c) b)) 1000 j)) :=
  (congrFun ((cond_keeps (atK m 1000 c) main_v161_5 (by decide)).trans (atK_agree m c 1000 main_v161_5 (by decide))) (ix2 b j)).trans
    (trips_mask (launchContents m c) b 1000 le_rfl j)

theorem exit_kept : kept (Q1 (exitV m c)) b = survive (anchor (start m c)) (delta (start m c) b) (score (start m c) b) := by
  refine kept_eq (exitV m c) b (s := pickScore (anchor (start m c)) (delta (start m c) b) (score (start m c) b)) (fun j => ?_) (exit_mask m c b)
  rw [exit_keeps _ m c (by decide) (by decide), entry_eq, pre_eq']
  refine (U10_values (U (launchContents m c)) b j).trans ?_
  rw [scoreRow_eq]
  rfl

theorem out_v177 (i : Fin 4) : @Eq EReal (afterL postI (exitV m c) (Proc.devRef .tc main_v177) (ix3 b k i))
    (outBoxes (anchor (start m c)) (delta (start m c) b) (score (start m c) b) k i) := by
  refine post_v177 (exitV m c) b k (exit_kept m c b) (p := pickBox (anchor (start m c)) (delta (start m c) b) (score (start m c) b)) (fun j e => ?_) i
  rw [exit_keeps _ m c (by decide) (by decide), entry_eq, pre_eq', ← boxes_eq]
  exact U10_v100 (U (launchContents m c)) b j e

theorem out_v178 : @Eq EReal (afterL postI (exitV m c) (Proc.devRef .tc main_v178) (ix2 b k))
    (outScores (anchor (start m c)) (delta (start m c) b) (score (start m c) b) k) :=
  post_v178 (exitV m c) b k (exit_kept m c b)

theorem out_v186 : @Eq (BitVec 32) (afterL postI (exitV m c) (Proc.devRef .tc main_v186) (ix2 b k))
    (outClasses (anchor (start m c)) (delta (start m c) b) (score (start m c) b) k) := by
  refine post_v186 (exitV m c) b k (exit_kept m c b)
    (l := fun j => cls (score (start m c) b (pick (anchor (start m c)) (delta (start m c) b) (score (start m c) b) j))) (fun j => ?_)
  rw [exit_keeps _ m c (by decide) (by decide), entry_eq, pre_eq']
  refine (U10_v107 (U (launchContents m c)) b j).trans ?_
  rw [scoreRow_eq]
  exact U_v74 _ b _

end Cert.Own.Reference

end
-- ==== Proof.DecVal.lean ====
/-
  What the decoding kernel writes, at an index: the box, its masked score and its class.
-/
module

public import proofs.«01_k».proof.Proof.Region0
public import proofs.«01_k».proof.Proof.Cls
public import Idealize.ShloMosaic.Lib.Pointwise
public import Idealize.ShloMosaic.Lib.Pointwise.Reduce
public import Idealize.ShloMosaic.PureOps.Ideal

@[expose] public section

noncomputable section

namespace Cert.Own.KernelIdeal

open Cert.KernelIdeal Cert.KernelIdeal.Gen
open Idealize.ShloMosaic
open Cert.Own.Spec

section
variable (X0 X2 : Vec Ideal S1x4x2048 .f32) (X1 : Vec Ideal S1x2048x80 .f32) (l : Fin 2048)

theorem at9 : @Eq EReal (k0_pay9 X0 X2 (ix1 l)) (centre (X0 (ix3 0 0 l)) (X0 (ix3 0 2 l)) (X2 (ix3 0 0 l))) := by
  pointwise [k0_pay9, k0_pay6, k0_pay4, k0_pay3, k0_pay8]
  rfl

theorem at10 : @Eq EReal (k0_pay10 X0 X2 (ix1 l)) (centre (X0 (ix3 0 1 l)) (X0 (ix3 0 3 l)) (X2 (ix3 0 1 l))) := by
  pointwise [k0_pay10, k0_pay7, k0_pay5, k0_pay3, k0_pay8]
  rfl

theorem at11 : @Eq EReal (k0_pay11 X0 X2 (ix1 l)) (extent (X0 (ix3 0 0 l)) (X0 (ix3 0 2 l)) (X2 (ix3 0 2 l))) := by
  pointwise [k0_pay11, k0_pay6, k0_pay4, k0_pay3, k0_pay8]
  rfl

theorem at12 : @Eq EReal (k0_pay12 X0 X2 (ix1 l)) (extent (X0 (ix3 0 1 l)) (X0 (ix3 0 3 l)) (X2 (ix3 0 3 l))) := by
  pointwise [k0_pay12, k0_pay7, k0_pay5, k0_pay3, k0_pay8]
  rfl

variable (u v : FVec Ideal S2048 .f32)

theorem at14 : @Eq EReal (k0_pay14 u v k0_pay13 (ix1 l)) (clip (@HSub.hSub EReal EReal EReal _ (u (ix1 l)) (lit 1056964608#32 * (v (ix1 l) : EReal)))) := by
  pointwise [k0_pay14, k0_pay13]
  rfl

theorem at15 : @Eq EReal (k0_pay15 u v (ix1 l)) (clip (@HSub.hSub EReal EReal EReal _ (u (ix1 l)) (lit 1056964608#32 * (v (ix1 l) : EReal)))) := by
  pointwise [k0_pay15]
  rfl

theorem at16 : @Eq EReal (k0_pay16 u v (ix1 l)) (clip (@HAdd.hAdd EReal EReal EReal _ (u (ix1 l)) (lit 1056964608#32 * (v (ix1 l) : EReal)))) := by
  pointwise [k0_pay16]
  rfl

theorem at17 : @Eq EReal (k0_pay17 u v (ix1 l)) (clip (@HAdd.hAdd EReal EReal EReal _ (u (ix1 l)) (lit 1056964608#32 * (v (ix1 l) : EReal)))) := by
  pointwise [k0_pay17]
  rfl

theorem at20 : @Eq EReal (k0_pay20 X1 (ix1 l)) (best fun k => X1 (ix3 0 l k)) := by
  pointwise [k0_pay20, k0_pay19]
  rfl

variable (a d : Fin 4 → EReal) (s : Fin 80 → EReal)
  (h0 : ∀ k, X0 (ix3 0 k l) = a k) (h2 : ∀ k, X2 (ix3 0 k l) = d k) (h1 : ∀ k, X1 (ix3 0 l k) = s k)

include h0 h2 in
theorem corner0 : @Eq EReal (k0_pay14 (k0_pay9 X0 X2) (k0_pay11 X0 X2) k0_pay13 (ix1 l)) (box a d 0) := by
  rw [at14, at9, at11, h0, h0, h2, h2]
  rfl

include h0 h2 in
theorem corner1 : @Eq EReal (k0_pay15 (k0_pay10 X0 X2) (k0_pay12 X0 X2) (ix1 l)) (box a d 1) := by
  rw [at15, at10, at12, h0, h0, h2, h2]
  rfl

include h0 h2 in
theorem corner2 : @Eq EReal (k0_pay16 (k0_pay9 X0 X2) (k0_pay11 X0 X2) (ix1 l)) (box a d 2) := by
  rw [at16, at9, at11, h0, h0, h2, h2]
  rfl

include h0 h2 in
theorem corner3 : @Eq EReal (k0_pay17 (k0_pay10 X0 X2) (k0_pay12 X0 X2) (ix1 l)) (box a d 3) := by
  rw [at17, at10, at12, h0, h0, h2, h2]
  rfl

include h0 h2 in
theorem outBox_at (k : Fin 4) : @Eq EReal (outBox X0 X2 (ix3 0 k l)) (box a d k) := by
  unfold outBox
  fin_cases k
  · refine Eq.trans ?_ (corner0 X0 X2 l a d h0 h2)
    pointwise [k0_pay18]
  · refine Eq.trans ?_ (corner1 X0 X2 l a d h0 h2)
    pointwise [k0_pay18]
  · refine Eq.trans ?_ (corner2 X0 X2 l a d h0 h2)
    pointwise [k0_pay18]
  · refine Eq.trans ?_ (corner3 X0 X2 l a d h0 h2)
    pointwise [k0_pay18]

include h0 h1 h2 in
theorem outMask_at : @Eq EReal (outMask X0 X1 X2 (ix3 0 0 l)) (masked s (box a d)) := by
  unfold outMask
  have e0 := corner0 X0 X2 l a d h0 h2
  have e1 := corner1 X0 X2 l a d h0 h2
  have e2 := corner2 X0 X2 l a d h0 h2
  have e3 := corner3 X0 X2 l a d h0 h2
  have eb := at20 X1 l
  simp only [h1] at eb
  generalize k0_pay14 (k0_pay9 X0 X2) (k0_pay11 X0 X2) k0_pay13 = c0 at e0 ⊢
  generalize k0_pay15 (k0_pay10 X0 X2) (k0_pay12 X0 X2) = c1 at e1 ⊢
  generalize k0_pay16 (k0_pay9 X0 X2) (k0_pay11 X0 X2) = c2 at e2 ⊢
  generalize k0_pay17 (k0_pay10 X0 X2) (k0_pay12 X0 X2) = c3 at e3 ⊢
  generalize k0_pay20 X1 = w at eb ⊢
  pointwise [k0_pay2]
  rw [e0, e1, e2, e3, eb]
  rfl

theorem minsi_toInt (p q : BitVec 32) : (IntOp.minsi p q).toInt = min p.toInt q.toInt := by
  unfold IntOp.minsi
  have hi : (p.slt q) = decide (p.toInt < q.toInt) := rfl
  rw [hi]
  split <;> rename_i h <;> simp at h <;> omega

theorem fold_minsi (f : Fin 80 → BitVec 32) (z : BitVec 32) (t : Finset (Fin 80)) :
    (t.fold IntOp.minsi z f).toInt = t.fold min z.toInt fun k => (f k).toInt := by
  induction t using Finset.induction_on with
  | empty => rfl
  | insert k t hk ih => rw [Finset.fold_insert hk, Finset.fold_insert hk, minsi_toInt, ih]

/-- The least place at which the greatest score stands, from a fold of minima. -/
theorem cls_min : (Finset.univ : Finset (Fin 80)).fold IntOp.minsi 2147483647#32
    (fun k => if s k = best s then BitVec.ofNat 32 k.val else 80#32) = cls s := by
  obtain ⟨k, hk, hl⟩ : ∃ k, s k = best s ∧ ∀ j, s j = best s → k ≤ j := by
    obtain ⟨j, hj⟩ := best_mem s
    have hne : (Finset.univ.filter fun k => s k = best s).Nonempty := ⟨j, by simp [hj]⟩
    refine ⟨_, (Finset.mem_filter.mp (Finset.min'_mem _ hne)).2, fun i hi => Finset.min'_le _ _ (by simp [hi])⟩
  rw [cls_of s k hk hl]
  refine BitVec.eq_of_toInt_eq ?_
  rw [fold_minsi, toInt_place]
  refine le_antisymm ?_ ?_
  · rw [Finset.fold_min_le]
    exact .inr ⟨k, Finset.mem_univ _, by rw [if_pos hk, toInt_place]⟩
  · rw [Finset.le_fold_min]
    refine ⟨?_, fun j _ => ?_⟩
    · clear hk hl
      revert k
      decide
    · by_cases hj : s j = best s
      · rw [if_pos hj, toInt_place]
        exact_mod_cast hl j hj
      · rw [if_neg hj]
        clear hk hl hj
        revert k
        decide

include h1 in
theorem outCls_at : outCls X1 (ix3 0 0 l) = cls s := by
  unfold outCls
  have eb := at20 X1 l
  simp only [h1] at eb
  generalize hw : k0_pay20 X1 = w at eb
  pointwise [k0_pay1, k0_pay19, k0_pay21]
  rw [hw, eb]
  simp only [h1]
  exact cls_min s
end

section
variable (A : FVec Ideal S1x4x20000 .f32) (S : FVec Ideal S4x20000x80 .f32) (D : FVec Ideal S4x4x20000 .f32) (b : Fin 4) (n : Fin 20000)
  (a d : Fin 4 → EReal) (s : Fin 80 → EReal)
  (h0 : ∀ k, A (ix3 0 k n) = a k) (h2 : ∀ k, D (ix3 b k n) = d k) (h1 : ∀ k, S (ix3 b n k) = s k)

include h0 h2 in
theorem decoded_box (k : Fin 4) : @Eq EReal (boxArr A D (ix3 b k n)) (box a d k) := by
  show boxAt A D b k n = _
  unfold boxAt
  exact outBox_at _ _ _ a d h0 h2 k

include h0 h1 h2 in
theorem decoded_mask : @Eq EReal (maskArr A S D (ix3 b 0 n)) (masked s (box a d)) := by
  show maskAt A S D b n = _
  unfold maskAt
  exact outMask_at _ _ _ _ a d s h0 h2 h1

include h1 in
theorem decoded_cls : clsArr S (ix3 b 0 n) = cls s := by
  show clsAt S b n = _
  unfold clsAt
  exact outCls_at _ _ s h1
end

end Cert.Own.KernelIdeal

end
-- ==== Proof.KHost.lean ====
/-
  What the host operations around the two calls hold, at an index, from the buffers before each stretch.
-/
module

public import proofs.«01_k».proof.Proof.Gen.KernelIdeal.Regions
public import proofs.«01_k».proof.Proof.Reads
public import Idealize.ShloMosaic.Lib.StableHlo.ReadAt
public import Idealize.ShloMosaic.Lib.Pointwise
public import Idealize.ShloMosaic.Lib.Pointwise.Reduce
public import Idealize.ShloMosaic.PureOps.Ideal

@[expose] public section

noncomputable section

namespace Cert.Own.KernelIdeal

open Cert.KernelIdeal Cert.KernelIdeal.Gen
open Idealize.ShloMosaic Idealize.ShloMosaic.TcCoe Idealize.ShloMosaic.StableHlo
open Cert.Own.Spec

variable (V : Valuation τ sig (Elt Ideal)) (b : Fin 4)

theorem select_on {s : Shape} {α : Type} {m : IVec s 1} {x y : s.Idx → α} {i : s.Idx} (h : m i = 1#1) : select m x y i = x i := by
  show Scalar.select (m i) (x i) (y i) = x i
  rw [h]
  rfl

/-- A place of a row is in the row's range. -/
theorem in_range {N : ℕ} (hN : N ≤ 2 ^ 31) (i : Fin N) (z : BitVec 32) (hz : z.toInt = ((N - 1 : ℕ) : ℤ)) :
    IntOp.andi (IntOp.cmpi .sge (BitVec.ofNat 32 i.val) 0#32) (IntOp.cmpi .sle (BitVec.ofNat 32 i.val) z) = 1#1 := by
  have hi := i.isLt
  have h : (BitVec.ofNat 32 i.val).toInt = i.val := by
    rw [BitVec.toInt_eq_toNat_of_lt]
    · rw [BitVec.toNat_ofNat, Nat.mod_eq_of_lt (by omega)]
    · rw [BitVec.toNat_ofNat, Nat.mod_eq_of_lt (by omega)]; omega
  have h1 : (0#32).sle (BitVec.ofNat 32 i.val) = true := by
    rw [BitVec.sle_eq_decide, h]
    exact decide_eq_true (by simp)
  have h2 : (BitVec.ofNat 32 i.val).sle z = true := by
    rw [BitVec.sle_eq_decide, h, hz]
    exact decide_eq_true (by omega)
  simp [IntOp.cmpi, IntOp.andi, h1, h2]

theorem fold_one (f : Fin 1 → BitVec 1) (h : f 0 = 1#1) : (Finset.univ : Finset (Fin 1)).fold IntOp.andi 1#1 f = 1#1 := by
  rw [Finset.univ_unique, Finset.fold_singleton]
  show IntOp.andi (f 0) 1#1 = 1#1
  rw [h]
  rfl

/-- The buffers after a stretch. -/
def H0 : Valuation τ sig (Elt Ideal) := after hostOps0 V
theorem H0_keeps {r : Ref sig .tc} (h : r ∉ hostOps0_W) : H0 V (Proc.devRef .tc r) = V (Proc.devRef .tc r) :=
  after_of_writes_sub hostOps0 _ hostOps0_writes h

/-- The buffers after a stretch. -/
def H1 : Valuation τ sig (Elt Ideal) := after hostOps1 V
theorem H1_keeps {r : Ref sig .tc} (h : r ∉ hostOps1_W) : H1 V (Proc.devRef .tc r) = V (Proc.devRef .tc r) :=
  after_of_writes_sub hostOps1 _ hostOps1_writes h

/-- The buffers after a stretch. -/
def H1_1 : Valuation τ sig (Elt Ideal) := after hostOps1_1 V
theorem H1_1_keeps {r : Ref sig .tc} (h : r ∉ hostOps1_1_W) : H1_1 V (Proc.devRef .tc r) = V (Proc.devRef .tc r) :=
  after_of_writes_sub hostOps1_1 _ hostOps1_1_writes h

/-- The buffers after a stretch. -/
def H1_2 : Valuation τ sig (Elt Ideal) := after hostOps1_2 V
theorem H1_2_keeps {r : Ref sig .tc} (h : r ∉ hostOps1_2_W) : H1_2 V (Proc.devRef .tc r) = V (Proc.devRef .tc r) :=
  after_of_writes_sub hostOps1_2 _ hostOps1_2_writes h

/-- The buffers after a stretch. -/
def H1_3 : Valuation τ sig (Elt Ideal) := after hostOps1_3 V
theorem H1_3_keeps {r : Ref sig .tc} (h : r ∉ hostOps1_3_W) : H1_3 V (Proc.devRef .tc r) = V (Proc.devRef .tc r) :=
  after_of_writes_sub hostOps1_3 _ hostOps1_3_writes h

/-- The buffers after a stretch. -/
def H2 : Valuation τ sig (Elt Ideal) := after hostOps2 V
theorem H2_keeps {r : Ref sig .tc} (h : r ∉ hostOps2_W) : H2 V (Proc.devRef .tc r) = V (Proc.devRef .tc r) :=
  after_of_writes_sub hostOps2 _ hostOps2_writes h

/-- The buffers after a stretch. -/
def H2_1 : Valuation τ sig (Elt Ideal) := after hostOps2_1 V
theorem H2_1_keeps {r : Ref sig .tc} (h : r ∉ hostOps2_1_W) : H2_1 V (Proc.devRef .tc r) = V (Proc.devRef .tc r) :=
  after_of_writes_sub hostOps2_1 _ hostOps2_1_writes h

/-- The buffers after a stretch. -/
def H2_2 : Valuation τ sig (Elt Ideal) := after hostOps2_2 V
theorem H2_2_keeps {r : Ref sig .tc} (h : r ∉ hostOps2_2_W) : H2_2 V (Proc.devRef .tc r) = V (Proc.devRef .tc r) :=
  after_of_writes_sub hostOps2_2 _ hostOps2_2_writes h

/-- The buffers after a stretch. -/
def H2_3 : Valuation τ sig (Elt Ideal) := after hostOps2_3 V
theorem H2_3_keeps {r : Ref sig .tc} (h : r ∉ hostOps2_3_W) : H2_3 V (Proc.devRef .tc r) = V (Proc.devRef .tc r) :=
  after_of_writes_sub hostOps2_3 _ hostOps2_3_writes h

/-- The buffers after a stretch. -/
def H2_4 : Valuation τ sig (Elt Ideal) := after hostOps2_4 V
theorem H2_4_keeps {r : Ref sig .tc} (h : r ∉ hostOps2_4_W) : H2_4 V (Proc.devRef .tc r) = V (Proc.devRef .tc r) :=
  after_of_writes_sub hostOps2_4 _ hostOps2_4_writes h

/-- The buffers after a stretch. -/
def H2_5 : Valuation τ sig (Elt Ideal) := after hostOps2_5 V
theorem H2_5_keeps {r : Ref sig .tc} (h : r ∉ hostOps2_5_W) : H2_5 V (Proc.devRef .tc r) = V (Proc.devRef .tc r) :=
  after_of_writes_sub hostOps2_5 _ hostOps2_5_writes h

/-- The buffers after a stretch. -/
def H2_6 : Valuation τ sig (Elt Ideal) := after hostOps2_6 V
theorem H2_6_keeps {r : Ref sig .tc} (h : r ∉ hostOps2_6_W) : H2_6 V (Proc.devRef .tc r) = V (Proc.devRef .tc r) :=
  after_of_writes_sub hostOps2_6 _ hostOps2_6_writes h

/-- The buffers after a stretch. -/
def H2_7 : Valuation τ sig (Elt Ideal) := after hostOps2_7 V
theorem H2_7_keeps {r : Ref sig .tc} (h : r ∉ hostOps2_7_W) : H2_7 V (Proc.devRef .tc r) = V (Proc.devRef .tc r) :=
  after_of_writes_sub hostOps2_7 _ hostOps2_7_writes h

/-- The buffers after a stretch. -/
def H2_8 : Valuation τ sig (Elt Ideal) := after hostOps2_8 V
theorem H2_8_keeps {r : Ref sig .tc} (h : r ∉ hostOps2_8_W) : H2_8 V (Proc.devRef .tc r) = V (Proc.devRef .tc r) :=
  after_of_writes_sub hostOps2_8 _ hostOps2_8_writes h

/-- The buffers after a stretch. -/
def H2_9 : Valuation τ sig (Elt Ideal) := after hostOps2_9 V
theorem H2_9_keeps {r : Ref sig .tc} (h : r ∉ hostOps2_9_W) : H2_9 V (Proc.devRef .tc r) = V (Proc.devRef .tc r) :=
  after_of_writes_sub hostOps2_9 _ hostOps2_9_writes h

/-! Before the first call. -/

theorem H0_v1 (k : Fin 4) (n : Fin 20000) : @Eq EReal (H0 V (Proc.devRef .tc main_v1) (ix3 0 k n)) (V (Proc.devRef .tc main_arg0) (ix2 n k)) := by
  unfold H0
  after_reads_simp
  pointwise

theorem H0_v2 (k : Fin 4) (n : Fin 20000) : @Eq EReal (H0 V (Proc.devRef .tc main_v2) (ix3 b k n)) (V (Proc.devRef .tc main_arg2) (ix3 b n k)) := by
  unfold H0
  after_reads_simp
  pointwise

/-! Between the calls. -/

/-- The masked scores of an image. -/
def scores : Fin 20000 → EReal := fun n => V (Proc.devRef .tc main_v3_0) (ix3 b 0 n)

theorem flat_eq : (fun n => (shapeCast S4x20000 (V (Proc.devRef .tc main_v3_0) : FVec Ideal S4x1x20000 .f32) shapeCasts_S4x1x20000_S4x20000) (ix2 b n)) = scores V b := by
  funext n
  unfold scores
  pointwise

theorem H1_v5 (n : Fin 20000) : @Eq (BitVec 32) (H1 V (Proc.devRef .tc main_v5) (ix2 b n)) (V (Proc.devRef .tc main_v3_1) (ix3 b 0 n)) := by
  unfold H1
  after_reads_simp
  clean_types
  pointwise

theorem H1_values (k : Fin 1000) : @Eq EReal (H1 V (Proc.devRef .tc main_values) (ix2 b k)) (scores V b (place (scores V b) k)) := by
  unfold H1
  after_reads_simp
  clean_types
  refine (topk_vals (by decide) _ _ b k).trans ?_
  unfold place
  rw [← flat_eq]

theorem H1_indices (k : Fin 1000) : @Eq (BitVec 32) (H1 V (Proc.devRef .tc main_indices) (ix2 b k)) (BitVec.ofNat 32 (place (scores V b) k).val) := by
  unfold H1
  after_reads_simp
  clean_types
  refine (topk_places (by decide) _ _ b k).trans ?_
  unfold place
  rw [← flat_eq]

theorem H1_v6 (k : Fin 1000) : @Eq (BitVec 32) (H1 V (Proc.devRef .tc main_v6) (ix3 b 0 k)) (BitVec.ofNat 32 (place (scores V b) k).val) := by
  refine Eq.trans ?_ (H1_indices V b k)
  unfold H1
  after_reads_simp
  clean_types
  rfl

theorem H1_1_v7 (k : Fin 1000) (i : Fin 20000) (hi : @Eq (BitVec 32) (V (Proc.devRef .tc main_v6) (ix3 b 0 k)) (BitVec.ofNat 32 i.val)) (c : Fin 4) :
    @Eq EReal (H1_1 V (Proc.devRef .tc main_v7) (ix3 b c k)) (V (Proc.devRef .tc main_v3_2) (ix3 b c i)) := by
  unfold H1_1
  after_reads_simp
  simp -implicitDefEqProofs only [StableHlo.TRef.toBuf, StableHlo.TRef.ofBuf, cast_cast, cast_eq]
  clean_types
  refine (select_on ?_).trans ?_
  · pointwise
    refine fold_one _ ?_
    erw [hi, place_wrap (by decide) i]
    exact in_range (by decide) i _ (by decide)
  · refine gather_cols b k (by decide) _ i ?_ _ _ c
    pointwise
    erw [hi]
    exact place_wrap (by decide) _ _

theorem H1_2_v8 (k : Fin 1000) (i : Fin 20000) (hi : @Eq (BitVec 32) (V (Proc.devRef .tc main_indices) (ix2 b k)) (BitVec.ofNat 32 i.val)) :
    @Eq (BitVec 32) (H1_2 V (Proc.devRef .tc main_v8) (ix2 b k)) (V (Proc.devRef .tc main_v5) (ix2 b i)) := by
  unfold H1_2
  after_reads_simp
  simp -implicitDefEqProofs only [StableHlo.TRef.toBuf, StableHlo.TRef.ofBuf, cast_cast, cast_eq]
  clean_types
  refine (select_on ?_).trans ?_
  · pointwise
    refine fold_one _ ?_
    erw [hi, place_wrap (by decide) i]
    exact in_range (by decide) i _ (by decide)
  · refine gather_entry b k (by decide) _ i ?_ _ _
    pointwise
    erw [hi]
    exact place_wrap (by decide) _ _

end Cert.Own.KernelIdeal

end
-- ==== Proof.Nms.lean ====
/-
  The suppression kernel at an index: after its trips, the mask it holds is the suppression's on the thousand boxes, so the
  scores it writes are those that survive, and −∞ on the lanes past them.
-/
module

public import proofs.«01_k».proof.Proof.Region1
public import proofs.«01_k».proof.Proof.Cls
public import Idealize.ShloMosaic.Lib.Pointwise
public import Idealize.ShloMosaic.Lib.Pointwise.Reduce
public import Idealize.ShloMosaic.PureOps.Ideal

@[expose] public section

noncomputable section

namespace Cert.Own.KernelIdeal

open Cert.KernelIdeal Cert.KernelIdeal.Gen
open Idealize.ShloMosaic
open Cert.Own.Spec

theorem trips_eq : k1_t1_loop.trips = 1000 := by decide

/-- The lane of a trip's pivot. -/
def pivot (t : Fin k1_t1_loop.trips) : Fin 1024 := ⟨t.val, lt_trans (lt_of_lt_of_eq t.isLt trips_eq) (by decide)⟩

theorem iv_eq (t : Fin k1_t1_loop.trips) : Scf.iv 0#32 1#32 t = BitVec.ofNat 32 t.val := by
  unfold Scf.iv
  simp

theorem lane_eq (l i : Fin 1024) : (BitVec.ofNat 32 l.val == BitVec.ofNat 32 i.val) = decide (l = i) := by
  have hl := l.isLt
  have hi := i.isLt
  rw [Bool.eq_iff_iff, beq_iff_eq, decide_eq_true_eq]
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

variable (t : Fin k1_t1_loop.trips) (b : Fin 4) (l : Fin 1024)

/-- The pivot's one-hot row. -/
theorem hot_at : @Eq EReal (k1_pay1 (F := Ideal) lanes 0#32 1#32 t (ix2 0 l)) (if l = pivot t then 1 else 0) := by
  have h := lane_eq l (pivot t)
  pointwise [k1_pay1]
  try rw [iv_eq]
  have e : IntOp.cmpi .eq (BitVec.ofNat 32 l.val) (BitVec.ofNat 32 t.val) = BitVec.ofBool (decide (l = pivot t)) := congrArg BitVec.ofBool h
  rw [e]
  by_cases hl : l = pivot t
  · rw [decide_eq_true hl, if_pos hl]
    show ((((BitVec.setWidth 32 (BitVec.ofBool true)).toInt : ℤ) : ℝ) : EReal) = 1
    rw [show (BitVec.setWidth 32 (BitVec.ofBool true)).toInt = 1 by decide]
    simp
  · rw [decide_eq_false hl, if_neg hl]
    show ((((BitVec.setWidth 32 (BitVec.ofBool false)).toInt : ℤ) : ℝ) : EReal) = 0
    rw [show (BitVec.setWidth 32 (BitVec.ofBool false)).toInt = 0 by decide]
    simp

theorem sum_hot (f : Fin 1024 → EReal) (i : Fin 1024) : ∑ l, f l * (if l = i then (1 : EReal) else 0) = f i := by
  rw [Finset.sum_eq_single i]
  · rw [if_pos rfl, mul_one]
  · intro l _ h
    rw [if_neg h, mul_zero]
  · exact fun h => absurd (Finset.mem_univ i) h

theorem max_hot (f : Fin 1024 → EReal) (i : Fin 1024) (h : 0 ≤ f i) :
    (Finset.univ : Finset (Fin 1024)).fold max ⊥ (fun l => f l * (if l = i then (1 : EReal) else 0)) = f i := by
  apply le_antisymm
  · rw [Finset.fold_max_le]
    refine ⟨bot_le, fun l _ => ?_⟩
    by_cases e : l = i
    · rw [if_pos e, mul_one, e]
    · rw [if_neg e, mul_zero]; exact h
  · rw [Finset.le_fold_max]
    exact Or.inr ⟨i, Finset.mem_univ i, by rw [if_pos rfl, mul_one]⟩

theorem pay2_at (v : FVec Ideal S5x4x1024 .f32) (r : Fin 5) :
    @Eq EReal (k1_pay2 (F := Ideal) lanes v 0#32 1#32 t (ix3 r b 0)) (v (ix3 r b (pivot t))) := by
  have h := hot_at t
  unfold k1_pay2
  generalize k1_pay1 (F := Ideal) lanes 0#32 1#32 t = m at h ⊢
  pointwise
  simp only [h]
  exact sum_hot (fun x => v (ix3 r b x)) (pivot t)

theorem pay4_at (keep : FVec Ideal S4x1024 .f32) (hk : @LE.le EReal _ 0 (keep (ix2 b (pivot t)))) :
    @Eq EReal (k1_pay4 (F := Ideal) lanes 0#32 1#32 t keep (ix2 b 0)) (keep (ix2 b (pivot t))) := by
  have h := hot_at t
  unfold k1_pay4
  generalize k1_pay1 (F := Ideal) lanes 0#32 1#32 t = m at h ⊢
  pointwise
  simp only [h]
  refine Eq.trans (congrArg (fun z : EReal => Finset.univ.fold max z fun x => keep (ix2 b x) * if x = pivot t then (1 : EReal) else 0) lit_bot) ?_
  exact max_hot (fun x => keep (ix2 b x)) (pivot t) hk

variable (S : Vec Ideal S4x1024 .f32) (B : Vec Ideal S4x4x1024 .f32)

/-- The five rows the pivot is read from. -/
abbrev vals : FVec Ideal S5x4x1024 .f32 := k1_pay12 S (coordRow B 0) (coordRow B 1) (coordRow B 2) (coordRow B 3)

theorem vals_0 : @Eq EReal (vals S B (ix3 0 b l)) (B (ix3 b 0 l)) := by
  pointwise [vals, k1_pay12, k1_pay7, k1_pay8, k1_pay9, k1_pay10, k1_pay6]
  rfl

theorem vals_1 : @Eq EReal (vals S B (ix3 1 b l)) (B (ix3 b 1 l)) := by
  pointwise [vals, k1_pay12, k1_pay7, k1_pay8, k1_pay9, k1_pay10, k1_pay6]
  rfl

theorem vals_2 : @Eq EReal (vals S B (ix3 2 b l)) (B (ix3 b 2 l)) := by
  pointwise [vals, k1_pay12, k1_pay7, k1_pay8, k1_pay9, k1_pay10, k1_pay6]
  rfl

theorem vals_3 : @Eq EReal (vals S B (ix3 3 b l)) (B (ix3 b 3 l)) := by
  pointwise [vals, k1_pay12, k1_pay7, k1_pay8, k1_pay9, k1_pay10, k1_pay6]
  rfl

theorem vals_4 : @Eq EReal (vals S B (ix3 4 b l)) (S (ix2 b l)) := by
  pointwise [vals, k1_pay12, k1_pay7, k1_pay8, k1_pay9, k1_pay10, k1_pay6]

theorem pay3_at (v : FVec Ideal S5x4x1024 .f32) :
    @Eq EReal (k1_pay3 (F := Ideal) lanes v 0#32 1#32 t (ix2 b 0)) (v (ix3 4 b (pivot t))) := by
  have h := pay2_at t b v 4
  unfold k1_pay3
  generalize k1_pay2 (F := Ideal) lanes v 0#32 1#32 t = w at h ⊢
  pointwise
  exact h

theorem area_at (k : Fin 4 → EReal) (hk : ∀ r, @Eq EReal (B (ix3 b r l)) (k r)) :
    @Eq EReal (k1_pay11 (coordRow B 0) (coordRow B 1) (coordRow B 2) (coordRow B 3) (ix2 b l)) (area k) := by
  pointwise [k1_pay11, k1_pay7, k1_pay8, k1_pay9, k1_pay10]
  have e0 : @Eq EReal (coordRow B 0 (ix3 b 0 l)) (k 0) := hk 0
  have e1 : @Eq EReal (coordRow B 1 (ix3 b 0 l)) (k 1) := hk 1
  have e2 : @Eq EReal (coordRow B 2 (ix3 b 0 l)) (k 2) := hk 2
  have e3 : @Eq EReal (coordRow B 3 (ix3 b 0 l)) (k 3) := hk 3
  rw [e0, e1, e2, e3]
  rfl

theorem pay5_at (x0 x1 x2 x3 a : FVec Ideal S4x1024 .f32) (v : FVec Ideal S5x4x1024 .f32) {p q : Fin 4 → EReal}
    (hp : ∀ r : Fin 4, @Eq EReal (v (ix3 r.castSucc b (pivot t))) (p r)) (h0 : @Eq EReal (x0 (ix2 b l)) (q 0)) (h1 : @Eq EReal (x1 (ix2 b l)) (q 1))
    (h2 : @Eq EReal (x2 (ix2 b l)) (q 2)) (h3 : @Eq EReal (x3 (ix2 b l)) (q 3)) (ha : @Eq EReal (a (ix2 b l)) (area q)) :
    @Eq EReal (k1_pay5 x0 x1 x2 x3 a lanes v 0#32 1#32 t (ix2 b l)) (iou p q) := by
  have w0 := (pay2_at t b v 0).trans (hp 0)
  have w1 := (pay2_at t b v 1).trans (hp 1)
  have w2 := (pay2_at t b v 2).trans (hp 2)
  have w3 := (pay2_at t b v 3).trans (hp 3)
  unfold k1_pay5
  generalize k1_pay2 (F := Ideal) lanes v 0#32 1#32 t = w at w0 w1 w2 w3 ⊢
  pointwise
  rw [w0, w1, w2, w3, h0, h1, h2, h3, ha]
  unfold iou inter
  rw [min_comm (q 2), min_comm (q 3), max_comm (q 0), max_comm (q 1), add_comm (area q)]
  rfl

theorem row7 (r : Fin 4) : @Eq EReal (k1_pay7 (coordRow B r) (ix2 b l)) (B (ix3 b r l)) := by pointwise [k1_pay7]; rfl
theorem row8 (r : Fin 4) : @Eq EReal (k1_pay8 (coordRow B r) (ix2 b l)) (B (ix3 b r l)) := by pointwise [k1_pay8]; rfl
theorem row9 (r : Fin 4) : @Eq EReal (k1_pay9 (coordRow B r) (ix2 b l)) (B (ix3 b r l)) := by pointwise [k1_pay9]; rfl
theorem row10 (r : Fin 4) : @Eq EReal (k1_pay10 (coordRow B r) (ix2 b l)) (B (ix3 b r l)) := by pointwise [k1_pay10]; rfl

theorem later_eq : IntOp.cmpi .sgt (BitVec.ofNat 32 l.val) (Scf.iv 0#32 1#32 t) = BitVec.ofBool (decide (t.val < l.val)) := by
  have hl := l.isLt
  have ht := (pivot t).isLt
  have e : ∀ n : ℕ, n < 1024 → (BitVec.ofNat 32 n).toInt = n := fun n hn => by
    rw [BitVec.toInt_eq_toNat_of_lt]
    · rw [BitVec.toNat_ofNat, Nat.mod_eq_of_lt (by omega)]
    · rw [BitVec.toNat_ofNat, Nat.mod_eq_of_lt (by omega)]; omega
  rw [iv_eq]
  show BitVec.ofBool (decide ((BitVec.ofNat 32 t.val).toInt < (BitVec.ofNat 32 l.val).toInt)) = _
  rw [e _ hl, e t.val ht, decide_eq_decide.mpr Int.ofNat_lt]

/-- A truth value as the mask holds it. -/
def mark (q : Bool) : EReal := if q then 1 else 0

theorem mark_nonneg (q : Bool) : 0 ≤ mark q := by cases q <;> simp [mark]
theorem mark_pos (q : Bool) : decide (0 < mark q) = q := by cases q <;> simp [mark]

theorem pay14_at (m : FVec Ideal S4x1024 .f32) (si ki : FVec Ideal S4x1 .f32) (u : FVec Ideal S4x1024 .f32) {x y z : EReal} {q r : Bool}
    (hu : @Eq EReal (u (ix2 b l)) x) (hsi : @Eq EReal (si (ix2 b 0)) y) (hs : @Eq EReal (S (ix2 b l)) z)
    (hm : @Eq EReal (m (ix2 b l)) (mark q)) (hk : @Eq EReal (ki (ix2 b 0)) (mark r)) :
    @Eq EReal (k1_pay14 S m (Scf.iv 0#32 1#32 t) si ki u (Scalar.ofBits .f32 0x3F000000#32) (ix2 b l))
      (mark (q && !(decide (lit 1056964608#32 < x) && decide (0 < y - z) && decide (t.val < l.val) && r))) := by
  pointwise [k1_pay14, k1_pay6]
  rw [hu, hsi, hs, hm, hk, later_eq, mark_pos]
  generalize decide (Ideal.ofBits FTy.f32 1056964608#32 < x) = a1
  generalize decide (0 < y - z) = a2
  generalize decide (t.val < l.val) = a3
  cases a1 <;> cases a2 <;> cases a3 <;> cases q <;> cases r <;> simp [mark, Scalar.select, IntOp.andi]

theorem pay15_at (m : FVec Ideal S4x1024 .f32) {q : Bool} {z : EReal} (hm : @Eq EReal (m (ix2 b l)) (mark q)) (hs : @Eq EReal (S (ix2 b l)) z) :
    @Eq EReal (k1_pay15 S m (ix2 b l)) (if q && decide (lit 3435052064#32 < z) then z else lit 4286578688#32) := by
  pointwise [k1_pay15, k1_pay6]
  rw [hm, hs, mark_pos]
  by_cases h : lit 3435052064#32 < z <;> cases q <;> simp [h, Scalar.select, IntOp.andi]

/-- Where the score is too low the written score is −∞, whatever the mask. -/
theorem pay15_low (m : FVec Ideal S4x1024 .f32) {z : EReal} (hs : @Eq EReal (S (ix2 b l)) z) (hz : ¬ lit 3435052064#32 < z) :
    @Eq EReal (k1_pay15 S m (ix2 b l)) (lit 4286578688#32) := by
  pointwise [k1_pay15, k1_pay6]
  rw [hs, decide_eq_false hz]
  generalize decide (0 < m (ix2 b l)) = q
  cases q <;> simp [Scalar.select, IntOp.andi]

theorem pay13_at : @Eq EReal (k1_pay13 (F := Ideal) (ix2 b l)) 1 := by
  pointwise [k1_pay13]

/-- What holds at first and is kept by every step holds at the end of a fold. -/
theorem foldl_keeps {α : Type} : ∀ {n : ℕ} (g : α → Fin n → α) (a : α) (P : ℕ → α → Prop), P 0 a →
    (∀ (k : Fin n) (x : α), P k.val x → P (k.val + 1) (g x k)) → P n ((List.finRange n).foldl g a)
  | 0, _, _, _, h, _ => by rw [List.finRange_zero]; exact h
  | n + 1, g, a, P, h, hs => by
    rw [List.finRange_succ_last, List.foldl_append, List.foldl_map]
    exact hs (Fin.last n) _ (foldl_keeps (fun x k => g x k.castSucc) a P h fun k x hx => hs k.castSucc x hx)

/-- The lane of a box. -/
abbrev laneOf (j : Fin 1000) : Fin 1024 := Fin.castLE (by decide) j

section
variable {p : Fin 1000 → Fin 4 → EReal} {s : Fin 1000 → EReal}
  (hB : ∀ j r, @Eq EReal (B (ix3 b r (laneOf j))) (p j r)) (hS : ∀ j, @Eq EReal (S (ix2 b (laneOf j))) (s j))
include hB hS

/-- One trip on the mask. -/
theorem step_at (m : FVec Ideal S4x1024 .f32) (hm : ∀ j, @Eq EReal (m (ix2 b (laneOf j))) (mark (keep p s t.val j))) (j : Fin 1000) :
    @Eq EReal (nmsStep S B t m (ix2 b (laneOf j))) (mark (keep p s (t.val + 1) j)) := by
  have ht : t.val < 1000 := lt_of_lt_of_eq t.isLt trips_eq
  have hp : pivot t = laneOf ⟨t.val, ht⟩ := rfl
  have hk : @Eq EReal (m (ix2 b (pivot t))) (mark (keep p s t.val ⟨t.val, ht⟩)) := hm ⟨t.val, ht⟩
  have hq : ∀ r : Fin 4, @Eq EReal (vals S B (ix3 r.castSucc b (pivot t))) (p ⟨t.val, ht⟩ r) := fun r => by
    refine Eq.trans ?_ (hB ⟨t.val, ht⟩ r)
    fin_cases r
    · exact vals_0 b _ S B
    · exact vals_1 b _ S B
    · exact vals_2 b _ S B
    · exact vals_3 b _ S B
  have hu := pay5_at t b (laneOf j) (k1_pay7 (coordRow B 0)) (k1_pay8 (coordRow B 1)) (k1_pay9 (coordRow B 2)) (k1_pay10 (coordRow B 3))
    (k1_pay11 (coordRow B 0) (coordRow B 1) (coordRow B 2) (coordRow B 3)) (vals S B) (p := p ⟨t.val, ht⟩) (q := p j) hq
    ((row7 b _ B 0).trans (hB j 0)) ((row8 b _ B 1).trans (hB j 1)) ((row9 b _ B 2).trans (hB j 2)) ((row10 b _ B 3).trans (hB j 3))
    (area_at b _ B (p j) (hB j))
  have hsi := (pay3_at t b (vals S B)).trans ((vals_4 b _ S B).trans (hS ⟨t.val, ht⟩))
  have hki := (pay4_at t b m (hk ▸ mark_nonneg _)).trans hk
  refine (pay14_at t b (laneOf j) S m _ _ _ hu hsi (hS j) (hm j) hki).trans ?_
  rw [keep, dif_pos ht]
  rfl

/-- The mask after every trip. -/
theorem mask_at (j : Fin 1000) : @Eq EReal (nmsKeep S B (ix2 b (laneOf j))) (mark (keep p s 1000 j)) := by
  unfold nmsKeep
  rw [Scf.fold_eq]
  have h := foldl_keeps (fun (a : FVec Ideal S4x1024 .f32) k => nmsStep S B k a) (k1_pay13 (F := Ideal))
    (fun t a => ∀ j, @Eq EReal (a (ix2 b (laneOf j))) (mark (keep p s t j))) (fun j => pay13_at b _)
    (fun k a ha => step_at k b S B hB hS a ha)
  have h' := h j
  exact h'.trans (congrArg (fun n => mark (keep p s n j)) trips_eq)

/-- The scores written on the boxes' lanes. -/
theorem out_at (j : Fin 1000) : @Eq EReal (nmsOut S B (ix2 b (laneOf j))) (final s (keep p s 1000) j) :=
  pay15_at b _ S _ (mask_at b S B hB hS j) (hS j)
end

/-- And past them, where the score is too low. -/
theorem out_low {z : EReal} (hs : @Eq EReal (S (ix2 b l)) z) (hz : ¬ lit 3435052064#32 < z) : @Eq EReal (nmsOut S B (ix2 b l)) ⊥ :=
  (pay15_low b l S _ hs hz).trans lit_bot

end Cert.Own.KernelIdeal

end
-- ==== Proof.KHost2.lean ====
/-
  What the padding before the second call and the host operations after it hold, at an index, from the buffers before each
  stretch.
-/
module

public import proofs.«01_k».proof.Proof.Gen.KernelIdeal.Regions
public import proofs.«01_k».proof.Proof.KHost
public import proofs.«01_k».proof.Proof.Nms
public import Idealize.ShloMosaic.Lib.Pipeline.Value
public import Idealize.ShloMosaic.Lib.StableHlo.ReadAt
public import Idealize.ShloMosaic.Lib.Pointwise
public import Idealize.ShloMosaic.Lib.Pointwise.Reduce
public import Idealize.ShloMosaic.PureOps.Ideal

@[expose] public section

noncomputable section

namespace Cert.Own.KernelIdeal

open Cert.KernelIdeal Cert.KernelIdeal.Gen
open Idealize.ShloMosaic Idealize.ShloMosaic.TcCoe Idealize.ShloMosaic.StableHlo
open Cert.Own.Spec

variable (V : Valuation τ sig (Elt Ideal)) (b : Fin 4)

/-! The padding. -/

theorem pad_low {α : Type} (x : S4x1000.Idx → α) (y : S4x24.Idx → α) (j : Fin 1000) :
    concatenate S4x1024 1 [⟨S4x1000, x⟩, ⟨S4x24, y⟩] concatenates_S4x1000_S4x24_S4x1024_d1 (ix2 b (laneOf j)) = x (ix2 b j) :=
  concatenate_pair_apply_left (t := S4x1024) (s₁ := S4x1000) (s₂ := S4x24) 1 x y _ (ix2 b (laneOf j)) rfl (ix2 b j) fun a => by fin_cases a <;> rfl

theorem pad_high {α : Type} (x : S4x1000.Idx → α) (y : S4x24.Idx → α) (l : Fin 24) :
    concatenate S4x1024 1 [⟨S4x1000, x⟩, ⟨S4x24, y⟩] concatenates_S4x1000_S4x24_S4x1024_d1 (ix2 b ⟨1000 + l.val, by omega⟩) = y (ix2 b l) :=
  concatenate_pair_apply_right (t := S4x1024) (s₁ := S4x1000) (s₂ := S4x24) 1 x y _ (ix2 b ⟨1000 + l.val, by omega⟩) rfl rfl (ix2 b l)
    (fun a ha => by
      match a, ha with
      | ⟨0, _⟩, _ => rfl
      | ⟨1, _⟩, ha => exact absurd rfl ha)
    (Nat.add_comm _ _)

theorem pad_cols {α : Type} (x : S4x4x1000.Idx → α) (y : S4x4x24.Idx → α) (c : Fin 4) (j : Fin 1000) :
    concatenate S4x4x1024 2 [⟨S4x4x1000, x⟩, ⟨S4x4x24, y⟩] concatenates_S4x4x1000_S4x4x24_S4x4x1024_d2 (ix3 b c (laneOf j)) = x (ix3 b c j) :=
  concatenate_pair_apply_left (t := S4x4x1024) (s₁ := S4x4x1000) (s₂ := S4x4x24) 2 x y _ (ix3 b c (laneOf j)) rfl (ix3 b c j) fun a => by fin_cases a <;> rfl

theorem H1_3_v10 (j : Fin 1000) : @Eq EReal (H1_3 V (Proc.devRef .tc main_v10) (ix2 b (laneOf j))) (V (Proc.devRef .tc main_values) (ix2 b j)) := by
  unfold H1_3
  after_reads_simp
  exact pad_low b _ _ j

theorem H1_3_v10_high (l : Fin 24) : @Eq EReal (H1_3 V (Proc.devRef .tc main_v10) (ix2 b ⟨1000 + l.val, by omega⟩)) (lit 3463342888#32) := by
  unfold H1_3
  after_reads_simp
  exact pad_high b _ _ l

theorem H1_3_v12 (c : Fin 4) (j : Fin 1000) : @Eq EReal (H1_3 V (Proc.devRef .tc main_v12) (ix3 b c (laneOf j))) (V (Proc.devRef .tc main_v7) (ix3 b c j)) := by
  unfold H1_3
  after_reads_simp
  exact pad_cols b _ _ c j

theorem H1_3_v14 (j : Fin 1000) : @Eq (BitVec 32) (H1_3 V (Proc.devRef .tc main_v14) (ix2 b (laneOf j))) (V (Proc.devRef .tc main_v8) (ix2 b j)) := by
  unfold H1_3
  after_reads_simp
  exact pad_low b _ _ j

/-! After the second call. -/

/-- A score's entry among the lanes. -/
def laneAt (x : Fin 1024 → EReal) (k : Fin 100) : Fin 1024 := top x (Fin.castLE (by decide) k)

/-- The scores the second call leaves. -/
def left : Fin 1024 → EReal := fun l => V (Proc.devRef .tc main_v15) (ix2 b l)

theorem H2_values (k : Fin 100) : @Eq EReal (H2 V (Proc.devRef .tc main_values_1) (ix2 b k)) (left V b (laneAt (left V b) k)) := by
  unfold H2
  after_reads_simp
  exact topk_vals (by decide) _ _ b k

theorem H2_indices (k : Fin 100) : @Eq (BitVec 32) (H2 V (Proc.devRef .tc main_indices_2) (ix2 b k)) (BitVec.ofNat 32 (laneAt (left V b) k).val) := by
  unfold H2
  after_reads_simp
  exact topk_places (by decide) _ _ b k

theorem H2_v16 (k : Fin 100) : @Eq (BitVec 32) (H2 V (Proc.devRef .tc main_v16) (ix3 b 0 k)) (BitVec.ofNat 32 (laneAt (left V b) k).val) := by
  refine Eq.trans ?_ (H2_indices V b k)
  unfold H2
  after_reads_simp
  clean_types
  pointwise

theorem H2_1_v17 (k : Fin 100) (i : Fin 1024) (hi : @Eq (BitVec 32) (V (Proc.devRef .tc main_v16) (ix3 b 0 k)) (BitVec.ofNat 32 i.val)) (c : Fin 4) :
    @Eq EReal (H2_1 V (Proc.devRef .tc main_v17) (ix3 b c k)) (V (Proc.devRef .tc main_v12) (ix3 b c i)) := by
  unfold H2_1
  after_reads_simp
  simp -implicitDefEqProofs only [StableHlo.TRef.toBuf, StableHlo.TRef.ofBuf, cast_cast, cast_eq]
  clean_types
  refine (select_on ?_).trans ?_
  · pointwise
    refine fold_one _ ?_
    erw [hi, place_wrap (by decide) i]
    exact in_range (by decide) i _ (by decide)
  · refine gather_cols b k (by decide) _ i ?_ _ _ c
    pointwise
    erw [hi]
    exact place_wrap (by decide) _ _

theorem H2_2_v18 (k : Fin 100) (c : Fin 4) : @Eq EReal (H2_2 V (Proc.devRef .tc main_v18) (ix3 b k c)) (V (Proc.devRef .tc main_v17) (ix3 b c k)) := by
  unfold H2_2
  after_reads_simp
  pointwise

theorem H2_3_v19 (k : Fin 100) (i : Fin 1024) (hi : @Eq (BitVec 32) (V (Proc.devRef .tc main_indices_2) (ix2 b k)) (BitVec.ofNat 32 i.val)) :
    @Eq (BitVec 32) (H2_3 V (Proc.devRef .tc main_v19) (ix2 b k)) (V (Proc.devRef .tc main_v14) (ix2 b i)) := by
  unfold H2_3
  after_reads_simp
  simp -implicitDefEqProofs only [StableHlo.TRef.toBuf, StableHlo.TRef.ofBuf, cast_cast, cast_eq]
  clean_types
  refine (select_on ?_).trans ?_
  · pointwise
    refine fold_one _ ?_
    erw [hi, place_wrap (by decide) i]
    exact in_range (by decide) i _ (by decide)
  · refine gather_entry b k (by decide) _ i ?_ _ _
    pointwise
    erw [hi]
    exact place_wrap (by decide) _ _

theorem H2_4_v22 (k : Fin 100) {x : EReal} (hx : @Eq EReal (V (Proc.devRef .tc main_values_1) (ix2 b k)) x) :
    @Eq (BitVec 1) (H2_4 V (Proc.devRef .tc main_v22) (ix2 b k)) (finite x) := by
  unfold H2_4
  after_reads_simp
  clean_types
  pointwise
  rw [hx]
  rfl

theorem H2_4_v23 (k : Fin 100) {x : EReal} (hx : @Eq EReal (V (Proc.devRef .tc main_values_1) (ix2 b k)) x) :
    @Eq (BitVec 1) (H2_4 V (Proc.devRef .tc main_v23) (ix3 b k 0)) (finite x) := by
  unfold H2_4
  after_reads_simp
  clean_types
  pointwise
  rw [hx]
  rfl

theorem H2_4_cst : @Eq EReal (H2_4 V (Proc.devRef .tc main_cst_4) ix0) 0 := by
  unfold H2_4
  after_reads_simp
  pointwise

theorem H2_5_v24 (k : Fin 100) (c : Fin 4) {f : BitVec 1} (hf : @Eq (BitVec 1) (V (Proc.devRef .tc main_v23) (ix3 b k 0)) f)
    {x : EReal} (hx : @Eq EReal (V (Proc.devRef .tc main_v18) (ix3 b k c)) x) (h0 : @Eq EReal (V (Proc.devRef .tc main_cst_4) ix0) 0) :
    @Eq EReal (H2_5 V (Proc.devRef .tc main_v24) (ix3 b k c)) (Scalar.select f x 0) := by
  unfold H2_5
  after_reads_simp
  try dsimp only [id]
  simp -implicitDefEqProofs only [StableHlo.TRef.toBuf, StableHlo.TRef.ofBuf, cast_cast, cast_eq]
  clean_types
  pointwise
  rw [hf, hx, h0]

theorem H2_6_cst : @Eq EReal (H2_6 V (Proc.devRef .tc main_cst_5) ix0) 0 := by
  unfold H2_6
  after_reads_simp
  pointwise

theorem H2_7_v25 (k : Fin 100) {f : BitVec 1} (hf : @Eq (BitVec 1) (V (Proc.devRef .tc main_v22) (ix2 b k)) f)
    {x : EReal} (hx : @Eq EReal (V (Proc.devRef .tc main_values_1) (ix2 b k)) x) (h0 : @Eq EReal (V (Proc.devRef .tc main_cst_5) ix0) 0) :
    @Eq EReal (H2_7 V (Proc.devRef .tc main_v25) (ix2 b k)) (Scalar.select f x 0) := by
  unfold H2_7
  after_reads_simp
  try dsimp only [id]
  simp -implicitDefEqProofs only [StableHlo.TRef.toBuf, StableHlo.TRef.ofBuf, cast_cast, cast_eq]
  clean_types
  pointwise
  rw [hf, hx, h0]

theorem H2_8_c : @Eq (BitVec 32) (H2_8 V (Proc.devRef .tc main_c_6) ix0) 0#32 := by
  unfold H2_8
  after_reads_simp
  rfl

theorem H2_9_v26 (k : Fin 100) {f : BitVec 1} (hf : @Eq (BitVec 1) (V (Proc.devRef .tc main_v22) (ix2 b k)) f)
    {x : BitVec 32} (hx : @Eq (BitVec 32) (V (Proc.devRef .tc main_v19) (ix2 b k)) x) (h0 : @Eq (BitVec 32) (V (Proc.devRef .tc main_c_6) ix0) 0#32) :
    @Eq (BitVec 32) (H2_9 V (Proc.devRef .tc main_v26) (ix2 b k)) (Scalar.select f x 0#32) := by
  unfold H2_9
  after_reads_simp
  try dsimp only [id]
  simp -implicitDefEqProofs only [StableHlo.TRef.toBuf, StableHlo.TRef.ofBuf, cast_cast, cast_eq]
  clean_types
  pointwise
  rw [hf, hx, h0]

/-! The order of the lanes. -/

theorem lit_1e8 : lit 3435052064#32 = ((-100000000 : ℝ) : EReal) := by
  unfold lit Ideal.ofBits Ideal.ieee
  simp only [show (BitVec.extractLsb' 23 8 3435052064#32).toNat = 153 from rfl, show (BitVec.extractLsb' 0 23 3435052064#32).toNat = 4111392 from rfl,
    show (BitVec.extractLsb' (8 + 23) 1 3435052064#32 == 1#1) = true from rfl]
  rw [if_neg (by decide), if_neg (by decide)]
  refine congrArg _ ?_
  norm_num

theorem lit_1e9 : lit 3463342888#32 = ((-1000000000 : ℝ) : EReal) := by
  unfold lit Ideal.ofBits Ideal.ieee
  simp only [show (BitVec.extractLsb' 23 8 3463342888#32).toNat = 156 from rfl, show (BitVec.extractLsb' 0 23 3463342888#32).toNat = 7236392 from rfl,
    show (BitVec.extractLsb' (8 + 23) 1 3463342888#32 == 1#1) = true from rfl]
  rw [if_neg (by decide), if_neg (by decide)]
  refine congrArg _ ?_
  norm_num

/-- −10⁹ is not above −10⁸. -/
theorem pad_not_above : ¬ lit 3435052064#32 < lit 3463342888#32 := by
  rw [lit_1e8, lit_1e9, EReal.coe_lt_coe_iff]
  norm_num

/-- When the lanes past the boxes hold −∞, the best hundred lanes are the boxes' best hundred. -/
theorem laneAt_eq (x : Fin 1000 → EReal) (y : Fin 1024 → EReal) (hy : ∀ j, y (laneOf j) = x j) (hp : ∀ l : Fin 24, y ⟨1000 + l.val, by omega⟩ = ⊥)
    (k : Fin 100) : laneAt y k = laneOf (spot x k) := by
  refine Eq.trans ?_ (top_pad (by decide : 1000 ≤ 1024) x y hy (fun i hi => ?_) (Fin.castLE (by decide) k))
  · rfl
  · have := hp ⟨i.val - 1000, by omega⟩
    rw [← this]
    congr 1
    exact Fin.ext (by simp; omega)

end Cert.Own.KernelIdeal

end
-- ==== Proof.KAll.lean ====
/-
  The kernel's three results at an index, from its arguments.
-/
module

public import proofs.«01_k».proof.Proof.Gen.KernelIdeal.Regions
public import proofs.«01_k».proof.Proof.Launch
public import proofs.«01_k».proof.Proof.DecVal
public import proofs.«01_k».proof.Proof.KHost
public import proofs.«01_k».proof.Proof.KHost2
public import Idealize.ShloMosaic.Lib.StableHlo.ReadAt
public import Idealize.ShloMosaic.Lib.Pointwise
public import Idealize.ShloMosaic.Lib.Pointwise.Reduce
public import Idealize.ShloMosaic.PureOps.Ideal

@[expose] public section

noncomputable section

namespace Cert.Own.KernelIdeal

open Cert.KernelIdeal Cert.KernelIdeal.Gen
open Idealize.ShloMosaic Idealize.ShloMosaic.TcCoe Idealize.ShloMosaic.StableHlo
open Idealize.ShloMosaic.Pipeline
open Cert.Own.Spec

variable (m : (ℓ : Loc nD τ sig) → Buf (Elt Ideal) ℓ) (c : Dev nD) (b : Fin 4)

/-! The arguments by index. -/

def anchor (n : Fin 20000) (k : Fin 4) : EReal := V0 m c (Proc.devRef .tc main_arg0) (ix2 n k)
def score (n : Fin 20000) (k : Fin 80) : EReal := V0 m c (Proc.devRef .tc main_arg1) (ix3 b n k)
def delta (n : Fin 20000) (k : Fin 4) : EReal := V0 m c (Proc.devRef .tc main_arg2) (ix3 b n k)

/-! The buffers along the program. -/

/-- Before the first call, -/
def Z1 : Valuation τ sig (Elt Ideal) := H0 (V0 m c)
/-- after it, -/
def Z2 : Valuation τ sig (Elt Ideal) := afterRegion (dat0 (Z1 m c) c) (Z1 m c)
/-- with the best thousand found, -/
def Z3 : Valuation τ sig (Elt Ideal) := H1 (Z2 m c)
/-- with their boxes and classes, -/
def Z5 : Valuation τ sig (Elt Ideal) := H1_2 (H1_1 (Z3 m c))
/-- before the second call, -/
def Z6 : Valuation τ sig (Elt Ideal) := H1_3 (Z5 m c)
/-- after it, -/
def Z7 : Valuation τ sig (Elt Ideal) := afterRegion (dat1 (Z6 m c) c) (Z6 m c)
/-- with the best hundred found, -/
def Z8 : Valuation τ sig (Elt Ideal) := H2 (Z7 m c)
/-- with their boxes and classes, -/
def Z11 : Valuation τ sig (Elt Ideal) := H2_3 (H2_2 (H2_1 (Z8 m c)))
/-- and at the end. -/
def Z17 : Valuation τ sig (Elt Ideal) := H2_9 (H2_8 (H2_7 (H2_6 (H2_5 (H2_4 (Z11 m c))))))

theorem V6_Z : V6 m (outs m) c = Z6 m c := by
  unfold Z6 Z5 Z3 Z2 Z1 H1_3 H1_2 H1_1 H1 H0
  rw [← V2_eq]

theorem V17_Z : V17 m (outs m) c = Z17 m c := by
  unfold Z17 Z11 Z8 Z7 H2_9 H2_8 H2_7 H2_6 H2_5 H2_4 H2_3 H2_2 H2_1 H2
  rw [← V6_Z, ← V7_eq]

/-! The first call. -/

theorem Z1_args (r : Ref sig .tc) (h : r ∉ hostOps0_W) : Z1 m c (Proc.devRef .tc r) = V0 m c (Proc.devRef .tc r) := H0_keeps _ h

theorem Z2_mask (n : Fin 20000) : @Eq EReal (Z2 m c (Proc.devRef .tc main_v3_0) (ix3 b 0 n)) (row (anchor m c) (delta m c b) (score m c b) n) := by
  refine (congrFun ((afterRegion_arr (dat0 (Z1 m c) c) (Z1 m c) launch0.win.arr_inj (3 : Fin 6)).trans (mask_end (Z1 m c) c)) (ix3 b 0 n)).trans ?_
  refine decoded_mask _ _ _ b n (anchor m c n) (delta m c b n) (score m c b n) (fun k => ?_) (fun k => ?_) (fun k => ?_)
  · exact H0_v1 (V0 m c) k n
  · exact H0_v2 (V0 m c) b k n
  · exact congrFun (Z1_args m c main_arg1 (by decide)) (ix3 b n k)

theorem Z2_cls (n : Fin 20000) : @Eq (BitVec 32) (Z2 m c (Proc.devRef .tc main_v3_1) (ix3 b 0 n)) (cls (score m c b n)) := by
  refine (congrFun ((afterRegion_arr (dat0 (Z1 m c) c) (Z1 m c) launch0.win.arr_inj (4 : Fin 6)).trans (cls_end (Z1 m c) c)) (ix3 b 0 n)).trans ?_
  refine decoded_cls _ b n (score m c b n) (fun k => ?_)
  exact congrFun (Z1_args m c main_arg1 (by decide)) (ix3 b n k)

theorem Z2_box (n : Fin 20000) (k : Fin 4) : @Eq EReal (Z2 m c (Proc.devRef .tc main_v3_2) (ix3 b k n)) (box (anchor m c n) (delta m c b n) k) := by
  refine (congrFun ((afterRegion_arr (dat0 (Z1 m c) c) (Z1 m c) launch0.win.arr_inj (5 : Fin 6)).trans (box_end (Z1 m c) c)) (ix3 b k n)).trans ?_
  refine decoded_box _ _ b n (anchor m c n) (delta m c b n) (fun k => ?_) (fun k => ?_) k
  · exact H0_v1 (V0 m c) k n
  · exact H0_v2 (V0 m c) b k n

/-! Between the calls. -/

theorem scores_Z2 : scores (Z2 m c) b = row (anchor m c) (delta m c b) (score m c b) := funext fun n => Z2_mask m c b n

theorem Z3_indices (k : Fin 1000) : @Eq (BitVec 32) (Z3 m c (Proc.devRef .tc main_indices) (ix2 b k))
    (BitVec.ofNat 32 (pick (anchor m c) (delta m c b) (score m c b) k).val) := by
  refine (H1_indices (Z2 m c) b k).trans ?_
  rw [scores_Z2]
  rfl

theorem Z3_v6 (k : Fin 1000) : @Eq (BitVec 32) (Z3 m c (Proc.devRef .tc main_v6) (ix3 b 0 k))
    (BitVec.ofNat 32 (pick (anchor m c) (delta m c b) (score m c b) k).val) := by
  refine (H1_v6 (Z2 m c) b k).trans ?_
  rw [scores_Z2]
  rfl

theorem Z5_values (k : Fin 1000) : @Eq EReal (Z5 m c (Proc.devRef .tc main_values) (ix2 b k)) (pickScore (anchor m c) (delta m c b) (score m c b) k) := by
  unfold Z5
  rw [H1_2_keeps _ (by decide), H1_1_keeps _ (by decide)]
  refine (H1_values (Z2 m c) b k).trans ?_
  rw [scores_Z2]
  rfl

theorem Z5_v7 (k : Fin 1000) (i : Fin 4) : @Eq EReal (Z5 m c (Proc.devRef .tc main_v7) (ix3 b i k)) (pickBox (anchor m c) (delta m c b) (score m c b) k i) := by
  unfold Z5
  rw [H1_2_keeps _ (by decide)]
  refine (H1_1_v7 (Z3 m c) b k _ (Z3_v6 m c b k) i).trans ?_
  unfold Z3
  rw [H1_keeps _ (by decide)]
  exact Z2_box m c b _ i

theorem Z5_v8 (k : Fin 1000) : @Eq (BitVec 32) (Z5 m c (Proc.devRef .tc main_v8) (ix2 b k))
    (cls (score m c b (pick (anchor m c) (delta m c b) (score m c b) k))) := by
  have hi := Z3_indices m c b k
  rw [← H1_1_keeps (Z3 m c) (by decide)] at hi
  unfold Z5
  refine (H1_2_v8 _ b k _ hi).trans ?_
  rw [H1_1_keeps _ (by decide)]
  exact (H1_v5 (Z2 m c) b _).trans (Z2_cls m c b _)

/-! The second call. -/

theorem Z7_v15 : @Eq (FVec Ideal S4x1024 .f32) (Z7 m c (Proc.devRef .tc main_v15))
    (nmsOut (Z6 m c (Proc.devRef .tc main_v10)) (Z6 m c (Proc.devRef .tc main_v12))) :=
  (afterRegion_arr (dat1 (Z6 m c) c) (Z6 m c) launch1.win.arr_inj (2 : Fin 3)).trans (nms_end (Z6 m c) c)

theorem Z7_keeps (r : Ref sig .tc) (h : r ≠ main_v15) : Z7 m c (Proc.devRef .tc r) = Z6 m c (Proc.devRef .tc r) :=
  afterRegion_keeps (dat1 (Z6 m c) c) (Z6 m c) launch1.win.arr_inj (fun _ => rfl) r fun w hw => by
    match w, hw with
    | ⟨0, _⟩, _ => rfl
    | ⟨1, _⟩, _ => rfl
    | ⟨2, _⟩, e => exact absurd e.symm h

theorem left_low (j : Fin 1000) : left (Z7 m c) b (laneOf j) = survive (anchor m c) (delta m c b) (score m c b) j := by
  unfold left
  rw [Z7_v15]
  refine out_at b _ _ (p := pickBox (anchor m c) (delta m c b) (score m c b)) (s := pickScore (anchor m c) (delta m c b) (score m c b)) (fun j r => ?_) (fun j => ?_) j
  · exact (H1_3_v12 (Z5 m c) b r j).trans (Z5_v7 m c b j r)
  · exact (H1_3_v10 (Z5 m c) b j).trans (Z5_values m c b j)

theorem left_high (l : Fin 24) : left (Z7 m c) b ⟨1000 + l.val, by omega⟩ = ⊥ := by
  unfold left
  rw [Z7_v15]
  exact out_low b _ _ _ (H1_3_v10_high (Z5 m c) b l) pad_not_above

theorem laneAt_left (k : Fin 100) : laneAt (left (Z7 m c) b) k = laneOf (last (anchor m c) (delta m c b) (score m c b) k) :=
  laneAt_eq _ _ (left_low m c b) (left_high m c b) k

/-! After it. -/

theorem Z8_values (k : Fin 100) : @Eq EReal (Z8 m c (Proc.devRef .tc main_values_1) (ix2 b k))
    (survive (anchor m c) (delta m c b) (score m c b) (last (anchor m c) (delta m c b) (score m c b) k)) := by
  refine (H2_values (Z7 m c) b k).trans ?_
  rw [laneAt_left, left_low]

theorem Z8_indices (k : Fin 100) : @Eq (BitVec 32) (Z8 m c (Proc.devRef .tc main_indices_2) (ix2 b k))
    (BitVec.ofNat 32 (laneOf (last (anchor m c) (delta m c b) (score m c b) k)).val) := by
  refine (H2_indices (Z7 m c) b k).trans ?_
  rw [laneAt_left]

theorem Z8_v16 (k : Fin 100) : @Eq (BitVec 32) (Z8 m c (Proc.devRef .tc main_v16) (ix3 b 0 k))
    (BitVec.ofNat 32 (laneOf (last (anchor m c) (delta m c b) (score m c b) k)).val) := by
  refine (H2_v16 (Z7 m c) b k).trans ?_
  rw [laneAt_left]

theorem Z11_values (k : Fin 100) : @Eq EReal (Z11 m c (Proc.devRef .tc main_values_1) (ix2 b k))
    (survive (anchor m c) (delta m c b) (score m c b) (last (anchor m c) (delta m c b) (score m c b) k)) := by
  unfold Z11
  rw [H2_3_keeps _ (by decide), H2_2_keeps _ (by decide), H2_1_keeps _ (by decide)]
  exact Z8_values m c b k

theorem Z11_v18 (k : Fin 100) (i : Fin 4) : @Eq EReal (Z11 m c (Proc.devRef .tc main_v18) (ix3 b k i))
    (pickBox (anchor m c) (delta m c b) (score m c b) (last (anchor m c) (delta m c b) (score m c b) k) i) := by
  unfold Z11
  rw [H2_3_keeps _ (by decide)]
  refine (H2_2_v18 _ b k i).trans ((H2_1_v17 (Z8 m c) b k _ (Z8_v16 m c b k) i).trans ?_)
  unfold Z8
  rw [H2_keeps _ (by decide), Z7_keeps _ _ _ (by decide)]
  exact (H1_3_v12 (Z5 m c) b i _).trans (Z5_v7 m c b _ i)

theorem Z11_v19 (k : Fin 100) : @Eq (BitVec 32) (Z11 m c (Proc.devRef .tc main_v19) (ix2 b k))
    (cls (score m c b (pick (anchor m c) (delta m c b) (score m c b) (last (anchor m c) (delta m c b) (score m c b) k)))) := by
  have hi := Z8_indices m c b k
  rw [← H2_1_keeps (Z8 m c) (by decide), ← H2_2_keeps (H2_1 (Z8 m c)) (by decide)] at hi
  unfold Z11
  refine (H2_3_v19 _ b k _ hi).trans ?_
  rw [H2_2_keeps _ (by decide), H2_1_keeps _ (by decide)]
  unfold Z8
  rw [H2_keeps _ (by decide), Z7_keeps _ _ _ (by decide)]
  exact (H1_3_v14 (Z5 m c) b _).trans (Z5_v8 m c b _)

/-! The results. -/

theorem res_v24 (k : Fin 100) (i : Fin 4) : @Eq EReal (V17 m (outs m) c (Proc.devRef .tc main_v24) (ix3 b k i))
    (outBoxes (anchor m c) (delta m c b) (score m c b) k i) := by
  rw [V17_Z]
  unfold Z17
  rw [H2_9_keeps _ (by decide), H2_8_keeps _ (by decide), H2_7_keeps _ (by decide), H2_6_keeps _ (by decide)]
  refine H2_5_v24 _ b k i (H2_4_v23 _ b k (Z11_values m c b k)) ?_ (H2_4_cst _)
  rw [H2_4_keeps _ (by decide)]
  exact Z11_v18 m c b k i

theorem res_v25 (k : Fin 100) : @Eq EReal (V17 m (outs m) c (Proc.devRef .tc main_v25) (ix2 b k))
    (outScores (anchor m c) (delta m c b) (score m c b) k) := by
  rw [V17_Z]
  unfold Z17
  rw [H2_9_keeps _ (by decide), H2_8_keeps _ (by decide)]
  refine H2_7_v25 _ b k ?_ ?_ (H2_6_cst _)
  · rw [H2_6_keeps _ (by decide), H2_5_keeps _ (by decide)]
    exact H2_4_v22 _ b k (Z11_values m c b k)
  · rw [H2_6_keeps _ (by decide), H2_5_keeps _ (by decide), H2_4_keeps _ (by decide)]
    exact Z11_values m c b k

theorem res_v26 (k : Fin 100) : @Eq (BitVec 32) (V17 m (outs m) c (Proc.devRef .tc main_v26) (ix2 b k))
    (outClasses (anchor m c) (delta m c b) (score m c b) k) := by
  rw [V17_Z]
  unfold Z17
  refine H2_9_v26 _ b k ?_ ?_ (H2_8_c _)
  · rw [H2_8_keeps _ (by decide), H2_7_keeps _ (by decide), H2_6_keeps _ (by decide), H2_5_keeps _ (by decide)]
    exact H2_4_v22 _ b k (Z11_values m c b k)
  · rw [H2_8_keeps _ (by decide), H2_7_keeps _ (by decide), H2_6_keeps _ (by decide), H2_5_keeps _ (by decide), H2_4_keeps _ (by decide)]
    exact Z11_v19 m c b k

end Cert.Own.KernelIdeal

end
-- ==== Proof.lean ====
/-
  The proof of `Cert.Claim`: the three programs' runs, and the equality of the kernel's results with the reference's.
-/
module

public import proofs.«01_k».proof.Defs
public import proofs.«01_k».proof.Proof.Launch
public import proofs.«01_k».proof.Proof.KLaunch
public import proofs.«01_k».proof.Proof.RefRun
public import proofs.«01_k».proof.Proof.RefAll
public import proofs.«01_k».proof.Proof.KAll

@[expose] public section

noncomputable section

namespace Cert.Proof

open Idealize.ShloMosaic Idealize.ShloMosaic.StableHlo Idealize.SL.Sem

/-- The kernel runs at the bit-exact instance, its arguments and its counters as at the start. -/
theorem frame_kernel : Cert.quiescent_Kernel := fun m g _ => Cert.Own.Kernel.run (F := Bits) m g

/-- The kernel runs at the ideal instance, its arguments and its counters as at the start. -/
theorem frame_ideal : Cert.quiescent_KernelIdeal := fun m g _ =>
  θ_run_mono (Cert.Own.KernelIdeal.run (F := Ideal) m g) fun _ h => ⟨fun c => (h.1 c).2, h.2⟩

/-- The reference runs at the ideal instance, its arguments as at the start; it declares no counter. -/
theorem frame_reference : Cert.quiescent_ReferenceIdeal := fun m g _ =>
  θ_run_mono (Cert.Own.Reference.run (F := Ideal) m g) fun r h =>
    ⟨fun c => (h c).2, Idealize.ShloMosaic.sem_eq_zero_of_no_sems (by decide) r.2⟩

section
open Cert.Own.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
include h

theorem same_anchor : Cert.Own.Reference.anchor (Cert.Own.Reference.start m' c) = Cert.Own.KernelIdeal.anchor m c :=
  funext fun n => funext fun k => congrFun h.1 (ix2 n k)

theorem same_score (b : Fin 4) : Cert.Own.Reference.score (Cert.Own.Reference.start m' c) b = Cert.Own.KernelIdeal.score m c b :=
  funext fun n => funext fun k => congrFun h.2.1 (ix3 b n k)

theorem same_delta (b : Fin 4) : Cert.Own.Reference.delta (Cert.Own.Reference.start m' c) b = Cert.Own.KernelIdeal.delta m c b :=
  funext fun n => funext fun k => congrFun h.2.2 (ix3 b n k)

/-- The boxes agree, -/
theorem same_boxes : @Eq (FVec Ideal Cert.KernelIdeal.S4x100x4 .f32)
    (afterL Cert.ReferenceIdeal.Value.postI (Cert.Own.Reference.exitV m' c) (Proc.devRef .tc Cert.ReferenceIdeal.main_v177))
    (Cert.KernelIdeal.Gen.V17 m (Cert.Own.KernelIdeal.outs m) c (Proc.devRef .tc Cert.KernelIdeal.main_v24)) := by
  have e : ∀ (b : Fin 4) (k : Fin 100) (i : Fin 4), outBoxes (Cert.Own.Reference.anchor (Cert.Own.Reference.start m' c)) (Cert.Own.Reference.delta (Cert.Own.Reference.start m' c) b)
      (Cert.Own.Reference.score (Cert.Own.Reference.start m' c) b) k i = outBoxes (Cert.Own.KernelIdeal.anchor m c) (Cert.Own.KernelIdeal.delta m c b) (Cert.Own.KernelIdeal.score m c b) k i :=
    fun b k i => by rw [same_anchor m m' c h, same_score m m' c h, same_delta m m' c h]
  funext i
  rw [eq_ix3 i]
  exact ((Cert.Own.Reference.out_v177 m' c (i 0) (i 1) (i 2)).trans (e (i 0) (i 1) (i 2))).trans (Cert.Own.KernelIdeal.res_v24 m c (i 0) (i 1) (i 2)).symm

/-- the scores agree, -/
theorem same_scores : @Eq (FVec Ideal Cert.KernelIdeal.S4x100 .f32)
    (afterL Cert.ReferenceIdeal.Value.postI (Cert.Own.Reference.exitV m' c) (Proc.devRef .tc Cert.ReferenceIdeal.main_v178))
    (Cert.KernelIdeal.Gen.V17 m (Cert.Own.KernelIdeal.outs m) c (Proc.devRef .tc Cert.KernelIdeal.main_v25)) := by
  have e : ∀ (b : Fin 4) (k : Fin 100), outScores (Cert.Own.Reference.anchor (Cert.Own.Reference.start m' c)) (Cert.Own.Reference.delta (Cert.Own.Reference.start m' c) b)
      (Cert.Own.Reference.score (Cert.Own.Reference.start m' c) b) k = outScores (Cert.Own.KernelIdeal.anchor m c) (Cert.Own.KernelIdeal.delta m c b) (Cert.Own.KernelIdeal.score m c b) k :=
    fun b k => by rw [same_anchor m m' c h, same_score m m' c h, same_delta m m' c h]
  funext i
  rw [eq_ix2 i]
  exact ((Cert.Own.Reference.out_v178 m' c (i 0) (i 1)).trans (e (i 0) (i 1))).trans (Cert.Own.KernelIdeal.res_v25 m c (i 0) (i 1)).symm

/-- and the classes agree. -/
theorem same_classes : @Eq (IVec Cert.KernelIdeal.S4x100 32)
    (afterL Cert.ReferenceIdeal.Value.postI (Cert.Own.Reference.exitV m' c) (Proc.devRef .tc Cert.ReferenceIdeal.main_v186))
    (Cert.KernelIdeal.Gen.V17 m (Cert.Own.KernelIdeal.outs m) c (Proc.devRef .tc Cert.KernelIdeal.main_v26)) := by
  have e : ∀ (b : Fin 4) (k : Fin 100), outClasses (Cert.Own.Reference.anchor (Cert.Own.Reference.start m' c)) (Cert.Own.Reference.delta (Cert.Own.Reference.start m' c) b)
      (Cert.Own.Reference.score (Cert.Own.Reference.start m' c) b) k = outClasses (Cert.Own.KernelIdeal.anchor m c) (Cert.Own.KernelIdeal.delta m c b) (Cert.Own.KernelIdeal.score m c b) k :=
    fun b k => by rw [same_anchor m m' c h, same_score m m' c h, same_delta m m' c h]
  funext i
  rw [eq_ix2 i]
  exact ((Cert.Own.Reference.out_v186 m' c (i 0) (i 1)).trans (e (i 0) (i 1))).trans (Cert.Own.KernelIdeal.res_v26 m c (i 0) (i 1)).symm
end

/-- At the ideal instance the kernel and the reference end with equal results. -/
theorem equal_results : Cert.algebraic_KernelIdeal_ReferenceIdeal := fun m g m' g' _ h =>
  ⟨fun c => Cert.KernelIdeal.Gen.V17 m (Cert.Own.KernelIdeal.outs m) c (Proc.devRef .tc Cert.KernelIdeal.main_v24),
    fun c => Cert.KernelIdeal.Gen.V17 m (Cert.Own.KernelIdeal.outs m) c (Proc.devRef .tc Cert.KernelIdeal.main_v25),
    fun c => Cert.KernelIdeal.Gen.V17 m (Cert.Own.KernelIdeal.outs m) c (Proc.devRef .tc Cert.KernelIdeal.main_v26),
    θ_run_mono (Cert.Own.KernelIdeal.run (F := Ideal) m g) fun _ r c =>
      ⟨(r.1 c).1.1, (r.1 c).1.2.1, (r.1 c).1.2.2, (r.1 c).2⟩,
    θ_run_mono (Cert.Own.Reference.run (F := Ideal) m' g') fun _ r c =>
      ⟨(r c).1.1.trans (same_boxes m m' c (h c)), (r c).1.2.1.trans (same_scores m m' c (h c)), (r c).1.2.2.trans (same_classes m m' c (h c)), (r c).2⟩⟩

theorem claim : Cert.Claim := ⟨Cert.Kernel.Gen.facts, Cert.KernelIdeal.Gen.facts, Cert.ReferenceIdeal.Gen.facts,
  frame_kernel, frame_ideal, frame_reference, trivial, equal_results⟩

end Cert.Proof

end
